-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "q_scale" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x8x96 : Shape := ⟨4, ![8, 2048, 8, 96]⟩
abbrev S8x2048x8x64 : Shape := ⟨4, ![8, 2048, 8, 64]⟩
abbrev S_ : Shape := ⟨0, ![]⟩

class Facts : Prop where
  bcast_S_S8x2048x8x96 : S_.BroadcastsInDim S8x2048x8x96 (![] : Fin 0 → Fin S8x2048x8x96.rank)
  reducesTo_S8x2048x8x96_S_d0_1_2_3 : S8x2048x8x96.ReducesTo [0, 1, 2, 3] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_

variable [Facts]

def fn {F : FTy → Type} [FloatOps F] (main_arg0 : FVec F S8x2048x8x96 .bf16) (main_arg1 : FVec F S8x2048x8x96 .bf16) (main_arg2 : FVec F S8x2048x8x64 .bf16) : IVec S_ 1 :=
  let main_v0 : FVec F S8x2048x8x96 .bf16 := Host.absf main_arg0
  let main_cst : FVec F S_ .bf16 := constant S_ .bf16 0x7F80#16
  let main_v1 : FVec F S8x2048x8x96 .bf16 := broadcastInDim S8x2048x8x96 ![] bcast_S_S8x2048x8x96 main_cst
  let main_v2 : IVec S8x2048x8x96 1 := cmpf .olt main_v0 main_v1
  let main_c : IVec S_ 1 := constantI S_ 1 1#1
  let main_v3 : IVec S_ 1 := (fun x v => Host.reduce IntOp.andi x v reducesTo_S8x2048x8x96_S_d0_1_2_3 h_S_) main_v2 main_c
  let main_v4 : FVec F S8x2048x8x96 .bf16 := Host.absf main_arg1
  let main_cst_0 : FVec F S_ .bf16 := constant S_ .bf16 0x7F80#16
  let main_v5 : FVec F S8x2048x8x96 .bf16 := broadcastInDim S8x2048x8x96 ![] bcast_S_S8x2048x8x96 main_cst_0
  let main_v6 : IVec S8x2048x8x96 1 := cmpf .olt main_v4 main_v5
  let main_c_1 : IVec S_ 1 := constantI S_ 1 1#1
  let main_v7 : IVec S_ 1 := (fun x v => Host.reduce IntOp.andi x v reducesTo_S8x2048x8x96_S_d0_1_2_3 h_S_) main_v6 main_c_1
  let main_v8 : IVec S_ 1 := andi main_v3 main_v7
  let main_v9 : FVec F S8x2048x8x64 .bf16 := Host.absf main_arg2
  let main_cst_2 : FVec F S_ .bf16 := constant S_ .bf16 0x7F80#16
  let main_v10 : FVec F S8x2048x8x64 .bf16 := broadcastInDim S8x2048x8x64 ![] bcast_S_S8x2048x8x64 main_cst_2
  let main_v11 : IVec S8x2048x8x64 1 := cmpf .olt main_v9 main_v10
  let main_c_3 : IVec S_ 1 := constantI S_ 1 1#1
  let main_v12 : IVec S_ 1 := (fun x v => Host.reduce IntOp.andi x v reducesTo_S8x2048x8x64_S_d0_1_2_3 h_S_) main_v11 main_c_3
  let main_v13 : IVec S_ 1 := andi main_v8 main_v12
  main_v13
-- ==== Kernel.lean ====
abbrev S8x2048x8x96 : Shape := ⟨4, ![8, 2048, 8, 96]⟩
abbrev S8x2048x8x64 : Shape := ⟨4, ![8, 2048, 8, 64]⟩
abbrev S10 : Shape := ⟨1, ![10]⟩
abbrev S128 : Shape := ⟨1, ![128]⟩
abbrev S_ : Shape := ⟨0, ![]⟩
abbrev S8x2048x8x128 : Shape := ⟨4, ![8, 2048, 8, 128]⟩
abbrev S1x1x1x128 : Shape := ⟨4, ![1, 1, 1, 128]⟩
abbrev S8x2048x1024 : Shape := ⟨3, ![8, 2048, 1024]⟩
abbrev S8x2048x512 : Shape := ⟨3, ![8, 2048, 512]⟩
abbrev S2x512x1024 : Shape := ⟨3, ![2, 512, 1024]⟩
abbrev S1 : Shape := ⟨1, ![1]⟩
abbrev S2x512x512 : Shape := ⟨3, ![2, 512, 512]⟩
abbrev S16x512x128 : Shape := ⟨3, ![16, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩

abbrev nBuf : Space → Nat
  | .hbm => 23
  | .vmem => 10
  | .smem => 2
  | _ => 0

abbrev bufTy : (tb : Table) → Fin (tcTables nBuf tb) → BufTy
  | .hbm, ⟨0, _⟩ => ⟨S8x2048x8x96, .bf16⟩
  | .hbm, ⟨1, _⟩ => ⟨S8x2048x8x96, .bf16⟩
  | .hbm, ⟨2, _⟩ => ⟨S8x2048x8x64, .bf16⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S128, .f32⟩
  | .hbm, ⟨8, _⟩ => ⟨S8x2048x8x64, .f32⟩
  | .hbm, ⟨9, _⟩ => ⟨S_, .f32⟩
  | .hbm, ⟨10, _⟩ => ⟨S8x2048x8x128, .f32⟩
  | .hbm, ⟨11, _⟩ => ⟨S1x1x1x128, .f32⟩
  | .hbm, ⟨12, _⟩ => ⟨S8x2048x8x128, .f32⟩
  | .hbm, ⟨13, _⟩ => ⟨S8x2048x8x128, .f32⟩
  | .hbm, ⟨14, _⟩ => ⟨S8x2048x8x128, .bf16⟩
  | .hbm, ⟨15, _⟩ => ⟨S_, .bf16⟩
  | .hbm, ⟨16, _⟩ => ⟨S8x2048x8x128, .bf16⟩
  | .hbm, ⟨17, _⟩ => ⟨S8x2048x1024, .bf16⟩
  | .hbm, ⟨18, _⟩ => ⟨S_, .bf16⟩
  | .hbm, ⟨19, _⟩ => ⟨S8x2048x8x128, .bf16⟩
  | .hbm, ⟨20, _⟩ => ⟨S8x2048x1024, .bf16⟩
  | .hbm, ⟨21, _⟩ => ⟨S8x2048x1024, .bf16⟩
  | .hbm, ⟨22, _⟩ => ⟨S8x2048x512, .f32⟩
  | .local _ .vmem, ⟨0, _⟩ => ⟨S2x512x1024, .bf16⟩
  | .local _ .vmem, ⟨1, _⟩ => ⟨S2x512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x512, .f32⟩
  | .local _ .vmem, ⟨7, _⟩ => ⟨S2x512x512, .f32⟩
  | .local _ .vmem, ⟨8, _⟩ => ⟨S16x512x128, .f32⟩
  | .local _ .vmem, ⟨9, _⟩ => ⟨S16x512x128, .f32⟩
  | .local _ .smem, ⟨0, _⟩ => ⟨S10, .i32⟩
  | .local _ .smem, ⟨1, _⟩ => ⟨S10, .i32⟩
  | _, _ => ⟨S8x2048x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "q_scale" => some (((3424635 / 33554432) * (Real.log 2)⁻¹ : ℝ) : EReal)
  | _ => none
-- ==== ReferenceIdeal.lean ====
abbrev S8x2048x8x96 : Shape := ⟨4, ![8, 2048, 8, 96]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x512 : Shape := ⟨3, ![8, 2048, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x8x96, .bf16⟩
  | .hbm, ⟨1, _⟩ => ⟨S8x2048x8x96, .bf16⟩
  | .hbm, ⟨2, _⟩ => ⟨S8x2048x8x64, .bf16⟩
  | .hbm, ⟨3, _⟩ => ⟨S8x8x2048x2048, .f32⟩
  | .hbm, ⟨4, _⟩ => ⟨S_, .f32⟩
  | .hbm, ⟨5, _⟩ => ⟨S8x8x2048x2048, .f32⟩
  | .hbm, ⟨6, _⟩ => ⟨S8x8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S8x8x2048x2048, .i1⟩
  | .hbm, ⟨16, _⟩ => ⟨S8x8x2048x2048, .f32⟩
  | .hbm, ⟨17, _⟩ => ⟨S8x8x2048x2048, .f32⟩
  | .hbm, ⟨18, _⟩ => ⟨S_, .f32⟩
  | .hbm, ⟨19, _⟩ => ⟨S8x8x2048, .f32⟩
  | .hbm, ⟨20, _⟩ => ⟨S_, .f32⟩
  | .hbm, ⟨21, _⟩ => ⟨S8x8x2048, .f32⟩
  | .hbm, ⟨22, _⟩ => ⟨S8x8x2048, .f32⟩
  | .hbm, ⟨23, _⟩ => ⟨S8x8x2048x1, .f32⟩
  | .hbm, ⟨24, _⟩ => ⟨S8x8x2048x2048, .f32⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S8x8x2048x1, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .bf16⟩
  | .hbm, ⟨33, _⟩ => ⟨S8x8x64x2048, .f32⟩
  | .hbm, ⟨34, _⟩ => ⟨S8x2048x8x64, .f32⟩
  | .hbm, ⟨35, _⟩ => ⟨S8x2048x512, .f32⟩
  | _, _ => ⟨S8x2048x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S8x256x1024 : Shape := ⟨3, ![8, 256, 1024]⟩
abbrev S1024 : Shape := ⟨1, ![1024]⟩
abbrev S1024x512 : Shape := ⟨2, ![1024, 512]⟩
abbrev S2048x1024 : Shape := ⟨2, ![2048, 1024]⟩
abbrev S1x1024 : Shape := ⟨2, ![1, 1024]⟩
abbrev S8192x128 : Shape := ⟨2, ![8192, 128]⟩
abbrev S512x1024 : Shape := ⟨2, ![512, 1024]⟩
abbrev S2048x128 : Shape := ⟨2, ![2048, 128]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S2048x1024, .f32⟩
  | .hbm, ⟨5, _⟩ => ⟨S1x1024, .f32⟩
  | .hbm, ⟨6, _⟩ => ⟨S1024x512, .bf16⟩
  | .hbm, ⟨7, _⟩ => ⟨S1024x512, .bf16⟩
  | .hbm, ⟨8, _⟩ => ⟨S8192x128, .f32⟩
  | .hbm, ⟨9, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8192x128, .f32⟩
  | .hbm, ⟨22, _⟩ => ⟨S8x256x512, .f32⟩
  | .hbm, ⟨23, _⟩ => ⟨S8192x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S8x2x2816 : Shape := ⟨3, ![8, 2, 2816]⟩
abbrev S_ : Shape := ⟨0, ![]⟩
abbrev S8x2816 : Shape := ⟨2, ![8, 2816]⟩
abbrev S16384x1024 : Shape := ⟨2, ![16384, 1024]⟩
abbrev S1x1024 : Shape := ⟨2, ![1, 1024]⟩
abbrev S1x2816 : Shape := ⟨2, ![1, 2816]⟩
abbrev S512x1024 : Shape := ⟨2, ![512, 1024]⟩
abbrev S1x2x2816 : Shape := ⟨3, ![1, 2, 2816]⟩
abbrev S11x1x520x256 : Shape := ⟨4, ![11, 1, 520, 256]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x2x256 : Shape := ⟨3, ![1, 2, 256]⟩
abbrev S1x1x2x256 : Shape := ⟨4, ![1, 1, 2, 256]⟩
abbrev S1x1x512x256 : Shape := ⟨4, ![1, 1, 512, 256]⟩
abbrev S8x256 : Shape := ⟨2, ![8, 256]⟩
abbrev S1x256 : Shape := ⟨2, ![1, 256]⟩
abbrev S1x1x256 : Shape := ⟨3, ![1, 1, 256]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x2x2816, .f32⟩
  | .hbm, ⟨9, _⟩ => ⟨S_, .i32⟩
  | .hbm, ⟨10, _⟩ => ⟨S_, .f32⟩
  | .hbm, ⟨11, _⟩ => ⟨S8x2816, .f32⟩
  | .hbm, ⟨12, _⟩ => ⟨S16384x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x2816, .f32⟩
  | .hbm, ⟨18, _⟩ => ⟨S1x1024, .f32⟩
  | .hbm, ⟨19, _⟩ => ⟨S16384x1024, .f32⟩
  | .hbm, ⟨20, _⟩ => ⟨S8x2x2816, .f32⟩
  | .local _ .vmem, ⟨0, _⟩ => ⟨S512x1024, .f32⟩
  | .local _ .vmem, ⟨1, _⟩ => ⟨S512x1024, .f32⟩
  | .local _ .vmem, ⟨2, _⟩ => ⟨S1x2x2816, .f32⟩
  | .local _ .vmem, ⟨3, _⟩ => ⟨S1x2x2816, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S8x2816, .f32⟩
  | .local _ .vmem, ⟨9, _⟩ => ⟨S1x2816, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x2x2816, .f32⟩
  | .local _ .vmem, ⟨14, _⟩ => ⟨S1x2x2816, .f32⟩
  | .local _ .vmem, ⟨15, _⟩ => ⟨S1x2x2816, .f32⟩
  | .local _ .vmem, ⟨16, _⟩ => ⟨S11x1x520x256, .f32⟩
  | .local _ .vmem, ⟨17, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S8x2048x1024 : Shape := ⟨3, ![8, 2048, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2x2816, .f32⟩
  | .hbm, ⟨28, _⟩ => ⟨S8x2050x2816, .f32⟩
  | .hbm, ⟨29, _⟩ => ⟨S1x2816, .f32⟩
  | .hbm, ⟨30, _⟩ => ⟨S2816, .f32⟩
  | .hbm, ⟨31, _⟩ => ⟨S8x2048x2816, .f32⟩
  | .hbm, ⟨32, _⟩ => ⟨S1x1x2816, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S1x2816, .f32⟩
  | .hbm, ⟨39, _⟩ => ⟨S2816, .f32⟩
  | .hbm, ⟨40, _⟩ => ⟨S8x2048x2816, .f32⟩
  | .hbm, ⟨41, _⟩ => ⟨S1x1x2816, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S1x2816, .f32⟩
  | .hbm, ⟨46, _⟩ => ⟨S2816, .f32⟩
  | .hbm, ⟨47, _⟩ => ⟨S8x2048x2816, .f32⟩
  | .hbm, ⟨48, _⟩ => ⟨S1x1x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S1x1x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S_, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S16384x1024, .f32⟩
  | .hbm, ⟨84, _⟩ => ⟨S8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.AttnBits.Runs.lean ====
/- One grid point of the attention call: what the body leaves in the output block and in the two
   scratch buffers, on each of its four control paths, with the proof that it runs there. -/
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Bits) ℕ (UR sig nD τ) ℕ

/-- The tables and scratches the kernel is handed, whole, at their literal types. -/
abbrev tbM0_0 : Memref sig .tc .smem S10 .i32 := Memref.whole main_c
abbrev tbM0_1 : Memref sig .tc .smem S10 .i32 := Memref.whole main_c_0
abbrev scM0_0 : Memref sig .tc .vmem S16x512x128 .f32 := Memref.whole cc0_scratch0
abbrev scM0_1 : Memref sig .tc .vmem S16x512x128 .f32 := Memref.whole cc0_scratch1

/-- The query block's number: the word of the first table at the grid point `i`. -/
abbrev word0 (i : grid0.Coords) (T0 : S10.Idx → Elt Bits .i32) : BitVec 32 :=
  View.readAt (Elt Bits) (tbM0_0).view (Rect.unit (s := S10) (k0_off1 i) S1.size (k0_off1_inb i)).toLoadRect T0 (Shape.Idx.first (numel1_S1.symm ▸ Nat.one_pos))
/-- The key block's number: the word of the second table at the grid point `i`. -/
abbrev word1 (i : grid0.Coords) (T1 : S10.Idx → Elt Bits .i32) : BitVec 32 :=
  View.readAt (Elt Bits) (tbM0_1).view (Rect.unit (s := S10) (k0_off1 i) S1.size (k0_off1_inb i)).toLoadRect T1 (Shape.Idx.first (numel1_S1.symm ▸ Nat.one_pos))
/-- The key block is the first one of its query block. -/
abbrev IsFirst (i : grid0.Coords) (T1 : S10.Idx → Elt Bits .i32) : Prop :=
  (Scalar.cmpi .ne (Scalar.extui (Scalar.cmpi .eq (word1 i T1) 0#32)) 0#32) = 1#1
/-- The key block lies strictly before the query block. -/
abbrev IsOff (i : grid0.Coords) (T0 T1 : S10.Idx → Elt Bits .i32) : Prop :=
  (Scalar.cmpi .ne (Scalar.extui (Scalar.cmpi .slt (word1 i T1) (word0 i T0))) 0#32) = 1#1
/-- The key block is the query block: the last one. -/
abbrev IsDiag (i : grid0.Coords) (T0 T1 : S10.Idx → Elt Bits .i32) : Prop :=
  k0_cond3 (word0 i T0) (word1 i T1) = 1#1

/-! ## The kernel body per control path, on symbolic staging memrefs: a subtype the run finds -/

/-- One staging buffer of output window 3, through which its contents are stated (`View.read_writes_of_cover`). -/
abbrev VO0_3 : View sig .tc .vmem S2x512x512 .f32 := (Memref.whole cc0_stg3_0 : Memref sig .tc .vmem S2x512x512 .f32).view

set_option backward.proofsInPublic true in
set_option maxHeartbeats 8000000 in
/-- PATH A (points 0, 10, 20, 30): what the body leaves — per stored output its pieces (last first), per scratch its
    contents — WITH the proof that, on whole staging memrefs, from the inputs at their blocks, the tables, the outputs
    (3: stored) and the scratches (0: covered, 1: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (hc0 : IsFirst i T1) (hc1 : ¬(IsOff i T0 T1)) (k0_h3 : IsDiag i T0 T1) :
    Σ' (out0 : List (View.Piece (Elt Bits) S2x512x512 .f32)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, _, fun (xa0 : Buf (Elt Bits) ((c : Thread nD τ).loc cc0_scratch0)) (xa1 : Buf (Elt Bits) ((c : Thread nD τ).loc cc0_scratch1)) K => by
    unfold owns
    rw [cc0_mla_prompt_attn_eq_skeleton]; unfold cc0_mla_prompt_attn_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Path A's pieces for output 3 tile its block (16 stores of `S1x512x64`: the kernel evaluates the tiling, Lib/Ring.lean `Piece.tiledL`). -/
theorem cover0_A_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (hc0 : IsFirst i T1) (hc1 : ¬(IsOff i T0 T1)) (k0_h3 : IsDiag i T0 T1) (y : S2x512x512.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S1x512x64.size (by sl_kernel_rfl) y

/-- What path A leaves in output 3's staging buffer: its pieces read back over junk. -/
def out0_A_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (hc0 : IsFirst i T1) (hc1 : ¬(IsOff i T0 T1)) (k0_h3 : IsDiag i T0 T1) : (S2x512x512.Idx → Elt Bits .f32) :=
  VO0_3.read (Elt Bits) (VO0_3.writes (Elt Bits) VO0_3.junk (kernelRun0_A c i arg4 harg4 arg5 harg5 arg6 harg6 arg7 harg7 T0 T1 x0 x1 x2 hc0 hc1 k0_h3).1)

set_option backward.proofsInPublic true in
set_option maxHeartbeats 8000000 in
/-- PATH B (points 1, 3, … 36: 12 of 40): what the body leaves — per stored output its pieces (last first), per scratch its
    contents — WITH the proof that, on whole staging memrefs, from the inputs at their blocks, the tables, the outputs
    (3: idle) and the scratches (0: covered, 1: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (hc0 : IsFirst i T1) (hc1 : IsOff i T0 T1) (k0_h3 : ¬(IsDiag i T0 T1)) :
    Σ' (out0 : Buf (Elt Bits) ((c : Thread nD τ).loc cc0_scratch0)), { out1 : Buf (Elt Bits) ((c : Thread nD τ).loc cc0_scratch1) //
      ∀ (y3 : (S2x512x512.Idx → Elt Bits .f32)) (xa0 : Buf (Elt Bits) ((c : Thread nD τ).loc cc0_scratch0)) (xa1 : Buf (Elt Bits) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, fun (y3 : (S2x512x512.Idx → Elt Bits .f32)) (xa0 : Buf (Elt Bits) ((c : Thread nD τ).loc cc0_scratch0)) (xa1 : Buf (Elt Bits) ((c : Thread nD τ).loc cc0_scratch1)) K => by
    unfold owns
    rw [cc0_mla_prompt_attn_eq_skeleton]; unfold cc0_mla_prompt_attn_skel
    iintro ⟨H0, H1, H2, HT0, HT1, ⟨%f3, %hf3, HO3⟩, HS0, HS1, Hk⟩
    obtain rfl := harg7.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    iexact HS1⟩

set_option backward.proofsInPublic true in
set_option maxHeartbeats 8000000 in
/-- PATH C (points 2, 5, … 39: 12 of 40): what the body leaves — per stored output its pieces (last first), per scratch its
    contents — WITH the proof that, on whole staging memrefs, from the inputs at their blocks, the tables, the outputs
    (3: stored) and the scratches (0: carried, 1: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (xa0 : Buf (Elt Bits) ((c : Thread nD τ).loc cc0_scratch0)) (xa1 : Buf (Elt Bits) ((c : Thread nD τ).loc cc0_scratch1)) (hc0 : ¬(IsFirst i T1)) (hc1 : ¬(IsOff i T0 T1)) (k0_h3 : IsDiag i T0 T1) :
    Σ' (out0 : List (View.Piece (Elt Bits) S2x512x512 .f32)) (out1 : Buf (Elt Bits) ((c : Thread nD τ).loc cc0_scratch0)), { out2 : Buf (Elt Bits) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, _, fun K => by
    unfold owns
    rw [cc0_mla_prompt_attn_eq_skeleton]; unfold cc0_mla_prompt_attn_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Path C's pieces for output 3 tile its block (16 stores of `S1x512x64`: the kernel evaluates the tiling, Lib/Ring.lean `Piece.tiledL`). -/
theorem cover0_C_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (xa0 : Buf (Elt Bits) ((c : Thread nD τ).loc cc0_scratch0)) (xa1 : Buf (Elt Bits) ((c : Thread nD τ).loc cc0_scratch1)) (hc0 : ¬(IsFirst i T1)) (hc1 : ¬(IsOff i T0 T1)) (k0_h3 : IsDiag i T0 T1) (y : S2x512x512.Idx) :
    ∃ pc ∈ (kernelRun0_C c i arg4 harg4 arg5 harg5 arg6 harg6 arg7 harg7 T0 T1 x0 x1 x2 xa0 xa1 hc0 hc1 k0_h3).1, y ∈ pc.1.set :=
  View.cover_of_tiledL (kernelRun0_C c i arg4 harg4 arg5 harg5 arg6 harg6 arg7 harg7 T0 T1 x0 x1 x2 xa0 xa1 hc0 hc1 k0_h3).1 S1x512x64.size (by sl_kernel_rfl) y

/-- What path C leaves in output 3's staging buffer: its pieces read back over junk. -/
def out0_C_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (xa0 : Buf (Elt Bits) ((c : Thread nD τ).loc cc0_scratch0)) (xa1 : Buf (Elt Bits) ((c : Thread nD τ).loc cc0_scratch1)) (hc0 : ¬(IsFirst i T1)) (hc1 : ¬(IsOff i T0 T1)) (k0_h3 : IsDiag i T0 T1) : (S2x512x512.Idx → Elt Bits .f32) :=
  VO0_3.read (Elt Bits) (VO0_3.writes (Elt Bits) VO0_3.junk (kernelRun0_C c i arg4 harg4 arg5 harg5 arg6 harg6 arg7 harg7 T0 T1 x0 x1 x2 xa0 xa1 hc0 hc1 k0_h3).1)

set_option backward.proofsInPublic true in
set_option maxHeartbeats 8000000 in
/-- PATH D (points 4, 7, … 38: 12 of 40): what the body leaves — per stored output its pieces (last first), per scratch its
    contents — WITH the proof that, on whole staging memrefs, from the inputs at their blocks, the tables, the outputs
    (3: idle) and the scratches (0: carried, 1: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Bits .i32)) (T1 : (S10.Idx → Elt Bits .i32))
     (x0 : (S2x512x1024.Idx → Elt Bits .bf16)) (x1 : (S2x512x1024.Idx → Elt Bits .bf16)) (x2 : (S2x512x1024.Idx → Elt Bits .bf16)) (xa0 : Buf (Elt Bits) ((c : Thread nD τ).loc cc0_scratch0)) (xa1 : Buf (Elt Bits) ((c : Thread nD τ).loc cc0_scratch1)) (hc0 : ¬(IsFirst i T1)) (hc1 : IsOff i T0 T1) (k0_h3 : ¬(IsDiag i T0 T1)) :
    Σ' (out0 : Buf (Elt Bits) ((c : Thread nD τ).loc cc0_scratch0)), { out1 : Buf (Elt Bits) ((c : Thread nD τ).loc cc0_scratch1) //
      ∀ (y3 : (S2x512x512.Idx → Elt Bits .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, fun (y3 : (S2x512x512.Idx → Elt Bits .f32)) K => by
    unfold owns
    rw [cc0_mla_prompt_attn_eq_skeleton]; unfold cc0_mla_prompt_attn_skel
    iintro ⟨H0, H1, H2, HT0, HT1, ⟨%f3, %hf3, HO3⟩, HS0, HS1, Hk⟩
    obtain rfl := harg7.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    iexact HS1⟩

end Cert.Kernel.Attn

end
-- ==== Proof.AttnBits.Schedule.lean ====
/- The causal schedule of the attention call: the two tables, the pipeline at them, and the facts about
   its forty grid points. -/
module

public import proofs.«01_k».proof.Proof.AttnBits.Runs

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Bits) ℕ (UR sig nD τ) ℕ

/-! ## The two tables -/

/-- The first table: the query block of each of the ten steps of a row of blocks. -/
def pinT_0 : S10.Idx → BitVec 32 := fun x => (([0#32, 1#32, 1#32, 2#32, 2#32, 2#32, 3#32, 3#32, 3#32, 3#32] : List (BitVec 32)).getD ((x 0).val) 0#32)

/-- The second table: the key block of each of the ten steps. -/
def pinT_1 : S10.Idx → BitVec 32 := fun x => (([0#32, 0#32, 1#32, 0#32, 1#32, 2#32, 0#32, 1#32, 2#32, 3#32] : List (BitVec 32)).getD ((x 0).val) 0#32)

set_option backward.proofsInPublic true in
/-- The two tables together. -/
def pfN : pre0.Contents (Elt Bits) := fun | ⟨0, _⟩ => pinT_0 | ⟨1, _⟩ => pinT_1 | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory `m` holds the two tables. -/
def Pinned (m : (ℓ : Loc nD τ sig) → Buf (Elt Bits) ℓ) : Prop :=
  (∀ c : Dev nD, m ((c : Thread nD τ).loc main_c) = pinT_0)
  ∧ (∀ c : Dev nD, m ((c : Thread nD τ).loc main_c_0) = pinT_1)

theorem ok_pfN_0_0_inb : ∀ i : grid0.Coords, ∀ a, (cc0_transform_0 k0_off1_inb numel1_S1 (pfN) i a + 1) * S2x512x1024.size a ≤ S8x2048x1024.size a := by decide +kernel
theorem ok_pfN_0_0 : (∀ i : grid0.Coords, ∃ h : (∀ a, (cc0_transform_0 k0_off1_inb numel1_S1 (pfN) i a + 1) * S2x512x1024.size a ≤ S8x2048x1024.size a), EltTy.bits .bf16 = 32 ∨ (Rect.block (s := S8x2048x1024) S2x512x1024.size (cc0_transform_0 k0_off1_inb numel1_S1 (pfN) i) h).WholeWords (EltTy.packing .bf16)) := fun i => ⟨ok_pfN_0_0_inb i, .inr (Affine.block_words_dvd (s := S8x2048x1024) (p := EltTy.packing .bf16) (by decide) (by decide))⟩
theorem ok_pfN_0_1_inb : ∀ i : grid0.Coords, ∀ a, (cc0_transform_1 k0_off1_inb numel1_S1 (pfN) i a + 1) * S2x512x1024.size a ≤ S8x2048x1024.size a := by decide +kernel
theorem ok_pfN_0_1 : (∀ i : grid0.Coords, ∃ h : (∀ a, (cc0_transform_1 k0_off1_inb numel1_S1 (pfN) i a + 1) * S2x512x1024.size a ≤ S8x2048x1024.size a), EltTy.bits .bf16 = 32 ∨ (Rect.block (s := S8x2048x1024) S2x512x1024.size (cc0_transform_1 k0_off1_inb numel1_S1 (pfN) i) h).WholeWords (EltTy.packing .bf16)) := fun i => ⟨ok_pfN_0_1_inb i, .inr (Affine.block_words_dvd (s := S8x2048x1024) (p := EltTy.packing .bf16) (by decide) (by decide))⟩
theorem ok_pfN_0_2_inb : ∀ i : grid0.Coords, ∀ a, (cc0_transform_2 k0_off1_inb numel1_S1 (pfN) i a + 1) * S2x512x1024.size a ≤ S8x2048x1024.size a := by decide +kernel
theorem ok_pfN_0_2 : (∀ i : grid0.Coords, ∃ h : (∀ a, (cc0_transform_2 k0_off1_inb numel1_S1 (pfN) i a + 1) * S2x512x1024.size a ≤ S8x2048x1024.size a), EltTy.bits .bf16 = 32 ∨ (Rect.block (s := S8x2048x1024) S2x512x1024.size (cc0_transform_2 k0_off1_inb numel1_S1 (pfN) i) h).WholeWords (EltTy.packing .bf16)) := fun i => ⟨ok_pfN_0_2_inb i, .inr (Affine.block_words_dvd (s := S8x2048x1024) (p := EltTy.packing .bf16) (by decide) (by decide))⟩
theorem ok_pfN_0_3_inb : ∀ i : grid0.Coords, ∀ a, (cc0_transform_3 k0_off1_inb numel1_S1 (pfN) i a + 1) * S2x512x512.size a ≤ S8x2048x512.size a := by decide +kernel
theorem ok_pfN_0_3 : (∀ i : grid0.Coords, ∃ h : (∀ a, (cc0_transform_3 k0_off1_inb numel1_S1 (pfN) i a + 1) * S2x512x512.size a ≤ S8x2048x512.size a), EltTy.bits .f32 = 32 ∨ (Rect.block (s := S8x2048x512) S2x512x512.size (cc0_transform_3 k0_off1_inb numel1_S1 (pfN) i) h).WholeWords (EltTy.packing .f32)) := fun i => ⟨ok_pfN_0_3_inb i, .inl rfl⟩
theorem ok_pfN_0 : ok0 (F := Bits) (pfN) := ⟨ok_pfN_0_0, ok_pfN_0_1, ok_pfN_0_2, ok_pfN_0_3⟩

/-- At the two tables every block lies inside its array. -/
theorem ok_pfN : ok0 (F := Bits) pfN := ok_pfN_0

/-- The two tables as admissible contents, and the pipeline at them: forty grid points. -/
def adm : (pcfg0 (F := Bits)).Adm := ⟨pfN, ok_pfN⟩
abbrev cfgA : Pipeline.Cfg sig Λ₀ := cfg0 (F := Bits) adm
abbrev pcs : Fin 1 → Pipeline.Cfg sig Λ₀ := Pipeline.pin (pcfgs (F := Bits)) fun _ => adm

variable (m : (ℓ : Loc nD τ sig) → Buf (Elt Bits) ℓ) (ρ : Dev nD → PrngReg)

/-! ## A point's coordinates, words and staging memrefs -/

/-- Point `t`'s coordinates. -/
abbrev crd (t : Fin cfgA.N) : cfgA.grid.Coords := cfgA.grid.coords t

/-- Each window's current staging memref at point `t`, spelled as the pipeline passes it, and its wholeness. -/
abbrev ms0_0 (t : Fin cfgA.N) : Memref sig .tc .vmem S2x512x1024 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S2x512x1024 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S2x512x1024 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S2x512x512 .f32 := spec0_3.stage (cfgA.slots t (3 : Fin 4))
abbrev hs0_3 (t : Fin cfgA.N) : (ms0_3 t).IsWhole := hstage0_3 ((cfgA.slots t (3 : Fin 4)).cast nbuf0_3)

/-! ## The windows' blocks -/

/-- Window `w`'s block at point `t`, read off its array at launch. -/
def iblk (c : Dev nD) (w : Fin cfgA.W) (t : Fin cfgA.N) : ((cfgA.win w).xblock (crd t)).Idx → Elt Bits (cfgA.win w).elt :=
  ((cfgA.win w).blk t).view.read (Elt Bits) ((s₀ m ρ).mem ((cfgA.win w).arr.view.loc (c : Thread nD τ)))

/-! ## The control's decisions at a point, at the pinned words (what tells the paths apart) -/

abbrev P0_0 (t : Fin cfgA.N) : Prop := IsFirst (crd t) pinT_1
abbrev P0_1 (t : Fin cfgA.N) : Prop := IsOff (crd t) pinT_0 pinT_1

/-- Whether scratch 0 (`cc0_scratch0`) holds nothing a point has determined, before position `n`: until a path that stores it
    whole first (A, B) has run. -/
def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

/-- The same in closed form: fresh up to the first point that overwrites it. -/
def sfirst0_0 : ℕ := 0
def sfrTab0_0 : ℕ → Bool := fun n => decide (n ≤ sfirst0_0)

/-- Whether scratch 1 (`cc0_scratch1`) holds nothing a point has determined, before position `n`: until a path that stores it
    whole first (A, B) has run. -/
def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

/-- The same in closed form: fresh up to the first point that overwrites it. -/
def sfirst0_1 : ℕ := 0
def sfrTab0_1 : ℕ → Bool := fun n => decide (n ≤ sfirst0_1)

set_option backward.proofsInPublic true in
/-- Whether nothing is stored into the output block since its last write-back, before each position from 1 on, as a bit mask. -/
def frMask0_3 : ℕ := 0xffffffffff
/-- `cfgA.fresh 3` TABULATED (TableIdle.lean `Cfg.fresh_tab`): true before the first point, then the table. -/
def frTab0_3 : ℕ → Bool
  | 0 => true
  | n + 1 => frMask0_3.testBit n

variable (m : (ℓ : Loc nD τ sig) → Buf (Elt Bits) ℓ) (ρ : Dev nD → PrngReg)

/-! ## Every per-point fact as ONE proposition -/

/-- What is decided at the point `t`: how the freshness tables step, which path the body takes there and which
    buffers hold junk before and after it. -/
abbrev FactsAt (t : Fin cfgA.N) : Prop :=
  -- sfrTab0_0_step, sfrTab0_1_step, frTab0_3_step, hyps0_A, sched0_A, hyps0_B, sched0_B, hyps0_C, sched0_C, hyps0_D, sched0_D
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (frTab0_3 (t.val + 1) = ((cfgA.win (3 : Fin 4)).flush t || (cfgA.idle (3 : Fin 4) (cfgA.grid.coords t) && frTab0_3 t.val)))
  ∧ (P0_0 t → ¬P0_1 t → (IsFirst (crd t) pinT_1) ∧ ((¬(IsOff (crd t) pinT_0 pinT_1)) ∧ ((IsDiag (crd t) pinT_0 pinT_1) ∧ (True))))
  ∧ (P0_0 t → ¬P0_1 t → cfgA.idle (3 : Fin 4) (cfgA.grid.coords t) = false ∧ (cfgA.win (3 : Fin 4)).flush t = true ∧ frTab0_3 t.val = true ∧ sfrTab0_0 (t.val + 1) = false ∧ sfrTab0_1 (t.val + 1) = false)
  ∧ (P0_0 t → P0_1 t → (IsFirst (crd t) pinT_1) ∧ ((IsOff (crd t) pinT_0 pinT_1) ∧ ((¬(IsDiag (crd t) pinT_0 pinT_1)) ∧ (True))))
  ∧ (P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false)
  ∧ (¬P0_0 t → ¬P0_1 t → (¬(IsFirst (crd t) pinT_1)) ∧ ((¬(IsOff (crd t) pinT_0 pinT_1)) ∧ ((IsDiag (crd t) pinT_0 pinT_1) ∧ (True))))
  ∧ (¬P0_0 t → ¬P0_1 t → cfgA.idle (3 : Fin 4) (cfgA.grid.coords t) = false ∧ (cfgA.win (3 : Fin 4)).flush t = true ∧ frTab0_3 t.val = true ∧ sfrTab0_0 t.val = false ∧ sfrTab0_0 (t.val + 1) = false ∧ sfrTab0_1 t.val = false ∧ sfrTab0_1 (t.val + 1) = false)
  ∧ (¬P0_0 t → P0_1 t → (¬(IsFirst (crd t) pinT_1)) ∧ ((IsOff (crd t) pinT_0 pinT_1) ∧ ((¬(IsDiag (crd t) pinT_0 pinT_1)) ∧ (True))))
  ∧ (¬P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

theorem allFacts_0_0 : ∀ t : Fin (cfgA).N, 0 ≤ t.val → t.val < 5 → FactsAt t := by decide +kernel
theorem allFacts_0_1 : ∀ t : Fin (cfgA).N, 5 ≤ t.val → t.val < 10 → FactsAt t := by decide +kernel
theorem allFacts_0_2 : ∀ t : Fin (cfgA).N, 10 ≤ t.val → t.val < 15 → FactsAt t := by decide +kernel
theorem allFacts_0_3 : ∀ t : Fin (cfgA).N, 15 ≤ t.val → t.val < 20 → FactsAt t := by decide +kernel
theorem allFacts_0_4 : ∀ t : Fin (cfgA).N, 20 ≤ t.val → t.val < 25 → FactsAt t := by decide +kernel
theorem allFacts_0_5 : ∀ t : Fin (cfgA).N, 25 ≤ t.val → t.val < 30 → FactsAt t := by decide +kernel
theorem allFacts_0_6 : ∀ t : Fin (cfgA).N, 30 ≤ t.val → t.val < 35 → FactsAt t := by decide +kernel
theorem allFacts_0_7 : ∀ t : Fin (cfgA).N, 35 ≤ t.val → t.val < 40 → FactsAt t := by decide +kernel
theorem allFacts_0 : ∀ t : Fin (cfgA).N, FactsAt t := fun t => by
  have h0 : 0 ≤ t.val := Nat.zero_le _
  rcases Nat.lt_or_ge t.val 5 with h1 | h1; · exact allFacts_0_0 t h0 h1
  rcases Nat.lt_or_ge t.val 10 with h2 | h2; · exact allFacts_0_1 t h1 h2
  rcases Nat.lt_or_ge t.val 15 with h3 | h3; · exact allFacts_0_2 t h2 h3
  rcases Nat.lt_or_ge t.val 20 with h4 | h4; · exact allFacts_0_3 t h3 h4
  rcases Nat.lt_or_ge t.val 25 with h5 | h5; · exact allFacts_0_4 t h4 h5
  rcases Nat.lt_or_ge t.val 30 with h6 | h6; · exact allFacts_0_5 t h5 h6
  rcases Nat.lt_or_ge t.val 35 with h7 | h7; · exact allFacts_0_6 t h6 h7
  exact allFacts_0_7 t h7 t.isLt

end Cert.Kernel.Attn

end
-- ==== Proof.AttnBits.Launch.lean ====
/- The launch of the attention: the host operations that build its tables and lay out its operands, then the
   forty grid points; what every buffer of interest holds at the end. -/
module

public import proofs.«01_k».proof.Proof.AttnBits.Body

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Bits) ℕ (UR sig nD τ) ℕ

variable (m : (ℓ : Loc nD τ sig) → Buf (Elt Bits) ℓ) (ρ : Dev nD → PrngReg)

/-- The rounds library's launch element. -/
def u₀ : UR sig nD τ :=
  initOf (Pipeline.cells pcs ((launch0 (F := Bits)).cellOf_inj fun _ => adm))
    (Pipeline.launchToks pcs ((launch0 (F := Bits)).cellOf_inj fun _ => adm))

theorem share_eq (c : Dev nD) (w : Fin cfgA.W) : (dats m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) adm.1 ∗ Pipeline.scopedRest spec0 c) ⊢ (dats m ρ 0 c).Φ 0 := by
  rw [prefHeld_eq, scopedRest0_eq, show (dats m ρ 0 c).Φ 0 = Phi m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HT0]
  · iexact HT0
  iexact HT1

/-- at the last point it gives the scratch buffers back (`hout`), the tables let go. -/
theorem phiN_exit (c : Dev nD) : (dats m ρ 0 c).Φ (Fin.last cfgA.N) ⊢ iprop(BI.emp ∗ Pipeline.scopedRest spec0 c) := by
  rw [scopedRest0_eq, show (dats m ρ 0 c).Φ (Fin.last cfgA.N) = Phi m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The memory after the host operations: what the region is entered with. -/
def mid : (ℓ : Loc nD τ sig) → Buf (Elt Bits) ℓ := fun ℓ => StableHlo.after (hostOps0 (F := Bits)) (fun b => m (ℓ.1, b)) ℓ.2

/-- The host operations write their own results only. -/
theorem hostOps0_writes : (hostOps0 (F := Bits)).Forall fun op => op.writes ⊆ (([main_c, main_c_0, main_v0, main_c_1, main_v1, main_v2, main_v3, main_v4,
    main_cst, main_v5, main_v6, main_v7, main_v8, main_v9, main_cst_2, main_v10, main_v11, main_cst_3, main_v12, main_v13, main_v14] : List (Ref sig .tc)).map
      (Proc.devRef (τ := τ) .tc)).toFinset :=
  StableHlo.forall_writes_sub_of_map rfl

/-- An argument is what it was after the host operations. -/
theorem mid_arg0 (c : Dev nD) : mid m ((c : Thread nD τ).loc main_arg0) = m ((c : Thread nD τ).loc main_arg0) :=
  StableHlo.after_of_writes_sub _ _ hostOps0_writes (by decide)
theorem mid_arg1 (c : Dev nD) : mid m ((c : Thread nD τ).loc main_arg1) = m ((c : Thread nD τ).loc main_arg1) :=
  StableHlo.after_of_writes_sub _ _ hostOps0_writes (by decide)
theorem mid_arg2 (c : Dev nD) : mid m ((c : Thread nD τ).loc main_arg2) = m ((c : Thread nD τ).loc main_arg2) :=
  StableHlo.after_of_writes_sub _ _ hostOps0_writes (by decide)

/-- The first table after the host operations is the literal they write. -/
theorem mid_table0 (c : Dev nD) : mid m ((c : Thread nD τ).loc main_c) = fun i => lit0 (S10.rowMajor i) := by
  delta mid; simp only [Thread.loc]
  rw [show (hostOps0 (F := Bits)) = StableHlo.nullary main_c (fun i => lit0 (S10.rowMajor i)) :: (hostOps0 (F := Bits)).tail from rfl, StableHlo.after_cons,
    StableHlo.after_of_writes_sub (r := main_c) (W := [main_c_0, main_v0, main_c_1, main_v1, main_v2, main_v3, main_v4,
      main_cst, main_v5, main_v6, main_v7, main_v8, main_v9, main_cst_2, main_v10, main_v11, main_cst_3, main_v12, main_v13, main_v14]) _ _
      (StableHlo.forall_writes_sub_of_map rfl) (by decide)]
  exact StableHlo.nullary_result _ _ _ _

/-- The second table after the host operations is the literal they write. -/
theorem mid_table1 (c : Dev nD) : mid m ((c : Thread nD τ).loc main_c_0) = fun i => lit1 (S10.rowMajor i) := by
  delta mid; simp only [Thread.loc]
  rw [show (hostOps0 (F := Bits)) = StableHlo.nullary main_c (fun i => lit0 (S10.rowMajor i)) :: StableHlo.nullary main_c_0 (fun i => lit1 (S10.rowMajor i)) :: (hostOps0 (F := Bits)).tail.tail from rfl,
    StableHlo.after_cons, StableHlo.after_cons,
    StableHlo.after_of_writes_sub (r := main_c_0) (W := [main_v0, main_c_1, main_v1, main_v2, main_v3, main_v4,
      main_cst, main_v5, main_v6, main_v7, main_v8, main_v9, main_cst_2, main_v10, main_v11, main_cst_3, main_v12, main_v13, main_v14]) _ _
      (StableHlo.forall_writes_sub_of_map rfl) (by decide)]
  exact StableHlo.nullary_result _ _ _ _

/-- Each literal is the table the schedule is written at. -/
theorem lit0_eq : ∀ i : S10.Idx, lit0 (S10.rowMajor i) = pinT_0 i := by decide +kernel
theorem lit1_eq : ∀ i : S10.Idx, lit1 (S10.rowMajor i) = pinT_1 i := by decide +kernel

/-- After the host operations the tables are the schedule's. -/
theorem pinned_mid : Pinned (mid m) := by
  refine ⟨fun c => (mid_table0 m c).trans (funext fun i => ?_), fun c => (mid_table1 m c).trans (funext fun i => ?_)⟩
  · exact lit0_eq i
  · exact lit1_eq i

theorem V_pre (hp : Pinned m) (c : Dev nD) (j : Fin 2) : m ((c : Thread nD τ).loc (pre0.ref j)) = adm.1 j := by
  fin_cases j
  · exact hp.1 c
  · exact hp.2 c

/-- What holds at the end: every array of the call is at its computed contents, and the arguments are unchanged. -/
def Post : PUnit × MemSt nD τ sig (Elt Bits) → Prop := fun r =>
  ∀ c : Dev nD, (∀ w : Fin cfgA.W, r.2.mem ((cfgA.win w).arr.view.loc (c : Thread nD τ)) = (dats (mid m) ρ 0 c).arrAt w cfgA.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxHeartbeats 4000000 in
/-- From any memory with zero counters, every weakly fair execution of the program terminates without a fault, with
    `Post` at the end and every semaphore counter at zero. -/
theorem run : θ_run (defs (F := Bits)) (onTc (τ := τ) (main (F := Bits))) (s₀ m ρ) (fun r => Post m ρ r ∧ r.2.sem = fun _ => 0) :=
  Pipeline.θ_run_region_noSem_pf_quiescent pcfgs (fun _ => adm) (dats (mid m) ρ) () ((launch0 (F := Bits)).cellOf_inj fun _ => adm) (0 : Fin 1)
    (launch0 (F := Bits)).win.to₀ (launch0 (F := Bits)).pre EP defs₀ Variants.none m ρ main
    (hbody := fun c => (body_obligation (mid m) ρ (pinned_mid m) c).loose) (hne := (launch0 (F := Bits)).block_pos)
    (harr := (launch0 (F := Bits)).arr_whole) (hstage := (launch0 (F := Bits)).stage_whole) (howed := fun _ _ => rfl)
    (u₀ := u₀) (hu₀ := .rfl)
    (V := fun c b => mid m ((c : Thread nD τ).loc b))
    (hmain := Pipeline.hmainP_prefix pcfgs 0 defs₀ Variants.none m main hostOps0 hostOps0_sub (StableHlo.forall_fresh_of_map rfl) main_chain)
    (hsplit := fun c => Pipeline.arrays_split pcs (dats (mid m) ρ) 0 (launch0 (F := Bits)).win.arr_inj c (launch0 (F := Bits)).arr_whole
      (share_eq (mid m) ρ c) _ _ fun _ => rfl)
    (hpf := V_pre (mid m) (pinned_mid m))
    (X := fun _ => iprop(emp)) (Y := fun _ => iprop(emp))
    (Z := fun c => Pipeline.unscopedRestP pre0 spec0 c (fun b => mid m ((c : Thread nD τ).loc b)))
    (hX := fun c => by
      iintro H; isplitr; · iempintro
      iexact H)
    (hin := phi0_intro (mid m) ρ)
    (hout := phiN_exit (mid m) ρ)
    (QY := fun c s => ∀ b ∈ Pipeline.restRefsP sig pre0 spec0, s.mem ((c : Thread nD τ).loc b) = mid m ((c : Thread nD τ).loc b))
    (hY := fun c s' => by
      iintro ⟨-, HU, HSI⟩
      unfold Pipeline.unscopedRestP
      imodintro
      iapply (pointsTo_read_all (Pipeline.restRefsP sig pre0 spec0) (fun b => (c : Thread nD τ).loc b) (fun b => mid m ((c : Thread nD τ).loc b)) s')
      isplitl [HU] <;> iassumption)
    (hQ := fun _ h hz => ⟨fun c => ⟨(h c).1, ((h c).2.2 main_arg0 (by decide)).trans (mid_arg0 m c), ((h c).2.2 main_arg1 (by decide)).trans (mid_arg1 m c),
      ((h c).2.2 main_arg2 (by decide)).trans (mid_arg2 m c)⟩, hz⟩)

/-- The program's frame: it terminates without a fault, its arguments end unchanged and every counter is zero. -/
theorem frame : θ_run (defs (F := Bits)) (onTc (τ := τ) (main (F := Bits))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2, h.2⟩) (run m ρ)

end Cert.Kernel.Attn

end
-- ==== Proof.AttnIdeal.Runs.lean ====
/- One grid point of the attention call: what the body leaves in the output block and in the two
   scratch buffers, on each of its four control paths, with the proof that it runs there. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Ideal) ℕ (UR sig nD τ) ℕ

/-- The tables and scratches the kernel is handed, whole, at their literal types. -/
abbrev tbM0_0 : Memref sig .tc .smem S10 .i32 := Memref.whole main_c
abbrev tbM0_1 : Memref sig .tc .smem S10 .i32 := Memref.whole main_c_0
abbrev scM0_0 : Memref sig .tc .vmem S16x512x128 .f32 := Memref.whole cc0_scratch0
abbrev scM0_1 : Memref sig .tc .vmem S16x512x128 .f32 := Memref.whole cc0_scratch1

/-- The query block's number: the word of the first table at the grid point `i`. -/
abbrev word0 (i : grid0.Coords) (T0 : S10.Idx → Elt Ideal .i32) : BitVec 32 :=
  View.readAt (Elt Ideal) (tbM0_0).view (Rect.unit (s := S10) (k0_off1 i) S1.size (k0_off1_inb i)).toLoadRect T0 (Shape.Idx.first (numel1_S1.symm ▸ Nat.one_pos))
/-- The key block's number: the word of the second table at the grid point `i`. -/
abbrev word1 (i : grid0.Coords) (T1 : S10.Idx → Elt Ideal .i32) : BitVec 32 :=
  View.readAt (Elt Ideal) (tbM0_1).view (Rect.unit (s := S10) (k0_off1 i) S1.size (k0_off1_inb i)).toLoadRect T1 (Shape.Idx.first (numel1_S1.symm ▸ Nat.one_pos))
/-- The key block is the first one of its query block. -/
abbrev IsFirst (i : grid0.Coords) (T1 : S10.Idx → Elt Ideal .i32) : Prop :=
  (Scalar.cmpi .ne (Scalar.extui (Scalar.cmpi .eq (word1 i T1) 0#32)) 0#32) = 1#1
/-- The key block lies strictly before the query block. -/
abbrev IsOff (i : grid0.Coords) (T0 T1 : S10.Idx → Elt Ideal .i32) : Prop :=
  (Scalar.cmpi .ne (Scalar.extui (Scalar.cmpi .slt (word1 i T1) (word0 i T0))) 0#32) = 1#1
/-- The key block is the query block: the last one. -/
abbrev IsDiag (i : grid0.Coords) (T0 T1 : S10.Idx → Elt Ideal .i32) : Prop :=
  k0_cond3 (word0 i T0) (word1 i T1) = 1#1

/-! ## The kernel body per control path, on symbolic staging memrefs: a subtype the run finds -/

/-- One staging buffer of output window 3, through which its contents are stated (`View.read_writes_of_cover`). -/
abbrev VO0_3 : View sig .tc .vmem S2x512x512 .f32 := (Memref.whole cc0_stg3_0 : Memref sig .tc .vmem S2x512x512 .f32).view

set_option backward.proofsInPublic true in
set_option maxHeartbeats 8000000 in
/-- PATH A (points 0, 10, 20, 30): what the body leaves — per stored output its pieces (last first), per scratch its
    contents — WITH the proof that, on whole staging memrefs, from the inputs at their blocks, the tables, the outputs
    (3: stored) and the scratches (0: covered, 1: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (hc0 : IsFirst i T1) (hc1 : ¬(IsOff i T0 T1)) (k0_h3 : IsDiag i T0 T1) :
    Σ' (out0 : List (View.Piece (Elt Ideal) S2x512x512 .f32)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, _, fun (xa0 : Buf (Elt Ideal) ((c : Thread nD τ).loc cc0_scratch0)) (xa1 : Buf (Elt Ideal) ((c : Thread nD τ).loc cc0_scratch1)) K => by
    unfold owns
    rw [cc0_mla_prompt_attn_eq_skeleton]; unfold cc0_mla_prompt_attn_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Path A's pieces for output 3 tile its block (16 stores of `S1x512x64`: the kernel evaluates the tiling, Lib/Ring.lean `Piece.tiledL`). -/
theorem cover0_A_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (hc0 : IsFirst i T1) (hc1 : ¬(IsOff i T0 T1)) (k0_h3 : IsDiag i T0 T1) (y : S2x512x512.Idx) :
    ∃ pc ∈ (kernelRun0_A c i arg4 harg4 arg5 harg5 arg6 harg6 arg7 harg7 T0 T1 x0 x1 x2 hc0 hc1 k0_h3).1, y ∈ pc.1.set :=
  View.cover_of_tiledL (kernelRun0_A c i arg4 harg4 arg5 harg5 arg6 harg6 arg7 harg7 T0 T1 x0 x1 x2 hc0 hc1 k0_h3).1 S1x512x64.size (by sl_kernel_rfl) y

/-- What path A leaves in output 3's staging buffer: its pieces read back over junk. -/
def out0_A_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (hc0 : IsFirst i T1) (hc1 : ¬(IsOff i T0 T1)) (k0_h3 : IsDiag i T0 T1) : (S2x512x512.Idx → Elt Ideal .f32) :=
  VO0_3.read (Elt Ideal) (VO0_3.writes (Elt Ideal) VO0_3.junk (kernelRun0_A c i arg4 harg4 arg5 harg5 arg6 harg6 arg7 harg7 T0 T1 x0 x1 x2 hc0 hc1 k0_h3).1)

set_option backward.proofsInPublic true in
set_option maxHeartbeats 8000000 in
/-- PATH B (points 1, 3, … 36: 12 of 40): what the body leaves — per stored output its pieces (last first), per scratch its
    contents — WITH the proof that, on whole staging memrefs, from the inputs at their blocks, the tables, the outputs
    (3: idle) and the scratches (0: covered, 1: covered), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (hc0 : IsFirst i T1) (hc1 : IsOff i T0 T1) (k0_h3 : ¬(IsDiag i T0 T1)) :
    Σ' (out0 : Buf (Elt Ideal) ((c : Thread nD τ).loc cc0_scratch0)), { out1 : Buf (Elt Ideal) ((c : Thread nD τ).loc cc0_scratch1) //
      ∀ (y3 : (S2x512x512.Idx → Elt Ideal .f32)) (xa0 : Buf (Elt Ideal) ((c : Thread nD τ).loc cc0_scratch0)) (xa1 : Buf (Elt Ideal) ((c : Thread nD τ).loc cc0_scratch1)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, fun (y3 : (S2x512x512.Idx → Elt Ideal .f32)) (xa0 : Buf (Elt Ideal) ((c : Thread nD τ).loc cc0_scratch0)) (xa1 : Buf (Elt Ideal) ((c : Thread nD τ).loc cc0_scratch1)) K => by
    unfold owns
    rw [cc0_mla_prompt_attn_eq_skeleton]; unfold cc0_mla_prompt_attn_skel
    iintro ⟨H0, H1, H2, HT0, HT1, ⟨%f3, %hf3, HO3⟩, HS0, HS1, Hk⟩
    obtain rfl := harg7.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    iexact HS1⟩

set_option backward.proofsInPublic true in
set_option maxHeartbeats 8000000 in
/-- PATH C (points 2, 5, … 39: 12 of 40): what the body leaves — per stored output its pieces (last first), per scratch its
    contents — WITH the proof that, on whole staging memrefs, from the inputs at their blocks, the tables, the outputs
    (3: stored) and the scratches (0: carried, 1: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1)) (hc0 : ¬(IsFirst i T1)) (hc1 : ¬(IsOff i T0 T1)) (k0_h3 : IsDiag i T0 T1) :
    Σ' (out0 : List (View.Piece (Elt Ideal) S2x512x512 .f32)) (out1 : Buf (Elt Ideal) ((c : Thread nD τ).loc cc0_scratch0)), { out2 : Buf (Elt Ideal) ((c : Thread nD τ).loc cc0_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, _, fun K => by
    unfold owns
    rw [cc0_mla_prompt_attn_eq_skeleton]; unfold cc0_mla_prompt_attn_skel
    iintro ⟨H0, H1, H2, HT0, HT1, ⟨%d3, %f3, -, HO3⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    iexact HS1⟩

/-- Path C's pieces for output 3 tile its block (16 stores of `S1x512x64`: the kernel evaluates the tiling, Lib/Ring.lean `Piece.tiledL`). -/
theorem cover0_C_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1)) (hc0 : ¬(IsFirst i T1)) (hc1 : ¬(IsOff i T0 T1)) (k0_h3 : IsDiag i T0 T1) (y : S2x512x512.Idx) :
    ∃ pc ∈ (kernelRun0_C c i arg4 harg4 arg5 harg5 arg6 harg6 arg7 harg7 T0 T1 x0 x1 x2 xa0 xa1 hc0 hc1 k0_h3).1, y ∈ pc.1.set :=
  View.cover_of_tiledL (kernelRun0_C c i arg4 harg4 arg5 harg5 arg6 harg6 arg7 harg7 T0 T1 x0 x1 x2 xa0 xa1 hc0 hc1 k0_h3).1 S1x512x64.size (by sl_kernel_rfl) y

/-- What path C leaves in output 3's staging buffer: its pieces read back over junk. -/
def out0_C_3 (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1)) (hc0 : ¬(IsFirst i T1)) (hc1 : ¬(IsOff i T0 T1)) (k0_h3 : IsDiag i T0 T1) : (S2x512x512.Idx → Elt Ideal .f32) :=
  VO0_3.read (Elt Ideal) (VO0_3.writes (Elt Ideal) VO0_3.junk (kernelRun0_C c i arg4 harg4 arg5 harg5 arg6 harg6 arg7 harg7 T0 T1 x0 x1 x2 xa0 xa1 hc0 hc1 k0_h3).1)

set_option backward.proofsInPublic true in
set_option maxHeartbeats 8000000 in
/-- PATH D (points 4, 7, … 38: 12 of 40): what the body leaves — per stored output its pieces (last first), per scratch its
    contents — WITH the proof that, on whole staging memrefs, from the inputs at their blocks, the tables, the outputs
    (3: idle) and the scratches (0: carried, 1: carried), under the path's decisions as
    hypotheses over the words the body reads (`hc0`; `hc1`; `k0_h3`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
     (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1)) (hc0 : ¬(IsFirst i T1)) (hc1 : IsOff i T0 T1) (k0_h3 : ¬(IsDiag i T0 T1)) :
    Σ' (out0 : Buf (Elt Ideal) ((c : Thread nD τ).loc cc0_scratch0)), { out1 : Buf (Elt Ideal) ((c : Thread nD τ).loc cc0_scratch1) //
      ∀ (y3 : (S2x512x512.Idx → Elt Ideal .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ owns (c : Thread nD τ) arg7 fullShare y3
          ∗ (scM0_0.view.loc (c : Thread nD τ) ↦{fullShare} xa0)
          ∗ (scM0_1.view.loc (c : Thread nD τ) ↦{fullShare} xa1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{fullShare.right} T0)
              ∗ (tbM0_1.view.loc (c : Thread nD τ) ↦{fullShare.right} T1)
              ∗ owns (c : Thread nD τ) arg7 fullShare y3
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_prompt_attn i tbM0_0 (Memref.isWhole_whole _) tbM0_1 (Memref.isWhole_whole _) arg4 harg4 arg5 harg5 arg6 harg6 arg7 harg7 scM0_0 (Memref.isWhole_whole _) scM0_1 (Memref.isWhole_whole _)) K } :=
  ⟨_, _, fun (y3 : (S2x512x512.Idx → Elt Ideal .f32)) K => by
    unfold owns
    rw [cc0_mla_prompt_attn_eq_skeleton]; unfold cc0_mla_prompt_attn_skel
    iintro ⟨H0, H1, H2, HT0, HT1, ⟨%f3, %hf3, HO3⟩, HS0, HS1, Hk⟩
    obtain rfl := harg7.eq_unread hf3
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]
    · iexists _; isplitr; · ipureintro; exact harg7.read_unread _
      iexact HO3
    isplitl [HS0]; · iexact HS0
    iexact HS1⟩

end Cert.KernelIdeal.Attn

end
-- ==== Proof.AttnIdeal.Schedule.lean ====
/- The causal schedule of the attention call: the two tables, the pipeline at them, and the facts about
   its forty grid points. -/
module

public import proofs.«01_k».proof.Proof.AttnIdeal.Runs

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Ideal) ℕ (UR sig nD τ) ℕ

/-! ## The two tables -/

/-- The first table: the query block of each of the ten steps of a row of blocks. -/
def pinT_0 : S10.Idx → BitVec 32 := fun x => (([0#32, 1#32, 1#32, 2#32, 2#32, 2#32, 3#32, 3#32, 3#32, 3#32] : List (BitVec 32)).getD ((x 0).val) 0#32)

/-- The second table: the key block of each of the ten steps. -/
def pinT_1 : S10.Idx → BitVec 32 := fun x => (([0#32, 0#32, 1#32, 0#32, 1#32, 2#32, 0#32, 1#32, 2#32, 3#32] : List (BitVec 32)).getD ((x 0).val) 0#32)

set_option backward.proofsInPublic true in
/-- The two tables together. -/
def pfN : pre0.Contents (Elt Ideal) := fun | ⟨0, _⟩ => pinT_0 | ⟨1, _⟩ => pinT_1 | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The memory `m` holds the two tables. -/
def Pinned (m : (ℓ : Loc nD τ sig) → Buf (Elt Ideal) ℓ) : Prop :=
  (∀ c : Dev nD, m ((c : Thread nD τ).loc main_c) = pinT_0)
  ∧ (∀ c : Dev nD, m ((c : Thread nD τ).loc main_c_0) = pinT_1)

theorem ok_pfN_0_0_inb : ∀ i : grid0.Coords, ∀ a, (cc0_transform_0 k0_off1_inb numel1_S1 (pfN) i a + 1) * S2x512x1024.size a ≤ S8x2048x1024.size a := by decide +kernel
theorem ok_pfN_0_0 : (∀ i : grid0.Coords, ∃ h : (∀ a, (cc0_transform_0 k0_off1_inb numel1_S1 (pfN) i a + 1) * S2x512x1024.size a ≤ S8x2048x1024.size a), EltTy.bits .bf16 = 32 ∨ (Rect.block (s := S8x2048x1024) S2x512x1024.size (cc0_transform_0 k0_off1_inb numel1_S1 (pfN) i) h).WholeWords (EltTy.packing .bf16)) := fun i => ⟨ok_pfN_0_0_inb i, .inr (Affine.block_words_dvd (s := S8x2048x1024) (p := EltTy.packing .bf16) (by decide) (by decide))⟩
theorem ok_pfN_0_1_inb : ∀ i : grid0.Coords, ∀ a, (cc0_transform_1 k0_off1_inb numel1_S1 (pfN) i a + 1) * S2x512x1024.size a ≤ S8x2048x1024.size a := by decide +kernel
theorem ok_pfN_0_1 : (∀ i : grid0.Coords, ∃ h : (∀ a, (cc0_transform_1 k0_off1_inb numel1_S1 (pfN) i a + 1) * S2x512x1024.size a ≤ S8x2048x1024.size a), EltTy.bits .bf16 = 32 ∨ (Rect.block (s := S8x2048x1024) S2x512x1024.size (cc0_transform_1 k0_off1_inb numel1_S1 (pfN) i) h).WholeWords (EltTy.packing .bf16)) := fun i => ⟨ok_pfN_0_1_inb i, .inr (Affine.block_words_dvd (s := S8x2048x1024) (p := EltTy.packing .bf16) (by decide) (by decide))⟩
theorem ok_pfN_0_2_inb : ∀ i : grid0.Coords, ∀ a, (cc0_transform_2 k0_off1_inb numel1_S1 (pfN) i a + 1) * S2x512x1024.size a ≤ S8x2048x1024.size a := by decide +kernel
theorem ok_pfN_0_2 : (∀ i : grid0.Coords, ∃ h : (∀ a, (cc0_transform_2 k0_off1_inb numel1_S1 (pfN) i a + 1) * S2x512x1024.size a ≤ S8x2048x1024.size a), EltTy.bits .bf16 = 32 ∨ (Rect.block (s := S8x2048x1024) S2x512x1024.size (cc0_transform_2 k0_off1_inb numel1_S1 (pfN) i) h).WholeWords (EltTy.packing .bf16)) := fun i => ⟨ok_pfN_0_2_inb i, .inr (Affine.block_words_dvd (s := S8x2048x1024) (p := EltTy.packing .bf16) (by decide) (by decide))⟩
theorem ok_pfN_0_3_inb : ∀ i : grid0.Coords, ∀ a, (cc0_transform_3 k0_off1_inb numel1_S1 (pfN) i a + 1) * S2x512x512.size a ≤ S8x2048x512.size a := by decide +kernel
theorem ok_pfN_0_3 : (∀ i : grid0.Coords, ∃ h : (∀ a, (cc0_transform_3 k0_off1_inb numel1_S1 (pfN) i a + 1) * S2x512x512.size a ≤ S8x2048x512.size a), EltTy.bits .f32 = 32 ∨ (Rect.block (s := S8x2048x512) S2x512x512.size (cc0_transform_3 k0_off1_inb numel1_S1 (pfN) i) h).WholeWords (EltTy.packing .f32)) := fun i => ⟨ok_pfN_0_3_inb i, .inl rfl⟩
theorem ok_pfN_0 : ok0 (F := Ideal) (pfN) := ⟨ok_pfN_0_0, ok_pfN_0_1, ok_pfN_0_2, ok_pfN_0_3⟩

/-- At the two tables every block lies inside its array. -/
theorem ok_pfN : ok0 (F := Ideal) pfN := ok_pfN_0

/-- The two tables as admissible contents, and the pipeline at them: forty grid points. -/
def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ) (ρ : Dev nD → PrngReg)

/-! ## A point's coordinates, words and staging memrefs -/

/-- Point `t`'s coordinates. -/
abbrev crd (t : Fin cfgA.N) : cfgA.grid.Coords := cfgA.grid.coords t

/-- Each window's current staging memref at point `t`, spelled as the pipeline passes it, and its wholeness. -/
abbrev ms0_0 (t : Fin cfgA.N) : Memref sig .tc .vmem S2x512x1024 .bf16 := spec0_0.stage (cfgA.slots t (0 : Fin 4))
abbrev hs0_0 (t : Fin cfgA.N) : (ms0_0 t).IsWhole := hstage0_0 ((cfgA.slots t (0 : Fin 4)).cast nbuf0_0)
abbrev ms0_1 (t : Fin cfgA.N) : Memref sig .tc .vmem S2x512x1024 .bf16 := spec0_1.stage (cfgA.slots t (1 : Fin 4))
abbrev hs0_1 (t : Fin cfgA.N) : (ms0_1 t).IsWhole := hstage0_1 ((cfgA.slots t (1 : Fin 4)).cast nbuf0_1)
abbrev ms0_2 (t : Fin cfgA.N) : Memref sig .tc .vmem S2x512x1024 .bf16 := spec0_2.stage (cfgA.slots t (2 : Fin 4))
abbrev hs0_2 (t : Fin cfgA.N) : (ms0_2 t).IsWhole := hstage0_2 ((cfgA.slots t (2 : Fin 4)).cast nbuf0_2)
abbrev ms0_3 (t : Fin cfgA.N) : Memref sig .tc .vmem S2x512x512 .f32 := spec0_3.stage (cfgA.slots t (3 : Fin 4))
abbrev hs0_3 (t : Fin cfgA.N) : (ms0_3 t).IsWhole := hstage0_3 ((cfgA.slots t (3 : Fin 4)).cast nbuf0_3)

/-! ## The windows' blocks -/

/-- Window `w`'s block at point `t`, read off its array at launch. -/
def iblk (c : Dev nD) (w : Fin cfgA.W) (t : Fin cfgA.N) : ((cfgA.win w).xblock (crd t)).Idx → Elt Ideal (cfgA.win w).elt :=
  ((cfgA.win w).blk t).view.read (Elt Ideal) ((s₀ m ρ).mem ((cfgA.win w).arr.view.loc (c : Thread nD τ)))

/-! ## The control's decisions at a point, at the pinned words (what tells the paths apart) -/

abbrev P0_0 (t : Fin cfgA.N) : Prop := IsFirst (crd t) pinT_1
abbrev P0_1 (t : Fin cfgA.N) : Prop := IsOff (crd t) pinT_0 pinT_1

/-- Whether scratch 0 (`cc0_scratch0`) holds nothing a point has determined, before position `n`: until a path that stores it
    whole first (A, B) has run. -/
def sfresh0_0 : ℕ → Bool
  | 0 => true
  | n + 1 => if h : n < cfgA.N then (if P0_0 ⟨n, h⟩ then (if P0_1 ⟨n, h⟩ then false else false) else (if P0_1 ⟨n, h⟩ then sfresh0_0 n else sfresh0_0 n)) else true

/-- The same in closed form: fresh up to the first point that overwrites it. -/
def sfirst0_0 : ℕ := 0
def sfrTab0_0 : ℕ → Bool := fun n => decide (n ≤ sfirst0_0)

/-- Whether scratch 1 (`cc0_scratch1`) holds nothing a point has determined, before position `n`: until a path that stores it
    whole first (A, B) has run. -/
def sfresh0_1 : ℕ → Bool
  | 0 => true
  | n + 1 => if h : n < cfgA.N then (if P0_0 ⟨n, h⟩ then (if P0_1 ⟨n, h⟩ then false else false) else (if P0_1 ⟨n, h⟩ then sfresh0_1 n else sfresh0_1 n)) else true

/-- The same in closed form: fresh up to the first point that overwrites it. -/
def sfirst0_1 : ℕ := 0
def sfrTab0_1 : ℕ → Bool := fun n => decide (n ≤ sfirst0_1)

set_option backward.proofsInPublic true in
/-- Whether nothing is stored into the output block since its last write-back, before each position from 1 on, as a bit mask. -/
def frMask0_3 : ℕ := 0xffffffffff
/-- `cfgA.fresh 3` TABULATED (TableIdle.lean `Cfg.fresh_tab`): true before the first point, then the table. -/
def frTab0_3 : ℕ → Bool
  | 0 => true
  | n + 1 => frMask0_3.testBit n

variable (m : (ℓ : Loc nD τ sig) → Buf (Elt Ideal) ℓ) (ρ : Dev nD → PrngReg)

/-! ## Every per-point fact as ONE proposition -/

/-- What is decided at the point `t`: how the freshness tables step, which path the body takes there and which
    buffers hold junk before and after it. -/
abbrev FactsAt (t : Fin cfgA.N) : Prop :=
  -- sfrTab0_0_step, sfrTab0_1_step, frTab0_3_step, hyps0_A, sched0_A, hyps0_B, sched0_B, hyps0_C, sched0_C, hyps0_D, sched0_D
  (sfrTab0_0 (t.val + 1) = (if P0_0 t then (if P0_1 t then false else false) else (if P0_1 t then sfrTab0_0 t.val else sfrTab0_0 t.val)))
  ∧ (sfrTab0_1 (t.val + 1) = (if P0_0 t then (if P0_1 t then false else false) else (if P0_1 t then sfrTab0_1 t.val else sfrTab0_1 t.val)))
  ∧ (frTab0_3 (t.val + 1) = ((cfgA.win (3 : Fin 4)).flush t || (cfgA.idle (3 : Fin 4) (cfgA.grid.coords t) && frTab0_3 t.val)))
  ∧ (P0_0 t → ¬P0_1 t → (IsFirst (crd t) pinT_1) ∧ ((¬(IsOff (crd t) pinT_0 pinT_1)) ∧ ((IsDiag (crd t) pinT_0 pinT_1) ∧ (True))))
  ∧ (P0_0 t → ¬P0_1 t → cfgA.idle (3 : Fin 4) (cfgA.grid.coords t) = false ∧ (cfgA.win (3 : Fin 4)).flush t = true ∧ frTab0_3 t.val = true ∧ sfrTab0_0 (t.val + 1) = false ∧ sfrTab0_1 (t.val + 1) = false)
  ∧ (P0_0 t → P0_1 t → (IsFirst (crd t) pinT_1) ∧ ((IsOff (crd t) pinT_0 pinT_1) ∧ ((¬(IsDiag (crd t) pinT_0 pinT_1)) ∧ (True))))
  ∧ (P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false)
  ∧ (¬P0_0 t → ¬P0_1 t → (¬(IsFirst (crd t) pinT_1)) ∧ ((¬(IsOff (crd t) pinT_0 pinT_1)) ∧ ((IsDiag (crd t) pinT_0 pinT_1) ∧ (True))))
  ∧ (¬P0_0 t → ¬P0_1 t → cfgA.idle (3 : Fin 4) (cfgA.grid.coords t) = false ∧ (cfgA.win (3 : Fin 4)).flush t = true ∧ frTab0_3 t.val = true ∧ sfrTab0_0 t.val = false ∧ sfrTab0_0 (t.val + 1) = false ∧ sfrTab0_1 t.val = false ∧ sfrTab0_1 (t.val + 1) = false)
  ∧ (¬P0_0 t → P0_1 t → (¬(IsFirst (crd t) pinT_1)) ∧ ((IsOff (crd t) pinT_0 pinT_1) ∧ ((¬(IsDiag (crd t) pinT_0 pinT_1)) ∧ (True))))
  ∧ (¬P0_0 t → P0_1 t → cfgA.idle (3 : Fin 4) (cfgA.grid.coords t) = true ∧ (cfgA.win (3 : Fin 4)).flush t = false ∧ frTab0_3 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))

theorem allFacts_0_0 : ∀ t : Fin (cfgA).N, 0 ≤ t.val → t.val < 5 → FactsAt t := by decide +kernel
theorem allFacts_0_1 : ∀ t : Fin (cfgA).N, 5 ≤ t.val → t.val < 10 → FactsAt t := by decide +kernel
theorem allFacts_0_2 : ∀ t : Fin (cfgA).N, 10 ≤ t.val → t.val < 15 → FactsAt t := by decide +kernel
theorem allFacts_0_3 : ∀ t : Fin (cfgA).N, 15 ≤ t.val → t.val < 20 → FactsAt t := by decide +kernel
theorem allFacts_0_4 : ∀ t : Fin (cfgA).N, 20 ≤ t.val → t.val < 25 → FactsAt t := by decide +kernel
theorem allFacts_0_5 : ∀ t : Fin (cfgA).N, 25 ≤ t.val → t.val < 30 → FactsAt t := by decide +kernel
theorem allFacts_0_6 : ∀ t : Fin (cfgA).N, 30 ≤ t.val → t.val < 35 → FactsAt t := by decide +kernel
theorem allFacts_0_7 : ∀ t : Fin (cfgA).N, 35 ≤ t.val → t.val < 40 → FactsAt t := by decide +kernel
theorem allFacts_0 : ∀ t : Fin (cfgA).N, FactsAt t := fun t => by
  have h0 : 0 ≤ t.val := Nat.zero_le _
  rcases Nat.lt_or_ge t.val 5 with h1 | h1; · exact allFacts_0_0 t h0 h1
  rcases Nat.lt_or_ge t.val 10 with h2 | h2; · exact allFacts_0_1 t h1 h2
  rcases Nat.lt_or_ge t.val 15 with h3 | h3; · exact allFacts_0_2 t h2 h3
  rcases Nat.lt_or_ge t.val 20 with h4 | h4; · exact allFacts_0_3 t h3 h4
  rcases Nat.lt_or_ge t.val 25 with h5 | h5; · exact allFacts_0_4 t h4 h5
  rcases Nat.lt_or_ge t.val 30 with h6 | h6; · exact allFacts_0_5 t h5 h6
  rcases Nat.lt_or_ge t.val 35 with h7 | h7; · exact allFacts_0_6 t h6 h7
  exact allFacts_0_7 t h7 t.isLt

end Cert.KernelIdeal.Attn

end
-- ==== Proof.AttnIdeal.Body.lean ====
/- The forty grid points in order: what the output block and the scratch buffers hold after each, and the
   proof that the body keeps to it. -/
module

public import proofs.«01_k».proof.Proof.AttnIdeal.Schedule

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (m : (ℓ : Loc nD τ sig) → Buf (Elt Ideal) ℓ) (ρ : Dev nD → PrngReg)

/-- The facts at every point (decided in slices of the points). -/
theorem allFacts : ∀ (t : Fin cfgA.N), FactsAt t := allFacts_0

/-! ## The named facts — the freshness tables' steps, each path's hypotheses and schedule —: its projections -/

theorem sfrTab0_0_step : ∀ (t : Fin cfgA.N), sfrTab0_0 (t.val + 1) = (if P0_0 t then (if P0_1 t then false else false) else (if P0_1 t then sfrTab0_0 t.val else sfrTab0_0 t.val)) := fun t => (allFacts t).1
theorem sfresh0_0_eq : ∀ n, n ≤ cfgA.N → sfresh0_0 n = sfrTab0_0 n
  | 0, _ => by simp only [sfresh0_0, sfrTab0_0, Nat.zero_le, decide_true]
  | n + 1, h => by simp only [sfresh0_0, dif_pos (show n < cfgA.N from h), sfresh0_0_eq n (Nat.le_of_lt h), sfrTab0_0_step ⟨n, h⟩]
theorem sfreshF0_0 (t : Fin cfgA.N) : sfresh0_0 t.val = sfrTab0_0 t.val := sfresh0_0_eq t.val (Nat.le_of_lt t.isLt)
theorem sfreshS0_0 (t : Fin cfgA.N) : sfresh0_0 (t.val + 1) = sfrTab0_0 (t.val + 1) := sfresh0_0_eq (t.val + 1) t.isLt

theorem sfrTab0_1_step : ∀ (t : Fin cfgA.N), sfrTab0_1 (t.val + 1) = (if P0_0 t then (if P0_1 t then false else false) else (if P0_1 t then sfrTab0_1 t.val else sfrTab0_1 t.val)) := fun t => (allFacts t).2.1
theorem sfresh0_1_eq : ∀ n, n ≤ cfgA.N → sfresh0_1 n = sfrTab0_1 n
  | 0, _ => by simp only [sfresh0_1, sfrTab0_1, Nat.zero_le, decide_true]
  | n + 1, h => by simp only [sfresh0_1, dif_pos (show n < cfgA.N from h), sfresh0_1_eq n (Nat.le_of_lt h), sfrTab0_1_step ⟨n, h⟩]
theorem sfreshF0_1 (t : Fin cfgA.N) : sfresh0_1 t.val = sfrTab0_1 t.val := sfresh0_1_eq t.val (Nat.le_of_lt t.isLt)
theorem sfreshS0_1 (t : Fin cfgA.N) : sfresh0_1 (t.val + 1) = sfrTab0_1 (t.val + 1) := sfresh0_1_eq (t.val + 1) t.isLt

theorem frTab0_3_step : ∀ (t : Fin cfgA.N),
    frTab0_3 (t.val + 1) = ((cfgA.win (3 : Fin 4)).flush t || (cfgA.idle (3 : Fin 4) (cfgA.grid.coords t) && frTab0_3 t.val)) := fun t => (allFacts t).2.2.1
theorem freshF0_3 (t : Fin cfgA.N) : cfgA.fresh (3 : Fin 4) t.val = frTab0_3 t.val :=
  Pipeline.Cfg.fresh_tab cfgA (3 : Fin 4) frTab0_3 rfl frTab0_3_step t.val (Nat.le_of_lt t.isLt)

/-- At a point of path A, the path's hypotheses hold of the words the body reads there (the pinned tables read,
    a pinned window's word AS the word `pinBlk t (r.idx x)`; the checks among them cited from `ChecksAt`). -/
theorem hyps0_A : ∀ (t : Fin cfgA.N), P0_0 t → ¬P0_1 t →
    (IsFirst (crd t) pinT_1) ∧ ((¬(IsOff (crd t) pinT_0 pinT_1)) ∧ ((IsDiag (crd t) pinT_0 pinT_1) ∧ (True))) := fun t => (allFacts t).2.2.2.1

theorem hypsR0_A : ∀ (t : Fin cfgA.N), P0_0 t → ¬P0_1 t →
    (IsFirst (crd t) pinT_1) ∧ ((¬(IsOff (crd t) pinT_0 pinT_1)) ∧ ((IsDiag (crd t) pinT_0 pinT_1) ∧ (True))) := hyps0_A

/-- At a point of path A: the idle table, the write-backs and which buffers hold junk (decided over the
    freshness tables `frTab`/`sfrTab`, restated over `Cfg.fresh`/`sfresh` by their agreement). -/
theorem sched0_A : ∀ (t : Fin cfgA.N), P0_0 t → ¬P0_1 t →
    cfgA.idle (3 : Fin 4) (cfgA.grid.coords t) = false ∧ (cfgA.win (3 : Fin 4)).flush t = true ∧ cfgA.fresh (3 : Fin 4) t.val = true ∧ sfresh0_0 (t.val + 1) = false ∧ sfresh0_1 (t.val + 1) = false := by
  intro t; rw [freshF0_3 t, sfreshS0_0 t, sfreshS0_1 t]; exact (fun t => (allFacts t).2.2.2.2.1) t

/-- At a point of path B, the path's hypotheses hold of the words the body reads there (the pinned tables read,
    a pinned window's word AS the word `pinBlk t (r.idx x)`; the checks among them cited from `ChecksAt`). -/
theorem hyps0_B : ∀ (t : Fin cfgA.N), P0_0 t → P0_1 t →
    (IsFirst (crd t) pinT_1) ∧ ((IsOff (crd t) pinT_0 pinT_1) ∧ ((¬(IsDiag (crd t) pinT_0 pinT_1)) ∧ (True))) := fun t => (allFacts t).2.2.2.2.2.1

theorem hypsR0_B : ∀ (t : Fin cfgA.N), P0_0 t → P0_1 t →
    (IsFirst (crd t) pinT_1) ∧ ((IsOff (crd t) pinT_0 pinT_1) ∧ ((¬(IsDiag (crd t) pinT_0 pinT_1)) ∧ (True))) := hyps0_B

/-- At a point of path B: the idle table, the write-backs and which buffers hold junk (decided over the
    freshness tables `frTab`/`sfrTab`, restated over `Cfg.fresh`/`sfresh` by their agreement). -/
theorem sched0_B : ∀ (t : Fin cfgA.N), P0_0 t → P0_1 t →
    cfgA.idle (3 : Fin 4) (cfgA.grid.coords t) = true ∧ (cfgA.win (3 : Fin 4)).flush t = false ∧ cfgA.fresh (3 : Fin 4) t.val = true ∧ sfresh0_0 t.val = false ∧ sfresh0_0 (t.val + 1) = false ∧ sfresh0_1 t.val = false ∧ sfresh0_1 (t.val + 1) = false := by
  intro t; rw [freshF0_3 t, sfreshF0_0 t, sfreshS0_0 t, sfreshF0_1 t, sfreshS0_1 t]; exact (fun t => (allFacts t).2.2.2.2.2.2.1) t

/-- At a point of path C, the path's hypotheses hold of the words the body reads there (the pinned tables read,
    a pinned window's word AS the word `pinBlk t (r.idx x)`; the checks among them cited from `ChecksAt`). -/
theorem hyps0_C : ∀ (t : Fin cfgA.N), ¬P0_0 t → ¬P0_1 t →
    (¬(IsFirst (crd t) pinT_1)) ∧ ((¬(IsOff (crd t) pinT_0 pinT_1)) ∧ ((IsDiag (crd t) pinT_0 pinT_1) ∧ (True))) := fun t => (allFacts t).2.2.2.2.2.2.2.1

theorem hypsR0_C : ∀ (t : Fin cfgA.N), ¬P0_0 t → ¬P0_1 t →
    (¬(IsFirst (crd t) pinT_1)) ∧ ((¬(IsOff (crd t) pinT_0 pinT_1)) ∧ ((IsDiag (crd t) pinT_0 pinT_1) ∧ (True))) := hyps0_C

/-- At a point of path C: the idle table, the write-backs and which buffers hold junk (decided over the
    freshness tables `frTab`/`sfrTab`, restated over `Cfg.fresh`/`sfresh` by their agreement). -/
theorem sched0_C : ∀ (t : Fin cfgA.N), ¬P0_0 t → ¬P0_1 t →
    cfgA.idle (3 : Fin 4) (cfgA.grid.coords t) = false ∧ (cfgA.win (3 : Fin 4)).flush t = true ∧ cfgA.fresh (3 : Fin 4) t.val = true ∧ sfresh0_0 t.val = false ∧ sfresh0_0 (t.val + 1) = false ∧ sfresh0_1 t.val = false ∧ sfresh0_1 (t.val + 1) = false := by
  intro t; rw [freshF0_3 t, sfreshF0_0 t, sfreshS0_0 t, sfreshF0_1 t, sfreshS0_1 t]; exact (fun t => (allFacts t).2.2.2.2.2.2.2.2.1) t

/-- At a point of path D, the path's hypotheses hold of the words the body reads there (the pinned tables read,
    a pinned window's word AS the word `pinBlk t (r.idx x)`; the checks among them cited from `ChecksAt`). -/
theorem hyps0_D : ∀ (t : Fin cfgA.N), ¬P0_0 t → P0_1 t →
    (¬(IsFirst (crd t) pinT_1)) ∧ ((IsOff (crd t) pinT_0 pinT_1) ∧ ((¬(IsDiag (crd t) pinT_0 pinT_1)) ∧ (True))) := fun t => (allFacts t).2.2.2.2.2.2.2.2.2.1

theorem hypsR0_D : ∀ (t : Fin cfgA.N), ¬P0_0 t → P0_1 t →
    (¬(IsFirst (crd t) pinT_1)) ∧ ((IsOff (crd t) pinT_0 pinT_1) ∧ ((¬(IsDiag (crd t) pinT_0 pinT_1)) ∧ (True))) := hyps0_D

/-- At a point of path D: the idle table, the write-backs and which buffers hold junk (decided over the
    freshness tables `frTab`/`sfrTab`, restated over `Cfg.fresh`/`sfresh` by their agreement). -/
theorem sched0_D : ∀ (t : Fin cfgA.N), ¬P0_0 t → P0_1 t →
    cfgA.idle (3 : Fin 4) (cfgA.grid.coords t) = true ∧ (cfgA.win (3 : Fin 4)).flush t = false ∧ cfgA.fresh (3 : Fin 4) t.val = true ∧ sfresh0_0 t.val = false ∧ sfresh0_0 (t.val + 1) = false ∧ sfresh0_1 t.val = false ∧ sfresh0_1 (t.val + 1) = false := by
  intro t; rw [freshF0_3 t, sfreshF0_0 t, sfreshS0_0 t, sfreshF0_1 t, sfreshS0_1 t]; exact (fun t => (allFacts t).2.2.2.2.2.2.2.2.2.2) t

/-! ## What the outputs and scratches hold after each point -/

/-- ONE STEP of the trajectory: what the outputs' current buffers and the scratches hold after the body at point `t`
    (output 3, scratch 0, scratch 1), from what they held before (`prev`): the path the decisions select at `t`, its
    run's contents; an output the path leaves idle keeps what it held (junk — `default`, named by nothing — where fresh). -/
def step0 (c : Dev nD) (t : Fin cfgA.N) (prev : (S2x512x512.Idx → Elt Ideal .f32) × Buf (Elt Ideal) ((c : Thread nD τ).loc cc0_scratch0) × Buf (Elt Ideal) ((c : Thread nD τ).loc cc0_scratch1)) : (S2x512x512.Idx → Elt Ideal .f32) × Buf (Elt Ideal) ((c : Thread nD τ).loc cc0_scratch0) × Buf (Elt Ideal) ((c : Thread nD τ).loc cc0_scratch1) :=
  if q0 : P0_0 t then
    if q1 : P0_1 t then
      ((if cfgA.fresh (3 : Fin 4) t.val then default else prev.1), (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.1)
    else
      (out0_A_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.1)
  else
    if q1 : P0_1 t then
      ((if cfgA.fresh (3 : Fin 4) t.val then default else prev.1), (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1).1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1).2.1)
    else
      (out0_C_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1).2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1).2.2.1)

/-- THE TRAJECTORY: after position `n`. -/
def traj0 (c : Dev nD) : (n : ℕ) → n < cfgA.N → (S2x512x512.Idx → Elt Ideal .f32) × Buf (Elt Ideal) ((c : Thread nD τ).loc cc0_scratch0) × Buf (Elt Ideal) ((c : Thread nD τ).loc cc0_scratch1)
  | 0, h => step0 m ρ c ⟨0, h⟩ (default, default, default)
  | n + 1, h => step0 m ρ c ⟨n + 1, h⟩ (traj0 c n (Nat.lt_of_succ_lt h))

/-- What they held BEFORE point `t` (junk before the first). -/
def prev0 (c : Dev nD) (t : Fin cfgA.N) : (S2x512x512.Idx → Elt Ideal .f32) × Buf (Elt Ideal) ((c : Thread nD τ).loc cc0_scratch0) × Buf (Elt Ideal) ((c : Thread nD τ).loc cc0_scratch1) :=
  if h : t.val = 0 then (default, default, default) else traj0 m ρ c (t.val - 1) (by omega)

theorem traj0_eq (c : Dev nD) (t : Fin cfgA.N) : traj0 m ρ c t.val t.isLt = step0 m ρ c t (prev0 m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : ¬P0_1 t) :
    step0 m ρ c t prev = (out0_A_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.1, (kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_A t q0 q1).1 (hypsR0_A t q0 q1).2.1 (hypsR0_A t q0 q1).2.2.1).2.2.1) := by
  unfold step0; simp only [dif_pos q0, dif_neg q1]

/-- `step0` at a point of path B. -/
theorem step0_B (c : Dev nD) (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : P0_1 t) :
    step0 m ρ c t prev = ((if cfgA.fresh (3 : Fin 4) t.val then default else prev.1), (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).1, (kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) (hypsR0_B t q0 q1).1 (hypsR0_B t q0 q1).2.1 (hypsR0_B t q0 q1).2.2.1).2.1) := by
  unfold step0; simp only [dif_pos q0, dif_pos q1]

/-- `step0` at a point of path C. -/
theorem step0_C (c : Dev nD) (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : ¬P0_1 t) :
    step0 m ρ c t prev = (out0_C_3 c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1).2.1, (kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1).2.2.1) := by
  unfold step0; simp only [dif_neg q0, dif_neg q1]

/-- `step0` at a point of path D. -/
theorem step0_D (c : Dev nD) (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : P0_1 t) :
    step0 m ρ c t prev = ((if cfgA.fresh (3 : Fin 4) t.val then default else prev.1), (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1).1, (kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1).2.1) := by
  unfold step0; simp only [dif_neg q0, dif_pos q1]

/-! ## The pipeline's proof data -/

/-- What the tracked buffers held before position `t` of `Fin (N+1)` (the invariant's index). -/
def prev0T (c : Dev nD) (t : Fin (cfgA.N + 1)) : (S2x512x512.Idx → Elt Ideal .f32) × Buf (Elt Ideal) ((c : Thread nD τ).loc cc0_scratch0) × Buf (Elt Ideal) ((c : Thread nD τ).loc cc0_scratch1) :=
  if h : t.val = 0 then (default, default, default) else traj0 m ρ c (t.val - 1) (by omega)

theorem prev0T_castSucc (c : Dev nD) (t : Fin cfgA.N) : prev0T m ρ c t.castSucc = prev0 m ρ c t := by
  unfold prev0T prev0; simp only [Fin.val_castSucc]
theorem prev0T_succ (c : Dev nD) (t : Fin cfgA.N) : prev0T m ρ c t.succ = traj0 m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin (cfgA.N + 1)) : sProp 𝕄 :=
  iprop((∃ a, ⌜sfresh0_0 t.val = false → a = (prev0T m ρ c t).2.1⌝ ∗ (scM0_0.view.loc (c : Thread nD τ) ↦{fullShare} a)) ∗ (∃ a, ⌜sfresh0_1 t.val = false → a = (prev0T m ρ c t).2.2⌝ ∗ (scM0_1.view.loc (c : Thread nD τ) ↦{fullShare} a)) ∗ (tbM0_0.view.loc (c : Thread nD τ) ↦{fullShare.right} pinT_0) ∗ (tbM0_1.view.loc (c : Thread nD τ) ↦{fullShare.right} pinT_1))

/-- The proof data of the one pipeline on core `c`. -/
def dats (_ : Fin 1) (c : Dev nD) : Dat τ (Elt Ideal) Unit ℕ (UR sig nD τ) ℕ cfgA c where
  A w := (s₀ m ρ).mem ((cfgA.win w).arr.view.loc (c : Thread nD τ))
  after w t := match w with
    | ⟨0, _⟩ => iblk m ρ c (0 : Fin 4) t
    | ⟨1, _⟩ => iblk m ρ c (1 : Fin 4) t
    | ⟨2, _⟩ => iblk m ρ c (2 : Fin 4) t
    | ⟨3, _⟩ => (traj0 m ρ c t.val t.isLt).1
  Φ t := Phi m ρ c t
  q _ := fullShare
  owed _ := 0

theorem after0_0 (c : Dev nD) (t : Fin cfgA.N) : (dats m ρ 0 c).after (0 : Fin 4) t = iblk m ρ c (0 : Fin 4) t := rfl
theorem after0_1 (c : Dev nD) (t : Fin cfgA.N) : (dats m ρ 0 c).after (1 : Fin 4) t = iblk m ρ c (1 : Fin 4) t := rfl
theorem after0_2 (c : Dev nD) (t : Fin cfgA.N) : (dats m ρ 0 c).after (2 : Fin 4) t = iblk m ρ c (2 : Fin 4) t := rfl
theorem after0_3 (c : Dev nD) (t : Fin cfgA.N) : (dats m ρ 0 c).after (3 : Fin 4) t = (traj0 m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin cfgA.N) (d) : (dats m ρ 0 c).before (0 : Fin 4) t d = iblk m ρ c (0 : Fin 4) t :=
  ((dats m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin cfgA.N) (d) : (dats m ρ 0 c).before (1 : Fin 4) t d = iblk m ρ c (1 : Fin 4) t :=
  ((dats m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin cfgA.N) (d) : (dats m ρ 0 c).before (2 : Fin 4) t d = iblk m ρ c (2 : Fin 4) t :=
  ((dats m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin cfgA.N) (ht : t.val ≠ 0), cfgA.idle (3 : Fin 4) (cfgA.grid.coords t) = true → cfgA.fresh (3 : Fin 4) t.val = false →
    (dats m ρ 0 c).after (3 : Fin 4) t = (dats m ρ 0 c).after (3 : Fin 4) ⟨t.val - 1, by omega⟩ := by
  intro t ht hi hf
  rw [after0_3, after0_3, traj0_eq]
  by_cases q0 : P0_0 t
  · by_cases q1 : P0_1 t
    · rw [step0_B m ρ c t _ q0 q1]
      simp only [hf, Bool.false_eq_true, ↓reduceIte]
      unfold prev0; rw [dif_neg ht]
    · obtain ⟨i3, -, -, -, -⟩ := sched0_A t q0 q1
      rw [i3] at hi; exact absurd hi (by decide)
  · by_cases q1 : P0_1 t
    · rw [step0_D m ρ c t _ q0 q1]
      simp only [hf, Bool.false_eq_true, ↓reduceIte]
      unfold prev0; rw [dif_neg ht]
    · obtain ⟨i3, -, -, -, -, -, -⟩ := sched0_C t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin cfgA.N) (d) :
    (dats m ρ 0 c).before (3 : Fin 4) t d = if cfgA.fresh (3 : Fin 4) t.val then d else (prev0 m ρ c t).1 := by
  rw [(dats m ρ 0 c).before_out_traj (3 : Fin 4) rfl (fun _ _ => rfl) (hcarry0_3 m ρ c) t.val t rfl d]
  by_cases hf : cfgA.fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin cfgA.N) : Prog (TpuEff nD τ sig (Elt Ideal) Λ₀ .tc) PUnit :=
  cc0_mla_prompt_attn (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (Memref.whole cc0_scratch0) (Memref.isWhole_whole _) (Memref.whole cc0_scratch1) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned m) (c : Dev nD) (t : Fin cfgA.N) :
    iprop((dats m ρ 0 c).Φ t.castSucc ∗ (dats m ρ 0 c).owesAt () t.castSucc
        ∗ (∃ d, owns (c : Thread nD τ) (ms0_0 t) fullShare ((dats m ρ 0 c).before (0 : Fin 4) t d))
        ∗ (∃ d, owns (c : Thread nD τ) (ms0_1 t) fullShare ((dats m ρ 0 c).before (1 : Fin 4) t d))
        ∗ (∃ d, owns (c : Thread nD τ) (ms0_2 t) fullShare ((dats m ρ 0 c).before (2 : Fin 4) t d))
        ∗ (∃ d, owns (c : Thread nD τ) (ms0_3 t) fullShare ((dats m ρ 0 c).before (3 : Fin 4) t d)))
      ⊢ wp frame (wpE (defs₀ (F := Ideal)) Variants.none c none) Set.univ (bodyAt0 t) fun _ =>
          iprop((dats m ρ 0 c).Φ t.succ ∗ (dats m ρ 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m ρ 0 c).before w t d))
                  | true => owns (c : Thread nD τ) ((cfgA.win w).stage (cfgA.slots t w)) fullShare ((dats m ρ 0 c).after w t)
                | false => owns (c : Thread nD τ) ((cfgA.win w).stage (cfgA.slots t w)) fullShare ((dats m ρ 0 c).after w t)) := by
  rw [bigSep_W0]
  by_cases q0 : P0_0 t
  · by_cases q1 : P0_1 t
    · obtain ⟨i3, f3, fr3, sf0, sfn0, sf1, sfn1⟩ := sched0_B t q0 q1
      have F0 := hypsR0_B t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_B m ρ c t _ q0 q1]
      unfold Phi; simp only [prev0T_castSucc, prev0T_succ, traj0_eq, step0_B m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_B c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) hc0 hc1 k0_h3).2.2 _ a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1⟩ := sched0_A t q0 q1
      have F0 := hypsR0_A t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_A m ρ c t _ q0 q1]
      unfold Phi; simp only [prev0T_castSucc, prev0T_succ, traj0_eq, step0_A m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩⟩
      iapply ((kernelRun0_A c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) hc0 hc1 k0_h3).2.2.2 a0 a1 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _)
  · by_cases q1 : P0_1 t
    · obtain ⟨i3, f3, fr3, sf0, sfn0, sf1, sfn1⟩ := sched0_D t q0 q1
      have F0 := hypsR0_D t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_D m ρ c t _ q0 q1]
      unfold Phi; simp only [prev0T_castSucc, prev0T_succ, traj0_eq, step0_D m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_D c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) _ _ hc0 hc1 k0_h3).2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1⟩ := sched0_C t q0 q1
      have F0 := hypsR0_C t q0 q1
      have hc0 := F0.1; have F1 := F0.2
      have hc1 := F1.1; have F2 := F1.2
      have k0_h3 := F2.1; have F3 := F2.2
      clear F0 F1 F2 F3
      rewrite [i3]
      simp only [before0_0, before0_1, before0_2, before0_3, after0_0, after0_1, after0_2, after0_3, f3]
      simp only [fr3, Bool.false_eq_true, ↓reduceIte]
      rewrite [show (dats m ρ 0 c).Φ t.succ = Phi m ρ c t.succ from rfl, show (dats m ρ 0 c).Φ t.castSucc = Phi m ρ c t.castSucc from rfl,
        show (dats m ρ 0 c).owesAt () t.succ = (dats m ρ 0 c).owesAt () t.castSucc from rfl]
      try rewrite [traj0_eq, step0_C m ρ c t _ q0 q1]
      unfold Phi; simp only [prev0T_castSucc, prev0T_succ, traj0_eq, step0_C m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩⟩
      iapply ((kernelRun0_C c (crd t) (ms0_0 t) (hs0_0 t) (ms0_1 t) (hs0_1 t) (ms0_2 t) (hs0_2 t) (ms0_3 t) (hs0_3 t) pinT_0 pinT_1 (iblk m ρ c (0 : Fin 4) t) (iblk m ρ c (1 : Fin 4) t) (iblk m ρ c (2 : Fin 4) t) _ _ hc0 hc1 k0_h3).2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      iintro ⟨H0, H1, H2, HT0, HT1, ⟨%e3, H3⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _)

/-- The library's body obligation, at every point. -/
theorem body_obligation (hp : Pinned m) (c : Dev nD) : BodyObligation (dats m ρ 0 c) (defs₀ (F := Ideal)) Variants.none () Set.univ := fun t => by
  rw [bigSep_W0]
  exact sound_body m ρ hp c t

end Cert.KernelIdeal.Attn

end
-- ==== Proof.AttnIdeal.Launch.lean ====
/- The launch of the attention: the host operations that build its tables and lay out its operands, then the
   forty grid points; what every buffer of interest holds at the end. -/
module

public import proofs.«01_k».proof.Proof.AttnIdeal.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resources of the separation logic at this program. -/
local notation "𝕄" => MT nD τ sig Unit (Elt Ideal) ℕ (UR sig nD τ) ℕ

variable (m : (ℓ : Loc nD τ sig) → Buf (Elt Ideal) ℓ) (ρ : Dev nD → PrngReg)

/-- The rounds library's launch element. -/
def u₀ : UR sig nD τ :=
  initOf (Pipeline.cells pcs ((launch0 (F := Ideal)).cellOf_inj fun _ => adm))
    (Pipeline.launchToks pcs ((launch0 (F := Ideal)).cellOf_inj fun _ => adm))

theorem share_eq (c : Dev nD) (w : Fin cfgA.W) : (dats m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) adm.1 ∗ Pipeline.scopedRest spec0 c) ⊢ (dats m ρ 0 c).Φ 0 := by
  rw [prefHeld_eq, scopedRest0_eq, show (dats m ρ 0 c).Φ 0 = Phi m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HT0]
  · iexact HT0
  iexact HT1

/-- at the last point it gives the scratch buffers back (`hout`), the tables let go. -/
theorem phiN_exit (c : Dev nD) : (dats m ρ 0 c).Φ (Fin.last cfgA.N) ⊢ iprop(BI.emp ∗ Pipeline.scopedRest spec0 c) := by
  rw [scopedRest0_eq, show (dats m ρ 0 c).Φ (Fin.last cfgA.N) = Phi m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The memory after the host operations: what the region is entered with. -/
def mid : (ℓ : Loc nD τ sig) → Buf (Elt Ideal) ℓ := fun ℓ => StableHlo.after (hostOps0 (F := Ideal)) (fun b => m (ℓ.1, b)) ℓ.2

/-- The host operations write their own results only. -/
theorem hostOps0_writes : (hostOps0 (F := Ideal)).Forall fun op => op.writes ⊆ (([main_c, main_c_0, main_v0, main_c_1, main_v1, main_v2, main_v3, main_v4,
    main_cst, main_v5, main_v6, main_v7, main_v8, main_v9, main_cst_2, main_v10, main_v11, main_cst_3, main_v12, main_v13, main_v14] : List (Ref sig .tc)).map
      (Proc.devRef (τ := τ) .tc)).toFinset :=
  StableHlo.forall_writes_sub_of_map rfl

/-- An argument is what it was after the host operations. -/
theorem mid_arg0 (c : Dev nD) : mid m ((c : Thread nD τ).loc main_arg0) = m ((c : Thread nD τ).loc main_arg0) :=
  StableHlo.after_of_writes_sub _ _ hostOps0_writes (by decide)
theorem mid_arg1 (c : Dev nD) : mid m ((c : Thread nD τ).loc main_arg1) = m ((c : Thread nD τ).loc main_arg1) :=
  StableHlo.after_of_writes_sub _ _ hostOps0_writes (by decide)
theorem mid_arg2 (c : Dev nD) : mid m ((c : Thread nD τ).loc main_arg2) = m ((c : Thread nD τ).loc main_arg2) :=
  StableHlo.after_of_writes_sub _ _ hostOps0_writes (by decide)

/-- The first table after the host operations is the literal they write. -/
theorem mid_table0 (c : Dev nD) : mid m ((c : Thread nD τ).loc main_c) = fun i => lit0 (S10.rowMajor i) := by
  delta mid; simp only [Thread.loc]
  rw [show (hostOps0 (F := Ideal)) = StableHlo.nullary main_c (fun i => lit0 (S10.rowMajor i)) :: (hostOps0 (F := Ideal)).tail from rfl, StableHlo.after_cons,
    StableHlo.after_of_writes_sub (r := main_c) (W := [main_c_0, main_v0, main_c_1, main_v1, main_v2, main_v3, main_v4,
      main_cst, main_v5, main_v6, main_v7, main_v8, main_v9, main_cst_2, main_v10, main_v11, main_cst_3, main_v12, main_v13, main_v14]) _ _
      (StableHlo.forall_writes_sub_of_map rfl) (by decide)]
  exact StableHlo.nullary_result _ _ _ _

/-- The second table after the host operations is the literal they write. -/
theorem mid_table1 (c : Dev nD) : mid m ((c : Thread nD τ).loc main_c_0) = fun i => lit1 (S10.rowMajor i) := by
  delta mid; simp only [Thread.loc]
  rw [show (hostOps0 (F := Ideal)) = StableHlo.nullary main_c (fun i => lit0 (S10.rowMajor i)) :: StableHlo.nullary main_c_0 (fun i => lit1 (S10.rowMajor i)) :: (hostOps0 (F := Ideal)).tail.tail from rfl,
    StableHlo.after_cons, StableHlo.after_cons,
    StableHlo.after_of_writes_sub (r := main_c_0) (W := [main_v0, main_c_1, main_v1, main_v2, main_v3, main_v4,
      main_cst, main_v5, main_v6, main_v7, main_v8, main_v9, main_cst_2, main_v10, main_v11, main_cst_3, main_v12, main_v13, main_v14]) _ _
      (StableHlo.forall_writes_sub_of_map rfl) (by decide)]
  exact StableHlo.nullary_result _ _ _ _

/-- Each literal is the table the schedule is written at. -/
theorem lit0_eq : ∀ i : S10.Idx, lit0 (S10.rowMajor i) = pinT_0 i := by decide +kernel
theorem lit1_eq : ∀ i : S10.Idx, lit1 (S10.rowMajor i) = pinT_1 i := by decide +kernel

/-- After the host operations the tables are the schedule's. -/
theorem pinned_mid : Pinned (mid m) := by
  refine ⟨fun c => (mid_table0 m c).trans (funext fun i => ?_), fun c => (mid_table1 m c).trans (funext fun i => ?_)⟩
  · exact lit0_eq i
  · exact lit1_eq i

theorem V_pre (hp : Pinned m) (c : Dev nD) (j : Fin 2) : m ((c : Thread nD τ).loc (pre0.ref j)) = adm.1 j := by
  fin_cases j
  · exact hp.1 c
  · exact hp.2 c

/-- What holds at the end: every array of the call is at its computed contents, and the arguments are unchanged. -/
def Post : PUnit × MemSt nD τ sig (Elt Ideal) → Prop := fun r =>
  ∀ c : Dev nD, (∀ w : Fin cfgA.W, r.2.mem ((cfgA.win w).arr.view.loc (c : Thread nD τ)) = (dats (mid m) ρ 0 c).arrAt w cfgA.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxHeartbeats 4000000 in
/-- From any memory with zero counters, every weakly fair execution of the program terminates without a fault, with
    `Post` at the end and every semaphore counter at zero. -/
theorem run : θ_run (defs (F := Ideal)) (onTc (τ := τ) (main (F := Ideal))) (s₀ m ρ) (fun r => Post m ρ r ∧ r.2.sem = fun _ => 0) :=
  Pipeline.θ_run_region_noSem_pf_quiescent pcfgs (fun _ => adm) (dats (mid m) ρ) () ((launch0 (F := Ideal)).cellOf_inj fun _ => adm) (0 : Fin 1)
    (launch0 (F := Ideal)).win.to₀ (launch0 (F := Ideal)).pre EP defs₀ Variants.none m ρ main
    (hbody := fun c => (body_obligation (mid m) ρ (pinned_mid m) c).loose) (hne := (launch0 (F := Ideal)).block_pos)
    (harr := (launch0 (F := Ideal)).arr_whole) (hstage := (launch0 (F := Ideal)).stage_whole) (howed := fun _ _ => rfl)
    (u₀ := u₀) (hu₀ := .rfl)
    (V := fun c b => mid m ((c : Thread nD τ).loc b))
    (hmain := Pipeline.hmainP_prefix pcfgs 0 defs₀ Variants.none m main hostOps0 hostOps0_sub (StableHlo.forall_fresh_of_map rfl) main_chain)
    (hsplit := fun c => Pipeline.arrays_split pcs (dats (mid m) ρ) 0 (launch0 (F := Ideal)).win.arr_inj c (launch0 (F := Ideal)).arr_whole
      (share_eq (mid m) ρ c) _ _ fun _ => rfl)
    (hpf := V_pre (mid m) (pinned_mid m))
    (X := fun _ => iprop(emp)) (Y := fun _ => iprop(emp))
    (Z := fun c => Pipeline.unscopedRestP pre0 spec0 c (fun b => mid m ((c : Thread nD τ).loc b)))
    (hX := fun c => by
      iintro H; isplitr; · iempintro
      iexact H)
    (hin := phi0_intro (mid m) ρ)
    (hout := phiN_exit (mid m) ρ)
    (QY := fun c s => ∀ b ∈ Pipeline.restRefsP sig pre0 spec0, s.mem ((c : Thread nD τ).loc b) = mid m ((c : Thread nD τ).loc b))
    (hY := fun c s' => by
      iintro ⟨-, HU, HSI⟩
      unfold Pipeline.unscopedRestP
      imodintro
      iapply (pointsTo_read_all (Pipeline.restRefsP sig pre0 spec0) (fun b => (c : Thread nD τ).loc b) (fun b => mid m ((c : Thread nD τ).loc b)) s')
      isplitl [HU] <;> iassumption)
    (hQ := fun _ h hz => ⟨fun c => ⟨(h c).1, ((h c).2.2 main_arg0 (by decide)).trans (mid_arg0 m c), ((h c).2.2 main_arg1 (by decide)).trans (mid_arg1 m c),
      ((h c).2.2 main_arg2 (by decide)).trans (mid_arg2 m c)⟩, hz⟩)

/-- The program's frame: it terminates without a fault, its arguments end unchanged and every counter is zero. -/
theorem frame : θ_run (defs (F := Ideal)) (onTc (τ := τ) (main (F := Ideal))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun _ h => ⟨fun c => (h.1 c).2, h.2⟩) (run m ρ)

end Cert.KernelIdeal.Attn

end
-- ==== Proof.Plain.Reference.lean ====
/- The plain attention read at an index. -/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen
open Idealize Idealize.ShloMosaic
open Idealize.ShloMosaic.TcCoe

/-- The masked scores, -/
def scores (x0 x1 : S8x2048x8x96.Idx → Ideal .bf16) : S8x8x2048x2048.Idx → Ideal .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (Host.dotGeneral dot_S8x2048x8x96_S8x2048x8x96_S8x8x2048x2048_3_3_1_1_02_02 none x0 x1) (broadcastInDim S8x8x2048x2048 ![] bcast_S_S8x8x2048x2048 (constant S_ .f32 0x3DD105EC#32))) (broadcastInDim S8x8x2048x2048 ![] bcast_S_S8x8x2048x2048 (id (constant S_ .f32 0xFF800000#32)))
/-- their maximum over the keys, -/
def top (x0 x1 : S8x2048x8x96.Idx → Ideal .bf16) : S8x8x2048.Idx → Ideal .f32 :=
  maximumf (broadcastInDim S8x8x2048 ![] bcast_S_S8x8x2048 (constant S_ .f32 0xFF800000#32)) (Host.reduce FloatOps.maximumf (scores x0 x1) (constant S_ .f32 0xFF800000#32) reducesTo_S8x8x2048x2048_S8x8x2048_d3 h_S_)
/-- the exponentials, -/
def weights (x0 x1 : S8x2048x8x96.Idx → Ideal .bf16) : S8x8x2048x2048.Idx → Ideal .f32 :=
  Host.exp (subf (scores x0 x1) (broadcastInDim S8x8x2048x2048 ![0, 1, 2, 3] bcast_S8x8x2048x1_S8x8x2048x2048_0_1_2_3 (broadcastInDim S8x8x2048x1 ![0, 1, 2] bcast_S8x8x2048_S8x8x2048x1_0_1_2 (top x0 x1))))
/-- their sum over the keys, -/
def total (x0 x1 : S8x2048x8x96.Idx → Ideal .bf16) : S8x8x2048.Idx → Ideal .f32 :=
  Host.reduceAdd (weights x0 x1) (constant S_ .f32 0x00000000#32) reducesTo_S8x8x2048x2048_S8x8x2048_d3 h_S_
/-- the probabilities, -/
def probs (x0 x1 : S8x2048x8x96.Idx → Ideal .bf16) : S8x8x2048x2048.Idx → Ideal .bf16 :=
  truncf .bf16 (Host.divf (weights x0 x1) (broadcastInDim S8x8x2048x2048 ![0, 1, 2, 3] bcast_S8x8x2048x1_S8x8x2048x2048_0_1_2_3 (broadcastInDim S8x8x2048x1 ![0, 1, 2] bcast_S8x8x2048_S8x8x2048x1_0_1_2 (total x0 x1)))) bitsLt_bf16_f32
/-- and the weighted values. -/
def out (x0 x1 : S8x2048x8x96.Idx → Ideal .bf16) (x2 : S8x2048x8x64.Idx → Ideal .bf16) : S8x2048x512.Idx → Ideal .f32 :=
  shapeCast _ (transpose S8x2048x8x64 [0, 3, 1, 2] (Host.dotGeneral dot_S8x2048x8x64_S8x8x2048x2048_S8x8x64x2048_1_3_3_2_02_01 none x2 (probs x0 x1)) transposes_S8x8x64x2048_S8x2048x8x64_0_3_1_2) shapeCasts_S8x2048x8x64_S8x2048x512

theorem res_eq (m : (ℓ : Loc nD τ sig) → Buf (Elt Ideal) ℓ) (c : Dev nD) : Value.res_main_v24 m c
    = out (m ((c.tc : Thread nD τ).loc main_arg0)) (m ((c.tc : Thread nD τ).loc main_arg1)) (m ((c.tc : Thread nD τ).loc main_arg2)) := rfl

variable (x0 x1 : S8x2048x8x96.Idx → Ideal .bf16) (x2 : S8x2048x8x64.Idx → Ideal .bf16)

theorem bot_word : (Ideal.ofBits FTy.f32 4286578688#32 : EReal) = ⊥ := by
  simp only [Ideal.ofBits, Ideal.ieee]
  rw [if_pos (by decide), if_pos (by decide), if_pos (by decide)]
theorem scale_word : (Ideal.ofBits FTy.f32 1037108716#32 : EReal) = ((3424635 / 33554432 : ℝ) : EReal) := by
  simp only [Ideal.ofBits, Ideal.ieee]
  have e1 : (BitVec.extractLsb' 23 8 1037108716#32).toNat = 123 := by decide
  have e2 : (BitVec.extractLsb' 0 23 1037108716#32).toNat = 5309932 := by decide
  have e3 : (BitVec.extractLsb' (8 + 23) 1 1037108716#32 == 1#1) = false := by decide
  rw [e1, e2, e3, if_neg (by norm_num), if_neg (by norm_num)]
  norm_num [zpow_neg]

/-- A score: the scaled product of query and key, where the key is not later than the query. -/
theorem scores_at (b h : Fin 8) (p s : Fin 2048) : (scores x0 x1 (ix4 (n0 := 8) (n1 := 8) (n2 := 2048) (n3 := 2048) b h p s) : EReal)
    = if s.val ≤ p.val then
        (∑ l : Fin 96, (x0 (ix4 (n0 := 8) (n1 := 2048) (n2 := 8) (n3 := 96) b p h l) : EReal) * x1 (ix4 (n0 := 8) (n1 := 2048) (n2 := 8) (n3 := 96) b s h l))
          * ((3424635 / 33554432 : ℝ) : EReal)
      else ⊥ := by
  pointwise [scores]
  have hp := p.isLt
  have hs := s.isLt
  rw [scale_word]
  by_cases hle : s.val ≤ p.val
  · rw [if_pos hle, Scalar.select, if_pos]
    rw [WordCmp.cmpi_sle_ofNat (by omega) (by omega), decide_eq_true hle]
    rfl
  · rw [if_neg hle, Scalar.select, if_neg]
    · exact bot_word
    · rw [WordCmp.cmpi_sle_ofNat (by omega) (by omega), decide_eq_false hle]
      decide

/-- The largest of a row is the fold of the row. -/
theorem row_fold {α : Type} (f : α → α → α) [Std.Commutative f] [Std.Associative f] (X : S8x8x2048x2048.Idx → α) (z : S_.Idx → α)
    (b h : Fin 8) (p : Fin 2048) :
    Host.reduce f X z reducesTo_S8x8x2048x2048_S8x8x2048_d3 h_S_ (ix3 (n0 := 8) (n1 := 8) (n2 := 2048) b h p)
      = (Finset.univ : Finset (Fin 2048)).fold f (z (Shape.Idx.first h_S_)) fun s => X (ix4 (n0 := 8) (n1 := 8) (n2 := 2048) (n3 := 2048) b h p s) := by
  rw [Host.reduce_eq_fold_single f X z reducesTo_S8x8x2048x2048_S8x8x2048_d3 (by decide)]
  refine congrArg (fun g => (Finset.univ : Finset (Fin 2048)).fold f (z (Shape.Idx.first h_S_)) g) (funext fun s => ?_)
  refine congrArg X (funext fun i => ?_)
  match i with
  | 0 => rfl
  | 1 => rfl
  | 2 => rfl
  | 3 => rfl

theorem larger_at {s : Shape} (A B : FVec Ideal s .f32) (i : s.Idx) : (maximumf A B i : EReal) = max (A i : EReal) (B i) := rfl

theorem fold_larger (z : Ideal .f32) (hz : (z : EReal) = ⊥) (g : Fin 2048 → Ideal .f32) :
    ((Finset.univ : Finset (Fin 2048)).fold (FloatOps.maximumf (F := Ideal) (φ := .f32)) z g : EReal)
      = (Finset.univ : Finset (Fin 2048)).fold max (⊥ : EReal) g := by
  subst hz
  rfl

theorem max_at (X : S8x8x2048x2048.Idx → Ideal .f32) (A : FVec Ideal S8x8x2048 .f32) (z : FVec Ideal S_ .f32)
    (hA : ∀ i, (A i : EReal) = ⊥) (hz : ∀ i, (z i : EReal) = ⊥) (b h : Fin 8) (p : Fin 2048) :
    (maximumf A (Host.reduce FloatOps.maximumf X z reducesTo_S8x8x2048x2048_S8x8x2048_d3 h_S_)
      (ix3 (n0 := 8) (n1 := 8) (n2 := 2048) b h p) : EReal)
    = (Finset.univ : Finset (Fin 2048)).fold max (⊥ : EReal) fun s => X (ix4 (n0 := 8) (n1 := 8) (n2 := 2048) (n3 := 2048) b h p s) := by
  rw [larger_at, hA, row_fold, max_eq_right bot_le]
  exact fold_larger _ (hz _) _

/-- The level of a row. -/
theorem top_at (b h : Fin 8) (p : Fin 2048) : (top x0 x1 (ix3 (n0 := 8) (n1 := 8) (n2 := 2048) b h p) : EReal)
    = (Finset.univ : Finset (Fin 2048)).fold max (⊥ : EReal) fun s => scores x0 x1 (ix4 (n0 := 8) (n1 := 8) (n2 := 2048) (n3 := 2048) b h p s) :=
  max_at (scores x0 x1) (broadcastInDim S8x8x2048 ![] bcast_S_S8x8x2048 (constant S_ .f32 0xFF800000#32)) (constant S_ .f32 0xFF800000#32)
    (fun _ => bot_word) (fun _ => bot_word) b h p

theorem weights_at (b h : Fin 8) (p s : Fin 2048) : (weights x0 x1 (ix4 (n0 := 8) (n1 := 8) (n2 := 2048) (n3 := 2048) b h p s) : EReal)
    = Ideal.exp ((scores x0 x1 (ix4 (n0 := 8) (n1 := 8) (n2 := 2048) (n3 := 2048) b h p s) : EReal) - top x0 x1 (ix3 (n0 := 8) (n1 := 8) (n2 := 2048) b h p)) := by
  pointwise [weights]

theorem total_at (b h : Fin 8) (p : Fin 2048) : (total x0 x1 (ix3 (n0 := 8) (n1 := 8) (n2 := 2048) b h p) : EReal)
    = ∑ s : Fin 2048, (weights x0 x1 (ix4 (n0 := 8) (n1 := 8) (n2 := 2048) (n3 := 2048) b h p s) : EReal) := by
  pointwise [total]

theorem probs_at (b h : Fin 8) (p s : Fin 2048) : (probs x0 x1 (ix4 (n0 := 8) (n1 := 8) (n2 := 2048) (n3 := 2048) b h p s) : EReal)
    = Ideal.div (weights x0 x1 (ix4 (n0 := 8) (n1 := 8) (n2 := 2048) (n3 := 2048) b h p s)) (total x0 x1 (ix3 (n0 := 8) (n1 := 8) (n2 := 2048) b h p)) := by
  pointwise [probs]

theorem out_at (b h : Fin 8) (p : Fin 2048) (d : Fin 64) :
    (out x0 x1 x2 (ix3 (n0 := 8) (n1 := 2048) (n2 := 512) b p ⟨h.val * 64 + d.val, by have := h.isLt; have := d.isLt; omega⟩) : EReal)
    = ∑ s : Fin 2048, (x2 (ix4 (n0 := 8) (n1 := 2048) (n2 := 8) (n3 := 64) b s h d) : EReal)
        * probs x0 x1 (ix4 (n0 := 8) (n1 := 8) (n2 := 2048) (n3 := 2048) b h p s) := by
  pointwise [out]

end Cert.ReferenceIdeal.Attn

end
-- ==== Proof.AttnIdeal.Items.lean ====
/- The sixteen stored items of one step: a batch row e of the pair and a head h make item 8e + h, whose queries, keys
   and values are a window of 128 lanes and whose running maximum and sum are one sheet of the scratch buffers. Every
   path's stores are the same function of those windows. -/
module

public import proofs.«01_k».proof.Proof.AttnIdeal.Runs
public import Idealize.ShloMosaic.Lib.Pipeline.ReadBack
public import Idealize.ShloMosaic.Lib.VecWindow

@[expose] public section

set_option maxRecDepth 16384
set_option maxHeartbeats 4000000

noncomputable section

namespace Cert.KernelIdeal.Attn

open Cert.KernelIdeal Cert.KernelIdeal.Gen
open Idealize Idealize.ShloMosaic
open Idealize.ShloMosaic.TcCoe

/-- One item's window: 512 rows of 128 lanes. -/
abbrev Sheet (e : EltTy) := Vec Ideal S1x512x128 e

/-- The scores of one item at a block below the diagonal: the scaled queries against the keys. -/
def sOff (q k : Sheet .bf16) : FVec Ideal S512x512 .f32 :=
  matmul dot_S512x128_S512x128_S512x512_1_1_0_0_n_n none
    (truncf .bf16 (mulf (extf .f32 (shapeCast S512x128 q shapeCasts_S1x512x128_S512x128) bitsLt_bf16_f32)
      (broadcast S512x128 (Named.named (F := Ideal) κ "q_scale" 0x3E16C740#32))) bitsLt_bf16_f32)
    (shapeCast S512x128 k shapeCasts_S1x512x128_S512x128 : FVec Ideal S512x128 .bf16) (constant S512x512 .f32 0x00000000#32)

/-- The scores on the diagonal block: a key after its query is masked. -/
def sDiag (q k : Sheet .bf16) : FVec Ideal S512x512 .f32 :=
  select (cmpi .sle (iota .tc S512x512 32 [1] iota_S512x512_d1_w32) (iota .tc S512x512 32 [0] iota_S512x512_d0_w32)) (sOff q k)
    (broadcast S512x512 (Named.named (F := Ideal) κ "mask" 0xF149F2CA#32))

/-- The running maximum after a block of scores. -/
def mNew (s : FVec Ideal S512x512 .f32) (mp : Sheet .f32) : FVec Ideal S512x128 .f32 :=
  maximumf (shapeCast S512x128 mp shapeCasts_S1x512x128_S512x128)
    (broadcastTo S512x128 (shapeCast S512x1 (multiReduction .maximumf [1] S512 s 0xFF800000#32 reduces_S512x512_S512 (.inl rfl) rfl) shapeCasts_S512_S512x1) broadcasts_S512x1_S512x128)

/-- The same, as the sheet stored. -/
def mOut (s : FVec Ideal S512x512 .f32) (mp : Sheet .f32) : FVec Ideal S1x512x128 .f32 :=
  shapeCast S1x512x128 (mNew s mp) shapeCasts_S512x128_S1x512x128

/-- The running weighted sum after a block of scores and its values, as the sheet stored. -/
def aOut (s : FVec Ideal S512x512 .f32) (mp ap : Sheet .f32) (v : Sheet .bf16) : FVec Ideal S1x512x128 .f32 :=
  shapeCast S1x512x128
    (addf (mulf (shapeCast S512x128 ap shapeCasts_S1x512x128_S512x128) (exp2 (subf (shapeCast S512x128 mp shapeCasts_S1x512x128_S512x128) (mNew s mp))))
      (matmul dot_S512x512_S512x128_S512x128_1_0_0_1_n_n none
        (truncf .bf16 (exp2 (subf s (concatenate S512x512 1 [⟨S512x128, mNew s mp⟩, ⟨S512x128, mNew s mp⟩, ⟨S512x128, mNew s mp⟩, ⟨S512x128, mNew s mp⟩] concatenates_S512x128_S512x128_S512x128_S512x128_S512x512_d1))) bitsLt_bf16_f32)
        (shapeCast S512x128 v shapeCasts_S1x512x128_S512x128 : FVec Ideal S512x128 .bf16) (constant S512x128 .f32 0x00000000#32)))
    shapeCasts_S512x128_S1x512x128

/-- The block of the result an item gives: its first 64 sums over the sum of the weights, which lane 64 holds. -/
def oOut (a : Sheet .f32) : FVec Ideal S1x512x64 .f32 :=
  shapeCast S1x512x64
    (divf (extractStridedSlice S512x64 ![0, 0] (shapeCast S512x128 a shapeCasts_S1x512x128_S512x128) slices_S512x128_o0_0_S512x64)
      (broadcastTo S512x64 (extractStridedSlice S512x1 ![0, 64] (shapeCast S512x128 a shapeCasts_S1x512x128_S512x128) slices_S512x128_o0_64_S512x1) broadcasts_S512x1_S512x64))
    shapeCasts_S512x64_S1x512x64

/-- What the first block of a query block fills the maxima with, -/
abbrev fill0 : S16x512x128.Idx → Elt Ideal .f32 := k0_pay1 (F := Ideal)
/-- and the sums. -/
abbrev fill1 : S16x512x128.Idx → Elt Ideal .f32 := k0_pay2 (F := Ideal)

/-- Item n's window of the queries, keys or values. -/
abbrev rQ (n : Fin 16) : Rect S2x512x1024 :=
  Rect.unit ![n.val / 8, 0, n.val % 8 * 128] S1x512x128.size (by revert n; decide)
/-- Item n's sheet of a scratch buffer. -/
abbrev rS (n : Fin 16) : Rect S16x512x128 :=
  Rect.unit ![n.val, 0, 0] S1x512x128.size (by revert n; decide)
/-- Item n's block of the result. -/
abbrev rO (n : Fin 16) : Rect S2x512x512 :=
  Rect.unit ![n.val / 8, 0, n.val % 8 * 64] S1x512x64.size (by revert n; decide)

/-- Sixteen sheets stored over a scratch buffer, the last first. -/
def sheets (P : Fin 16 → S1x512x128.Idx → Elt Ideal .f32) : List (View.Piece (Elt Ideal) S16x512x128 .f32) :=
  [⟨rS 15, P 15⟩, ⟨rS 14, P 14⟩, ⟨rS 13, P 13⟩, ⟨rS 12, P 12⟩, ⟨rS 11, P 11⟩, ⟨rS 10, P 10⟩, ⟨rS 9, P 9⟩, ⟨rS 8, P 8⟩, ⟨rS 7, P 7⟩, ⟨rS 6, P 6⟩, ⟨rS 5, P 5⟩, ⟨rS 4, P 4⟩, ⟨rS 3, P 3⟩, ⟨rS 2, P 2⟩, ⟨rS 1, P 1⟩, ⟨rS 0, P 0⟩]
/-- Sixteen blocks stored over the result block, the last first. -/
def blocks (P : Fin 16 → S1x512x64.Idx → Elt Ideal .f32) : List (View.Piece (Elt Ideal) S2x512x512 .f32) :=
  [⟨rO 15, P 15⟩, ⟨rO 14, P 14⟩, ⟨rO 13, P 13⟩, ⟨rO 12, P 12⟩, ⟨rO 11, P 11⟩, ⟨rO 10, P 10⟩, ⟨rO 9, P 9⟩, ⟨rO 8, P 8⟩, ⟨rO 7, P 7⟩, ⟨rO 6, P 6⟩, ⟨rO 5, P 5⟩, ⟨rO 4, P 4⟩, ⟨rO 3, P 3⟩, ⟨rO 2, P 2⟩, ⟨rO 1, P 1⟩, ⟨rO 0, P 0⟩]

/-- The sheets of the new maxima, -/
def mP (s : Sheet .bf16 → Sheet .bf16 → FVec Ideal S512x512 .f32) (q k : Fin 16 → Sheet .bf16) (mp : Fin 16 → Sheet .f32) (n : Fin 16) : FVec Ideal S1x512x128 .f32 :=
  mOut (s (q n) (k n)) (mp n)
/-- and of the new sums. -/
def aP (s : Sheet .bf16 → Sheet .bf16 → FVec Ideal S512x512 .f32) (q k v : Fin 16 → Sheet .bf16) (mp ap : Fin 16 → Sheet .f32) (n : Fin 16) : FVec Ideal S1x512x128 .f32 :=
  aOut (s (q n) (k n)) (mp n) (ap n) (v n)

section
variable (c : Dev nD)
variable (arg4 : Memref sig .tc .vmem S2x512x1024 .bf16) (arg5 : Memref sig .tc .vmem S2x512x1024 .bf16) (arg6 : Memref sig .tc .vmem S2x512x1024 .bf16)
variable (x0 : (S2x512x1024.Idx → Elt Ideal .bf16)) (x1 : (S2x512x1024.Idx → Elt Ideal .bf16)) (x2 : (S2x512x1024.Idx → Elt Ideal .bf16))
variable (xa0 : Buf (Elt Ideal) ((c : Thread nD τ).loc cc0_scratch0)) (xa1 : Buf (Elt Ideal) ((c : Thread nD τ).loc cc0_scratch1))

/-- A window as the body loads it. -/
abbrev lq (arg : Memref sig .tc .vmem S2x512x1024 .bf16) (x : S2x512x1024.Idx → Elt Ideal .bf16) (n : Fin 16) : Sheet .bf16 :=
  View.readAt (Elt Ideal) arg.view (rQ n).toLoadRect (arg.view.rep x)

theorem A_v27 : kernelRun0_A.sl.v27 = View.ld fill0 (rS 0) := View.readCov_fill _ _ _ _ _ (by decide)
theorem A_v66 : kernelRun0_A.sl.v66 arg4 arg5 x0 x1 = View.ld fill0 (rS 1) := (View.readCov_skip _ _ _ _ _ rfl).trans (View.readCov_fill _ _ _ _ _ (by decide))
theorem A_v105 : kernelRun0_A.sl.v105 arg4 arg5 x0 x1 = View.ld fill0 (rS 2) := (View.readCov_skip _ _ _ _ _ rfl).trans ((View.readCov_skip _ _ _ _ _ rfl).trans (View.readCov_fill _ _ _ _ _ (by decide)))
theorem A_v144 : kernelRun0_A.sl.v144 arg4 arg5 x0 x1 = View.ld fill0 (rS 3) := (View.readCov_skip _ _ _ _ _ rfl).trans ((View.readCov_skip _ _ _ _ _ rfl).trans ((View.readCov_skip _ _ _ _ _ rfl).trans (View.readCov_fill _ _ _ _ _ (by decide))))
theorem A_v183 : kernelRun0_A.sl.v183 arg4 arg5 x0 x1 = View.ld fill0 (rS 4) := (View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))
theorem A_v222 : kernelRun0_A.sl.v222 arg4 arg5 x0 x1 = View.ld fill0 (rS 5) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))
theorem A_v261 : kernelRun0_A.sl.v261 arg4 arg5 x0 x1 = View.ld fill0 (rS 6) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))
theorem A_v300 : kernelRun0_A.sl.v300 arg4 arg5 x0 x1 = View.ld fill0 (rS 7) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))
theorem A_v339 : kernelRun0_A.sl.v339 arg4 arg5 x0 x1 = View.ld fill0 (rS 8) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))
theorem A_v378 : kernelRun0_A.sl.v378 arg4 arg5 x0 x1 = View.ld fill0 (rS 9) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))
theorem A_v417 : kernelRun0_A.sl.v417 arg4 arg5 x0 x1 = View.ld fill0 (rS 10) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))
theorem A_v456 : kernelRun0_A.sl.v456 arg4 arg5 x0 x1 = View.ld fill0 (rS 11) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))
theorem A_v495 : kernelRun0_A.sl.v495 arg4 arg5 x0 x1 = View.ld fill0 (rS 12) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))
theorem A_v534 : kernelRun0_A.sl.v534 arg4 arg5 x0 x1 = View.ld fill0 (rS 13) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))
theorem A_v573 : kernelRun0_A.sl.v573 arg4 arg5 x0 x1 = View.ld fill0 (rS 14) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))))
theorem A_v612 : kernelRun0_A.sl.v612 arg4 arg5 x0 x1 = View.ld fill0 (rS 15) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))))
theorem A_v41 : kernelRun0_A.sl.v41 = View.ld fill1 (rS 0) := View.readCov_fill _ _ _ _ _ (by decide)
theorem A_v80 : kernelRun0_A.sl.v80 arg4 arg5 arg6 x0 x1 x2 = View.ld fill1 (rS 1) := (View.readCov_skip _ _ _ _ _ rfl).trans (View.readCov_fill _ _ _ _ _ (by decide))
theorem A_v119 : kernelRun0_A.sl.v119 arg4 arg5 arg6 x0 x1 x2 = View.ld fill1 (rS 2) := (View.readCov_skip _ _ _ _ _ rfl).trans ((View.readCov_skip _ _ _ _ _ rfl).trans (View.readCov_fill _ _ _ _ _ (by decide)))
theorem A_v158 : kernelRun0_A.sl.v158 arg4 arg5 arg6 x0 x1 x2 = View.ld fill1 (rS 3) := (View.readCov_skip _ _ _ _ _ rfl).trans ((View.readCov_skip _ _ _ _ _ rfl).trans ((View.readCov_skip _ _ _ _ _ rfl).trans (View.readCov_fill _ _ _ _ _ (by decide))))
theorem A_v197 : kernelRun0_A.sl.v197 arg4 arg5 arg6 x0 x1 x2 = View.ld fill1 (rS 4) := (View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))
theorem A_v236 : kernelRun0_A.sl.v236 arg4 arg5 arg6 x0 x1 x2 = View.ld fill1 (rS 5) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))
theorem A_v275 : kernelRun0_A.sl.v275 arg4 arg5 arg6 x0 x1 x2 = View.ld fill1 (rS 6) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))
theorem A_v314 : kernelRun0_A.sl.v314 arg4 arg5 arg6 x0 x1 x2 = View.ld fill1 (rS 7) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))
theorem A_v353 : kernelRun0_A.sl.v353 arg4 arg5 arg6 x0 x1 x2 = View.ld fill1 (rS 8) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))
theorem A_v392 : kernelRun0_A.sl.v392 arg4 arg5 arg6 x0 x1 x2 = View.ld fill1 (rS 9) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))
theorem A_v431 : kernelRun0_A.sl.v431 arg4 arg5 arg6 x0 x1 x2 = View.ld fill1 (rS 10) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))
theorem A_v470 : kernelRun0_A.sl.v470 arg4 arg5 arg6 x0 x1 x2 = View.ld fill1 (rS 11) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))
theorem A_v509 : kernelRun0_A.sl.v509 arg4 arg5 arg6 x0 x1 x2 = View.ld fill1 (rS 12) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))
theorem A_v548 : kernelRun0_A.sl.v548 arg4 arg5 arg6 x0 x1 x2 = View.ld fill1 (rS 13) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))
theorem A_v587 : kernelRun0_A.sl.v587 arg4 arg5 arg6 x0 x1 x2 = View.ld fill1 (rS 14) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))))
theorem A_v626 : kernelRun0_A.sl.v626 arg4 arg5 arg6 x0 x1 x2 = View.ld fill1 (rS 15) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))))

/-- Path A's stores over the maxima are the sixteen sheets, over the fill, -/
theorem A_HS0 : kernelRun0_A.sl.HS0_17 arg4 arg5 x0 x1 = sheets (mP sDiag (lq arg4 x0) (lq arg5 x1) fun n => View.ld fill0 (rS n)) ++ kernelRun0_A.sl.HS0_1 := by
  simp only [kernelRun0_A.sl.HS0_17, kernelRun0_A.sl.HS0_16, kernelRun0_A.sl.HS0_15, kernelRun0_A.sl.HS0_14, kernelRun0_A.sl.HS0_13, kernelRun0_A.sl.HS0_12, kernelRun0_A.sl.HS0_11, kernelRun0_A.sl.HS0_10, kernelRun0_A.sl.HS0_9, kernelRun0_A.sl.HS0_8, kernelRun0_A.sl.HS0_7, kernelRun0_A.sl.HS0_6, kernelRun0_A.sl.HS0_5, kernelRun0_A.sl.HS0_4, kernelRun0_A.sl.HS0_3, kernelRun0_A.sl.HS0_2, kernelRun0_A.sl.r_7, kernelRun0_A.sl.r_12, kernelRun0_A.sl.r_11, kernelRun0_A.sl.r_13, kernelRun0_A.sl.v256, kernelRun0_A.sl.r_14, kernelRun0_A.sl.r_15, kernelRun0_A.sl.r_16, kernelRun0_A.sl.r_24, kernelRun0_A.sl.r_28, kernelRun0_A.sl.r_32, kernelRun0_A.sl.r_31, kernelRun0_A.sl.r_33, kernelRun0_A.sl.r_35, kernelRun0_A.sl.r_34, A_v27, A_v66, A_v105, A_v144, A_v183, A_v222, A_v261, A_v300, A_v339, A_v378, A_v417, A_v456, A_v495, A_v534, A_v573, A_v612]
  rfl
/-- and over the sums. -/
theorem A_HS1 : kernelRun0_A.sl.HS1_17 arg4 arg5 arg6 x0 x1 x2 = sheets (aP sDiag (lq arg4 x0) (lq arg5 x1) (lq arg6 x2) (fun n => View.ld fill0 (rS n)) fun n => View.ld fill1 (rS n)) ++ kernelRun0_A.sl.HS1_1 := by
  simp only [kernelRun0_A.sl.HS1_17, kernelRun0_A.sl.HS1_16, kernelRun0_A.sl.HS1_15, kernelRun0_A.sl.HS1_14, kernelRun0_A.sl.HS1_13, kernelRun0_A.sl.HS1_12, kernelRun0_A.sl.HS1_11, kernelRun0_A.sl.HS1_10, kernelRun0_A.sl.HS1_9, kernelRun0_A.sl.HS1_8, kernelRun0_A.sl.HS1_7, kernelRun0_A.sl.HS1_6, kernelRun0_A.sl.HS1_5, kernelRun0_A.sl.HS1_4, kernelRun0_A.sl.HS1_3, kernelRun0_A.sl.HS1_2, kernelRun0_A.sl.r_2, kernelRun0_A.sl.r_4, kernelRun0_A.sl.r_3, kernelRun0_A.sl.r_6, kernelRun0_A.sl.r_5, kernelRun0_A.sl.r_9, kernelRun0_A.sl.r_8, kernelRun0_A.sl.r_12, kernelRun0_A.sl.r_11, kernelRun0_A.sl.r_10, kernelRun0_A.sl.r_13, kernelRun0_A.sl.v256, kernelRun0_A.sl.r_14, kernelRun0_A.sl.r_15, kernelRun0_A.sl.r_17, kernelRun0_A.sl.r_16, kernelRun0_A.sl.r_20, kernelRun0_A.sl.r_19, kernelRun0_A.sl.r_18, kernelRun0_A.sl.r_23, kernelRun0_A.sl.r_22, kernelRun0_A.sl.r_21, kernelRun0_A.sl.r_26, kernelRun0_A.sl.r_25, kernelRun0_A.sl.r_30, kernelRun0_A.sl.r_29, kernelRun0_A.sl.r_27, kernelRun0_A.sl.r_32, kernelRun0_A.sl.r_31, kernelRun0_A.sl.r_33, kernelRun0_A.sl.r_35, kernelRun0_A.sl.r_34, A_v27, A_v66, A_v105, A_v144, A_v183, A_v222, A_v261, A_v300, A_v339, A_v378, A_v417, A_v456, A_v495, A_v534, A_v573, A_v612, A_v41, A_v80, A_v119, A_v158, A_v197, A_v236, A_v275, A_v314, A_v353, A_v392, A_v431, A_v470, A_v509, A_v548, A_v587, A_v626]
  rfl
theorem B_v31 : kernelRun0_B.sl.v31 = View.ld fill0 (rS 0) := View.readCov_fill _ _ _ _ _ (by decide)
theorem B_v65 : kernelRun0_B.sl.v65 arg4 arg5 x0 x1 = View.ld fill0 (rS 1) := (View.readCov_skip _ _ _ _ _ rfl).trans (View.readCov_fill _ _ _ _ _ (by decide))
theorem B_v99 : kernelRun0_B.sl.v99 arg4 arg5 x0 x1 = View.ld fill0 (rS 2) := (View.readCov_skip _ _ _ _ _ rfl).trans ((View.readCov_skip _ _ _ _ _ rfl).trans (View.readCov_fill _ _ _ _ _ (by decide)))
theorem B_v133 : kernelRun0_B.sl.v133 arg4 arg5 x0 x1 = View.ld fill0 (rS 3) := (View.readCov_skip _ _ _ _ _ rfl).trans ((View.readCov_skip _ _ _ _ _ rfl).trans ((View.readCov_skip _ _ _ _ _ rfl).trans (View.readCov_fill _ _ _ _ _ (by decide))))
theorem B_v167 : kernelRun0_B.sl.v167 arg4 arg5 x0 x1 = View.ld fill0 (rS 4) := (View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))
theorem B_v201 : kernelRun0_B.sl.v201 arg4 arg5 x0 x1 = View.ld fill0 (rS 5) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))
theorem B_v235 : kernelRun0_B.sl.v235 arg4 arg5 x0 x1 = View.ld fill0 (rS 6) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))
theorem B_v269 : kernelRun0_B.sl.v269 arg4 arg5 x0 x1 = View.ld fill0 (rS 7) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))
theorem B_v303 : kernelRun0_B.sl.v303 arg4 arg5 x0 x1 = View.ld fill0 (rS 8) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))
theorem B_v337 : kernelRun0_B.sl.v337 arg4 arg5 x0 x1 = View.ld fill0 (rS 9) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))
theorem B_v371 : kernelRun0_B.sl.v371 arg4 arg5 x0 x1 = View.ld fill0 (rS 10) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))
theorem B_v405 : kernelRun0_B.sl.v405 arg4 arg5 x0 x1 = View.ld fill0 (rS 11) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))
theorem B_v439 : kernelRun0_B.sl.v439 arg4 arg5 x0 x1 = View.ld fill0 (rS 12) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))
theorem B_v473 : kernelRun0_B.sl.v473 arg4 arg5 x0 x1 = View.ld fill0 (rS 13) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))
theorem B_v507 : kernelRun0_B.sl.v507 arg4 arg5 x0 x1 = View.ld fill0 (rS 14) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))))
theorem B_v518 : kernelRun0_B.sl.v518 arg4 arg5 x0 x1 = View.ld fill0 (rS 14) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))))
theorem B_v532 : kernelRun0_B.sl.v532 arg4 arg5 x0 x1 = View.ld fill0 (rS 15) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))))
theorem B_v45 : kernelRun0_B.sl.v45 = View.ld fill1 (rS 0) := View.readCov_fill _ _ _ _ _ (by decide)
theorem B_v79 : kernelRun0_B.sl.v79 arg4 arg5 arg6 x0 x1 x2 = View.ld fill1 (rS 1) := (View.readCov_skip _ _ _ _ _ rfl).trans (View.readCov_fill _ _ _ _ _ (by decide))
theorem B_v113 : kernelRun0_B.sl.v113 arg4 arg5 arg6 x0 x1 x2 = View.ld fill1 (rS 2) := (View.readCov_skip _ _ _ _ _ rfl).trans ((View.readCov_skip _ _ _ _ _ rfl).trans (View.readCov_fill _ _ _ _ _ (by decide)))
theorem B_v147 : kernelRun0_B.sl.v147 arg4 arg5 arg6 x0 x1 x2 = View.ld fill1 (rS 3) := (View.readCov_skip _ _ _ _ _ rfl).trans ((View.readCov_skip _ _ _ _ _ rfl).trans ((View.readCov_skip _ _ _ _ _ rfl).trans (View.readCov_fill _ _ _ _ _ (by decide))))
theorem B_v181 : kernelRun0_B.sl.v181 arg4 arg5 arg6 x0 x1 x2 = View.ld fill1 (rS 4) := (View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))
theorem B_v215 : kernelRun0_B.sl.v215 arg4 arg5 arg6 x0 x1 x2 = View.ld fill1 (rS 5) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))
theorem B_v249 : kernelRun0_B.sl.v249 arg4 arg5 arg6 x0 x1 x2 = View.ld fill1 (rS 6) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))
theorem B_v283 : kernelRun0_B.sl.v283 arg4 arg5 arg6 x0 x1 x2 = View.ld fill1 (rS 7) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))
theorem B_v317 : kernelRun0_B.sl.v317 arg4 arg5 arg6 x0 x1 x2 = View.ld fill1 (rS 8) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))
theorem B_v351 : kernelRun0_B.sl.v351 arg4 arg5 arg6 x0 x1 x2 = View.ld fill1 (rS 9) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))
theorem B_v385 : kernelRun0_B.sl.v385 arg4 arg5 arg6 x0 x1 x2 = View.ld fill1 (rS 10) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))
theorem B_v419 : kernelRun0_B.sl.v419 arg4 arg5 arg6 x0 x1 x2 = View.ld fill1 (rS 11) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))
theorem B_v453 : kernelRun0_B.sl.v453 arg4 arg5 arg6 x0 x1 x2 = View.ld fill1 (rS 12) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))
theorem B_v487 : kernelRun0_B.sl.v487 arg4 arg5 arg6 x0 x1 x2 = View.ld fill1 (rS 13) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))
theorem B_v521 : kernelRun0_B.sl.v521 arg4 arg5 arg6 x0 x1 x2 = View.ld fill1 (rS 14) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide)))))))))))))))
theorem B_v546 : kernelRun0_B.sl.v546 arg4 arg5 arg6 x0 x1 x2 = View.ld fill1 (rS 15) := (View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans ((View.readCov_skip _ _ _ _ _ rfl).trans (View.readCov_fill _ _ _ _ _ (by decide))))))))))))))))
theorem B_last (v : Sheet .bf16) : k0_pay3 (kernelRun0_B.sl.v542 arg4 arg5 x0 x1) (kernelRun0_B.sl.v548 arg4 arg5 arg6 x0 x1 x2) v
    = aOut (sOff (lq arg4 x0 15) (lq arg5 x1 15)) (View.ld fill0 (rS 15)) (View.ld fill1 (rS 15)) v := by
  rw [← B_v532 arg4 arg5 x0 x1, ← B_v546 arg4 arg5 arg6 x0 x1 x2]
  rfl
theorem B_last' : kernelRun0_B.sl.v531 arg4 arg5 arg6 x0 x1 x2
    = aOut (sOff (lq arg4 x0 14) (lq arg5 x1 14)) (View.ld fill0 (rS 14)) (View.ld fill1 (rS 14)) (lq arg6 x2 14) := by
  rw [← B_v507 arg4 arg5 x0 x1, ← B_v521 arg4 arg5 arg6 x0 x1 x2]
  rfl

/-- Path B's stores over the maxima are the sixteen sheets, over the fill, -/
theorem B_HS0 : kernelRun0_B.sl.HS0_17 arg4 arg5 x0 x1 = sheets (mP sOff (lq arg4 x0) (lq arg5 x1) fun n => View.ld fill0 (rS n)) ++ kernelRun0_B.sl.HS0_1 := by
  simp only [kernelRun0_B.sl.HS0_17, kernelRun0_B.sl.HS0_16, kernelRun0_B.sl.HS0_15, kernelRun0_B.sl.HS0_14, kernelRun0_B.sl.HS0_13, kernelRun0_B.sl.HS0_12, kernelRun0_B.sl.HS0_11, kernelRun0_B.sl.HS0_10, kernelRun0_B.sl.HS0_9, kernelRun0_B.sl.HS0_8, kernelRun0_B.sl.HS0_7, kernelRun0_B.sl.HS0_6, kernelRun0_B.sl.HS0_5, kernelRun0_B.sl.HS0_4, kernelRun0_B.sl.HS0_3, kernelRun0_B.sl.HS0_2, kernelRun0_B.sl.r_2, kernelRun0_B.sl.r_5, kernelRun0_B.sl.r_8, kernelRun0_B.sl.r_11, kernelRun0_B.sl.r_20, kernelRun0_B.sl.r_14, kernelRun0_B.sl.r_22, kernelRun0_B.sl.r_17, kernelRun0_B.sl.r_26, kernelRun0_B.sl.r_21, kernelRun0_B.sl.r_30, kernelRun0_B.sl.r_25, kernelRun0_B.sl.r_34, kernelRun0_B.sl.r_29, kernelRun0_B.sl.r_38, kernelRun0_B.sl.r_33, kernelRun0_B.sl.r_42, kernelRun0_B.sl.r_37, kernelRun0_B.sl.r_46, kernelRun0_B.sl.r_41, kernelRun0_B.sl.r_50, kernelRun0_B.sl.r_45, kernelRun0_B.sl.v520, kernelRun0_B.sl.r_54, kernelRun0_B.sl.r_49, kernelRun0_B.sl.v545, kernelRun0_B.sl.v537, kernelRun0_B.sl.v536, kernelRun0_B.sl.v535, kernelRun0_B.sl.v534, kernelRun0_B.sl.r_53, kernelRun0_B.sl.v533, B_v31, B_v65, B_v99, B_v133, B_v167, B_v201, B_v235, B_v269, B_v303, B_v337, B_v371, B_v405, B_v439, B_v473, B_v507, B_v518, B_v532]
  rfl
/-- and over the sums. -/
theorem B_HS1 : kernelRun0_B.sl.HS1_17 arg4 arg5 arg6 x0 x1 x2 = sheets (aP sOff (lq arg4 x0) (lq arg5 x1) (lq arg6 x2) (fun n => View.ld fill0 (rS n)) fun n => View.ld fill1 (rS n)) ++ kernelRun0_B.sl.HS1_1 := by
  simp only [B_last, B_last', kernelRun0_B.sl.HS1_17, kernelRun0_B.sl.HS1_16, kernelRun0_B.sl.HS1_15, kernelRun0_B.sl.HS1_14, kernelRun0_B.sl.HS1_13, kernelRun0_B.sl.HS1_12, kernelRun0_B.sl.HS1_11, kernelRun0_B.sl.HS1_10, kernelRun0_B.sl.HS1_9, kernelRun0_B.sl.HS1_8, kernelRun0_B.sl.HS1_7, kernelRun0_B.sl.HS1_6, kernelRun0_B.sl.HS1_5, kernelRun0_B.sl.HS1_4, kernelRun0_B.sl.HS1_3, kernelRun0_B.sl.HS1_2, kernelRun0_B.sl.r_4, kernelRun0_B.sl.r_3, kernelRun0_B.sl.r_7, kernelRun0_B.sl.r_2, kernelRun0_B.sl.r_6, kernelRun0_B.sl.r_10, kernelRun0_B.sl.r_5, kernelRun0_B.sl.r_9, kernelRun0_B.sl.r_13, kernelRun0_B.sl.r_8, kernelRun0_B.sl.r_12, kernelRun0_B.sl.r_16, kernelRun0_B.sl.r_11, kernelRun0_B.sl.r_15, kernelRun0_B.sl.r_19, kernelRun0_B.sl.r_14, kernelRun0_B.sl.r_18, kernelRun0_B.sl.r_24, kernelRun0_B.sl.r_17, kernelRun0_B.sl.r_23, kernelRun0_B.sl.r_28, kernelRun0_B.sl.r_21, kernelRun0_B.sl.r_27, kernelRun0_B.sl.r_32, kernelRun0_B.sl.r_25, kernelRun0_B.sl.r_31, kernelRun0_B.sl.r_36, kernelRun0_B.sl.r_29, kernelRun0_B.sl.r_35, kernelRun0_B.sl.r_40, kernelRun0_B.sl.r_33, kernelRun0_B.sl.r_39, kernelRun0_B.sl.r_44, kernelRun0_B.sl.r_37, kernelRun0_B.sl.r_43, kernelRun0_B.sl.r_48, kernelRun0_B.sl.r_41, kernelRun0_B.sl.r_47, kernelRun0_B.sl.r_52, kernelRun0_B.sl.r_45, kernelRun0_B.sl.r_51, B_v31, B_v65, B_v99, B_v133, B_v167, B_v201, B_v235, B_v269, B_v303, B_v337, B_v371, B_v405, B_v439, B_v473, B_v507, B_v518, B_v532, B_v45, B_v79, B_v113, B_v147, B_v181, B_v215, B_v249, B_v283, B_v317, B_v351, B_v385, B_v419, B_v453, B_v487, B_v521, B_v546]
  rfl

/-- Path C's stores over the maxima are the sixteen sheets, -/
theorem C_HS0 : kernelRun0_C.sl.HS0_16 c arg4 arg5 x0 x1 xa0 = sheets (mP sDiag (lq arg4 x0) (lq arg5 x1) fun n => View.readAt (Elt Ideal) scM0_0.view (rS n).toLoadRect xa0) := by
  simp only [kernelRun0_C.sl.HS0_16, kernelRun0_C.sl.v66, kernelRun0_C.sl.v105, kernelRun0_C.sl.r_7, kernelRun0_C.sl.v144, kernelRun0_C.sl.r_12, kernelRun0_C.sl.r_11, kernelRun0_C.sl.v183, kernelRun0_C.sl.v222, kernelRun0_C.sl.r_13, kernelRun0_C.sl.v261, kernelRun0_C.sl.v256, kernelRun0_C.sl.r_14, kernelRun0_C.sl.v300, kernelRun0_C.sl.r_15, kernelRun0_C.sl.v339, kernelRun0_C.sl.r_16, kernelRun0_C.sl.v378, kernelRun0_C.sl.v417, kernelRun0_C.sl.r_24, kernelRun0_C.sl.v456, kernelRun0_C.sl.r_28, kernelRun0_C.sl.v495, kernelRun0_C.sl.r_32, kernelRun0_C.sl.v534, kernelRun0_C.sl.r_31, kernelRun0_C.sl.v573, kernelRun0_C.sl.r_33, kernelRun0_C.sl.v612, kernelRun0_C.sl.r_35, kernelRun0_C.sl.r_34]
  rfl
/-- and over the sums. -/
theorem C_HS1 : kernelRun0_C.sl.HS1_16 c arg4 arg5 arg6 x0 x1 x2 xa0 xa1 = sheets (aP sDiag (lq arg4 x0) (lq arg5 x1) (lq arg6 x2) (fun n => View.readAt (Elt Ideal) scM0_0.view (rS n).toLoadRect xa0)
    fun n => View.readAt (Elt Ideal) scM0_1.view (rS n).toLoadRect xa1) := by
  simp only [kernelRun0_C.sl.HS1_16, kernelRun0_C.sl.r_2, kernelRun0_C.sl.r_4, kernelRun0_C.sl.v66, kernelRun0_C.sl.r_3, kernelRun0_C.sl.v80, kernelRun0_C.sl.v119, kernelRun0_C.sl.r_6, kernelRun0_C.sl.v105, kernelRun0_C.sl.r_5, kernelRun0_C.sl.v158, kernelRun0_C.sl.r_9, kernelRun0_C.sl.v144, kernelRun0_C.sl.r_8, kernelRun0_C.sl.v197, kernelRun0_C.sl.r_12, kernelRun0_C.sl.r_11, kernelRun0_C.sl.v183, kernelRun0_C.sl.r_10, kernelRun0_C.sl.v236, kernelRun0_C.sl.v222, kernelRun0_C.sl.r_13, kernelRun0_C.sl.v275, kernelRun0_C.sl.v261, kernelRun0_C.sl.v256, kernelRun0_C.sl.r_14, kernelRun0_C.sl.v314, kernelRun0_C.sl.v300, kernelRun0_C.sl.r_15, kernelRun0_C.sl.r_17, kernelRun0_C.sl.v353, kernelRun0_C.sl.v339, kernelRun0_C.sl.r_16, kernelRun0_C.sl.r_20, kernelRun0_C.sl.r_19, kernelRun0_C.sl.v378, kernelRun0_C.sl.r_18, kernelRun0_C.sl.v392, kernelRun0_C.sl.r_23, kernelRun0_C.sl.v431, kernelRun0_C.sl.r_22, kernelRun0_C.sl.v417, kernelRun0_C.sl.r_21, kernelRun0_C.sl.v470, kernelRun0_C.sl.r_26, kernelRun0_C.sl.v456, kernelRun0_C.sl.r_25, kernelRun0_C.sl.v509, kernelRun0_C.sl.r_30, kernelRun0_C.sl.v495, kernelRun0_C.sl.r_29, kernelRun0_C.sl.r_27, kernelRun0_C.sl.v548, kernelRun0_C.sl.r_32, kernelRun0_C.sl.v534, kernelRun0_C.sl.r_31, kernelRun0_C.sl.v587, kernelRun0_C.sl.v573, kernelRun0_C.sl.r_33, kernelRun0_C.sl.v626, kernelRun0_C.sl.v612, kernelRun0_C.sl.r_35, kernelRun0_C.sl.r_34]
  rfl

/-- Path D's stores over the maxima are the sixteen sheets, -/
theorem D_HS0 : kernelRun0_D.sl.HS0_16 c arg4 arg5 x0 x1 xa0 = sheets (mP sOff (lq arg4 x0) (lq arg5 x1) fun n => View.readAt (Elt Ideal) scM0_0.view (rS n).toLoadRect xa0) := by
  simp only [kernelRun0_D.sl.HS0_16, kernelRun0_D.sl.v65, kernelRun0_D.sl.r_2, kernelRun0_D.sl.v99, kernelRun0_D.sl.r_6, kernelRun0_D.sl.v133, kernelRun0_D.sl.r_9, kernelRun0_D.sl.v167, kernelRun0_D.sl.r_12, kernelRun0_D.sl.r_21, kernelRun0_D.sl.v201, kernelRun0_D.sl.r_15, kernelRun0_D.sl.r_23, kernelRun0_D.sl.v235, kernelRun0_D.sl.r_18, kernelRun0_D.sl.r_27, kernelRun0_D.sl.v269, kernelRun0_D.sl.r_22, kernelRun0_D.sl.r_31, kernelRun0_D.sl.v303, kernelRun0_D.sl.r_26, kernelRun0_D.sl.r_35, kernelRun0_D.sl.v337, kernelRun0_D.sl.r_30, kernelRun0_D.sl.r_39, kernelRun0_D.sl.v371, kernelRun0_D.sl.r_34, kernelRun0_D.sl.r_43, kernelRun0_D.sl.v405, kernelRun0_D.sl.r_38, kernelRun0_D.sl.r_47, kernelRun0_D.sl.v439, kernelRun0_D.sl.r_42, kernelRun0_D.sl.r_51, kernelRun0_D.sl.v473, kernelRun0_D.sl.r_46, kernelRun0_D.sl.v520, kernelRun0_D.sl.r_55, kernelRun0_D.sl.v507, kernelRun0_D.sl.r_50, kernelRun0_D.sl.v545, kernelRun0_D.sl.v537, kernelRun0_D.sl.v536, kernelRun0_D.sl.v535, kernelRun0_D.sl.v534, kernelRun0_D.sl.r_54, kernelRun0_D.sl.v533, kernelRun0_D.sl.v532]
  rfl
/-- and over the sums. -/
theorem D_HS1 : kernelRun0_D.sl.HS1_16 c arg4 arg5 arg6 x0 x1 x2 xa0 xa1 = sheets (aP sOff (lq arg4 x0) (lq arg5 x1) (lq arg6 x2) (fun n => View.readAt (Elt Ideal) scM0_0.view (rS n).toLoadRect xa0)
    fun n => View.readAt (Elt Ideal) scM0_1.view (rS n).toLoadRect xa1) := by
  simp only [kernelRun0_D.sl.HS1_16, kernelRun0_D.sl.r_5, kernelRun0_D.sl.r_4, kernelRun0_D.sl.r_3, kernelRun0_D.sl.v79, kernelRun0_D.sl.r_8, kernelRun0_D.sl.v65, kernelRun0_D.sl.r_2, kernelRun0_D.sl.r_7, kernelRun0_D.sl.v113, kernelRun0_D.sl.r_11, kernelRun0_D.sl.v99, kernelRun0_D.sl.r_6, kernelRun0_D.sl.r_10, kernelRun0_D.sl.v147, kernelRun0_D.sl.r_14, kernelRun0_D.sl.v133, kernelRun0_D.sl.r_9, kernelRun0_D.sl.r_13, kernelRun0_D.sl.v181, kernelRun0_D.sl.r_17, kernelRun0_D.sl.v167, kernelRun0_D.sl.r_12, kernelRun0_D.sl.r_16, kernelRun0_D.sl.v215, kernelRun0_D.sl.r_20, kernelRun0_D.sl.v201, kernelRun0_D.sl.r_15, kernelRun0_D.sl.r_19, kernelRun0_D.sl.v249, kernelRun0_D.sl.r_25, kernelRun0_D.sl.v235, kernelRun0_D.sl.r_18, kernelRun0_D.sl.r_24, kernelRun0_D.sl.v283, kernelRun0_D.sl.r_29, kernelRun0_D.sl.v269, kernelRun0_D.sl.r_22, kernelRun0_D.sl.r_28, kernelRun0_D.sl.v317, kernelRun0_D.sl.r_33, kernelRun0_D.sl.v303, kernelRun0_D.sl.r_26, kernelRun0_D.sl.r_32, kernelRun0_D.sl.v351, kernelRun0_D.sl.r_37, kernelRun0_D.sl.v337, kernelRun0_D.sl.r_30, kernelRun0_D.sl.r_36, kernelRun0_D.sl.v385, kernelRun0_D.sl.r_41, kernelRun0_D.sl.v371, kernelRun0_D.sl.r_34, kernelRun0_D.sl.r_40, kernelRun0_D.sl.v419, kernelRun0_D.sl.r_45, kernelRun0_D.sl.v405, kernelRun0_D.sl.r_38, kernelRun0_D.sl.r_44, kernelRun0_D.sl.v453, kernelRun0_D.sl.r_49, kernelRun0_D.sl.v439, kernelRun0_D.sl.r_42, kernelRun0_D.sl.r_48, kernelRun0_D.sl.v487, kernelRun0_D.sl.r_53, kernelRun0_D.sl.v473, kernelRun0_D.sl.r_46, kernelRun0_D.sl.r_52, kernelRun0_D.sl.v531, kernelRun0_D.sl.v528, kernelRun0_D.sl.v527, kernelRun0_D.sl.cst_359, kernelRun0_D.sl.v526, kernelRun0_D.sl.v524, kernelRun0_D.sl.v517, kernelRun0_D.sl.v516, kernelRun0_D.sl.v515, kernelRun0_D.sl.r_55, kernelRun0_D.sl.v507, kernelRun0_D.sl.r_50, kernelRun0_D.sl.v523, kernelRun0_D.sl.r_56, kernelRun0_D.sl.v522, kernelRun0_D.sl.v521, kernelRun0_D.sl.v548, kernelRun0_D.sl.v539, kernelRun0_D.sl.v538, kernelRun0_D.sl.v537, kernelRun0_D.sl.v536, kernelRun0_D.sl.v535, kernelRun0_D.sl.v534, kernelRun0_D.sl.r_54, kernelRun0_D.sl.v533, kernelRun0_D.sl.v532, kernelRun0_D.sl.v547, kernelRun0_D.sl.v546, kernelRun0_D.sl.v542, kernelRun0_D.sl.v541, kernelRun0_D.sl.v540]
  rfl

/-- Path A's stores over the result block are the sixteen items' blocks, read off the sums. -/
theorem A_HO3 : kernelRun0_A.sl.HO3_16 arg4 arg5 arg6 x0 x1 x2 = blocks fun n => oOut (View.readCov scM0_1.view (kernelRun0_A.sl.HS1_17 arg4 arg5 arg6 x0 x1 x2) (rS n).toLoadRect) := by
  rfl

/-- Path C's stores over the result block are the sixteen items' blocks, read off the sums. -/
theorem C_HO3 : kernelRun0_C.sl.HO3_16 c arg4 arg5 arg6 x0 x1 x2 xa0 xa1 = blocks fun n => oOut (View.readCov scM0_1.view (kernelRun0_C.sl.HS1_16 c arg4 arg5 arg6 x0 x1 x2 xa0 xa1) (rS n).toLoadRect) := by
  rfl

end
end Cert.KernelIdeal.Attn
-- ==== Proof.AttnIdeal.Sheets.lean ====
/- Sixteen sheets stored over a scratch buffer, and sixteen blocks stored over the result block, read cell by cell. -/
module

public import proofs.«01_k».proof.Proof.AttnIdeal.Items
public import Idealize.ShloMosaic.Lib.Pointwise
public import Idealize.ShloMosaic.Lib.ViewIndex
public import Idealize.ShloMosaic.Lib.Pipeline.ValueKit

@[expose] public section

set_option maxRecDepth 16384

noncomputable section

namespace Cert.KernelIdeal.Attn

open Cert.KernelIdeal Cert.KernelIdeal.Gen
open Idealize Idealize.ShloMosaic
open Idealize.ShloMosaic.TcCoe

/-- The scratch buffer whose sheet n is P n. -/
def asm (P : Fin 16 → S1x512x128.Idx → Elt Ideal .f32) : S16x512x128.Idx → Elt Ideal .f32 :=
  fun y => P (y 0) (ix3 (n0 := 1) (n1 := 512) (n2 := 128) 0 (y 1) (y 2))

/-- The result block whose item n is P n. -/
def asmO (P : Fin 16 → S1x512x64.Idx → Elt Ideal .f32) : S2x512x512.Idx → Elt Ideal .f32 :=
  fun y => P ⟨(y 0).val * 8 + (y 2).val / 64, by
      have h0 : (y 0).val < 2 := (y 0).isLt
      have h2 : (y 2).val < 512 := (y 2).isLt
      omega⟩
    (ix3 (n0 := 1) (n1 := 512) (n2 := 64) 0 (y 1) ⟨(y 2).val % 64, Nat.mod_lt _ (by norm_num)⟩)

theorem rS_emb (n : Fin 16) (x : S1x512x128.Idx) : (rS n).emb x = (ix3 (n0 := 16) (n1 := 512) (n2 := 128) n (x 1) (x 2)) := by
  have h0 : (x 0).val < 1 := (x 0).isLt
  refine Shape.idx3_ext ?_ ?_ ?_
  · show n.val + 1 * (x 0).val = n.val; omega
  · show 0 + 1 * (x 1).val = (x 1).val; omega
  · show 0 + 1 * (x 2).val = (x 2).val; omega

theorem asm_rS (P : Fin 16 → S1x512x128.Idx → Elt Ideal .f32) (n : Fin 16) (x : S1x512x128.Idx) : P n x = asm P ((rS n).emb x) := by
  rw [rS_emb]
  show P n x = P n (ix3 (n0 := 1) (n1 := 512) (n2 := 128) 0 (x 1) (x 2))
  refine congrArg (P n) (Shape.idx3_ext ?_ rfl rfl)
  have h0 : (x 0).val < 1 := (x 0).isLt
  show (x 0).val = 0; omega

theorem asmO_rO (P : Fin 16 → S1x512x64.Idx → Elt Ideal .f32) (n : Fin 16) (x : S1x512x64.Idx) : P n x = asmO P ((rO n).emb x) := by
  have h0 : (x 0).val < 1 := (x 0).isLt
  have h2 : (x 2).val < 64 := (x 2).isLt
  have e0 : ((rO n).emb x 0).val = n.val / 8 + 1 * (x 0).val := rfl
  have e2 : ((rO n).emb x 2).val = n.val % 8 * 64 + 1 * (x 2).val := rfl
  unfold asmO
  have hn : (⟨((rO n).emb x 0).val * 8 + ((rO n).emb x 2).val / 64, by rw [e0, e2]; omega⟩ : Fin 16) = n := Fin.ext (by
    show ((rO n).emb x 0).val * 8 + ((rO n).emb x 2).val / 64 = n.val
    rw [e0, e2]; omega)
  rw [hn]
  refine congrArg (P n) (Shape.idx3_ext ?_ ?_ ?_)
  · show (x 0).val = 0; omega
  · show (x 1).val = 0 + 1 * (x 1).val; omega
  · show (x 2).val = ((rO n).emb x 2).val % 64
    rw [e2]; omega

theorem mem_sheets (P : Fin 16 → S1x512x128.Idx → Elt Ideal .f32) (n : Fin 16) : (⟨rS n, P n⟩ : View.Piece (Elt Ideal) S16x512x128 .f32) ∈ sheets P := by
  fin_cases n <;> simp [sheets]
theorem mem_blocks (P : Fin 16 → S1x512x64.Idx → Elt Ideal .f32) (n : Fin 16) : (⟨rO n, P n⟩ : View.Piece (Elt Ideal) S2x512x512 .f32) ∈ blocks P := by
  fin_cases n <;> simp [blocks]

theorem sheets_cover (P : Fin 16 → S1x512x128.Idx → Elt Ideal .f32) (y : S16x512x128.Idx) : ∃ p ∈ sheets P, y ∈ p.1.set := by
  refine ⟨_, mem_sheets P (y 0), ?_⟩
  have e : y = (rS (y 0)).emb (ix3 (n0 := 1) (n1 := 512) (n2 := 128) 0 (y 1) (y 2)) :=
    (Shape.idx3_ext rfl rfl rfl : y = ix3 (n0 := 16) (n1 := 512) (n2 := 128) (y 0) (y 1) (y 2)).trans (rS_emb (y 0) (ix3 (n0 := 1) (n1 := 512) (n2 := 128) 0 (y 1) (y 2))).symm
  rw [← Rect.map_emb_univ]
  exact Finset.mem_map.2 ⟨_, Finset.mem_univ _, e.symm⟩

theorem blocks_cover (P : Fin 16 → S1x512x64.Idx → Elt Ideal .f32) (y : S2x512x512.Idx) : ∃ p ∈ blocks P, y ∈ p.1.set := by
  have h0 : (y 0).val < 2 := (y 0).isLt
  have h2 : (y 2).val < 512 := (y 2).isLt
  refine ⟨_, mem_blocks P ⟨(y 0).val * 8 + (y 2).val / 64, by omega⟩, ?_⟩
  rw [← Rect.map_emb_univ]
  refine Finset.mem_map.2 ⟨(ix3 (n0 := 1) (n1 := 512) (n2 := 64) 0 (y 1) ⟨(y 2).val % 64, Nat.mod_lt _ (by norm_num)⟩), Finset.mem_univ _, Shape.idx3_ext ?_ ?_ ?_⟩
  · show ((y 0).val * 8 + (y 2).val / 64) / 8 + 1 * 0 = (y 0).val; omega
  · show 0 + 1 * (y 1).val = (y 1).val; omega
  · show ((y 0).val * 8 + (y 2).val / 64) % 8 * 64 + 1 * ((y 2).val % 64) = (y 2).val; omega

theorem pieces_sheets (P : Fin 16 → S1x512x128.Idx → Elt Ideal .f32) : View.PiecesOf (asm P) (sheets P) :=
  ⟨asm_rS P 15, asm_rS P 14, asm_rS P 13, asm_rS P 12, asm_rS P 11, asm_rS P 10, asm_rS P 9, asm_rS P 8, asm_rS P 7, asm_rS P 6, asm_rS P 5, asm_rS P 4,
    asm_rS P 3, asm_rS P 2, asm_rS P 1, asm_rS P 0, trivial⟩
theorem pieces_blocks (P : Fin 16 → S1x512x64.Idx → Elt Ideal .f32) : View.PiecesOf (asmO P) (blocks P) :=
  ⟨asmO_rO P 15, asmO_rO P 14, asmO_rO P 13, asmO_rO P 12, asmO_rO P 11, asmO_rO P 10, asmO_rO P 9, asmO_rO P 8, asmO_rO P 7, asmO_rO P 6, asmO_rO P 5,
    asmO_rO P 4, asmO_rO P 3, asmO_rO P 2, asmO_rO P 1, asmO_rO P 0, trivial⟩

/-- The sixteen sheets, over any earlier stores, are what the buffer holds. -/
theorem canon_sheets (P : Fin 16 → S1x512x128.Idx → Elt Ideal .f32) (L : List (View.Piece (Elt Ideal) S16x512x128 .f32)) :
    View.canon (sheets P ++ L) = asm P :=
  funext fun y => View.canon_append_of_piecesOf (asm P) L (sheets P) (pieces_sheets P) y (sheets_cover P y)
theorem canon_blocks (P : Fin 16 → S1x512x64.Idx → Elt Ideal .f32) : View.canon (blocks P) = asmO P :=
  funext fun y => by
    have h := View.canon_append_of_piecesOf (asmO P) [] (blocks P) (pieces_blocks P) y (blocks_cover P y)
    rwa [List.append_nil] at h

/-- A whole scratch buffer after the sixteen stores, whatever it held. -/
theorem writes_sheets0 (f : scM0_0.view.ty.Contents (Elt Ideal)) (P : Fin 16 → S1x512x128.Idx → Elt Ideal .f32)
    (L : List (View.Piece (Elt Ideal) S16x512x128 .f32)) : scM0_0.view.read (Elt Ideal) (scM0_0.view.writes (Elt Ideal) f (sheets P ++ L)) = asm P :=
  (View.read_writes_eq_canon scM0_0.view f (sheets P ++ L)
    (fun y => (sheets_cover P y).imp fun p hp => ⟨List.mem_append_left _ hp.1, hp.2⟩)).trans (canon_sheets P L)
theorem writes_sheets1 (f : scM0_1.view.ty.Contents (Elt Ideal)) (P : Fin 16 → S1x512x128.Idx → Elt Ideal .f32)
    (L : List (View.Piece (Elt Ideal) S16x512x128 .f32)) : scM0_1.view.read (Elt Ideal) (scM0_1.view.writes (Elt Ideal) f (sheets P ++ L)) = asm P :=
  (View.read_writes_eq_canon scM0_1.view f (sheets P ++ L)
    (fun y => (sheets_cover P y).imp fun p hp => ⟨List.mem_append_left _ hp.1, hp.2⟩)).trans (canon_sheets P L)

/-- A sheet loaded back after the sixteen stores. -/
theorem readCov_sheets (P : Fin 16 → S1x512x128.Idx → Elt Ideal .f32) (L : List (View.Piece (Elt Ideal) S16x512x128 .f32)) (n : Fin 16) :
    View.readCov scM0_1.view (sheets P ++ L) (rS n).toLoadRect = P n := by
  rw [View.readCov_eq_canon', canon_sheets]
  exact funext fun j => (asm_rS P n j).symm

end Cert.KernelIdeal.Attn

end
-- ==== Proof.AttnIdeal.Paths.lean ====
/- What the body leaves on each of its four paths, as functions of the blocks it reads and of the scratch buffers it finds. -/
module

public import proofs.«01_k».proof.Proof.AttnIdeal.Sheets

@[expose] public section

set_option maxRecDepth 16384

noncomputable section

namespace Cert.KernelIdeal.Attn

open Cert.KernelIdeal Cert.KernelIdeal.Gen
open Idealize Idealize.ShloMosaic
open Idealize.ShloMosaic.TcCoe

/-- Item n's window of a block. -/
abbrev qw (x : S2x512x1024.Idx → Elt Ideal .bf16) (n : Fin 16) : Sheet .bf16 := View.ld x (rQ n)
/-- Item n's sheet of a scratch buffer. -/
abbrev sw (x : S16x512x128.Idx → Elt Ideal .f32) (n : Fin 16) : Sheet .f32 := View.ld x (rS n)

/-- The maxima after a step: s gives the scores, mp is what the buffer held. -/
def mStep (s : Sheet .bf16 → Sheet .bf16 → FVec Ideal S512x512 .f32) (x0 x1 : S2x512x1024.Idx → Elt Ideal .bf16) (mp : S16x512x128.Idx → Elt Ideal .f32) :
    S16x512x128.Idx → Elt Ideal .f32 := asm (mP s (qw x0) (qw x1) (sw mp))
/-- The sums after a step. -/
def aStep (s : Sheet .bf16 → Sheet .bf16 → FVec Ideal S512x512 .f32) (x0 x1 x2 : S2x512x1024.Idx → Elt Ideal .bf16) (mp ap : S16x512x128.Idx → Elt Ideal .f32) :
    S16x512x128.Idx → Elt Ideal .f32 := asm (aP s (qw x0) (qw x1) (qw x2) (sw mp) (sw ap))
/-- The block of the result read off the sums. -/
def oStep (a : S16x512x128.Idx → Elt Ideal .f32) : S2x512x512.Idx → Elt Ideal .f32 := asmO fun n => oOut (sw a n)

theorem lq_eq (arg : Memref sig .tc .vmem S2x512x1024 .bf16) (x : S2x512x1024.Idx → Elt Ideal .bf16) : lq arg x = qw x :=
  funext fun n => by
    show View.ld (arg.view.read (Elt Ideal) (arg.view.rep x)) (rQ n) = View.ld x (rQ n)
    rw [View.read_rep]

theorem sw_asm (P : Fin 16 → S1x512x128.Idx → Elt Ideal .f32) (n : Fin 16) : sw (asm P) n = P n := funext fun j => (asm_rS P n j).symm

theorem whole_writes0 (f : (View.whole cc0_scratch0).ty.Contents (Elt Ideal)) (P : Fin 16 → S1x512x128.Idx → Elt Ideal .f32)
    (L L' : List (View.Piece (Elt Ideal) S16x512x128 .f32)) (h : L' = sheets P ++ L) : (View.whole cc0_scratch0).writes (Elt Ideal) f L' = asm P := by
  have e : ∀ L', (View.whole cc0_scratch0).writes (Elt Ideal) f L' = scM0_0.view.read (Elt Ideal) (scM0_0.view.writes (Elt Ideal) f L') := fun _ => rfl
  have g := writes_sheets0 f P L
  rw [← h] at g
  exact (e L').trans g

theorem whole_writes1 (f : (View.whole cc0_scratch1).ty.Contents (Elt Ideal)) (P : Fin 16 → S1x512x128.Idx → Elt Ideal .f32)
    (L L' : List (View.Piece (Elt Ideal) S16x512x128 .f32)) (h : L' = sheets P ++ L) : (View.whole cc0_scratch1).writes (Elt Ideal) f L' = asm P := by
  have e : ∀ L', (View.whole cc0_scratch1).writes (Elt Ideal) f L' = scM0_1.view.read (Elt Ideal) (scM0_1.view.writes (Elt Ideal) f L') := fun _ => rfl
  have g := writes_sheets1 f P L
  rw [← h] at g
  exact (e L').trans g

section
variable (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
  (x0 : (S2x512x1024.Idx → Elt Ideal .bf16)) (x1 : (S2x512x1024.Idx → Elt Ideal .bf16)) (x2 : (S2x512x1024.Idx → Elt Ideal .bf16))
  (hc0 : IsFirst i T1) (hc1 : ¬(IsOff i T0 T1)) (hc2 : IsDiag i T0 T1)

theorem runA_m : (kernelRun0_A c i arg4 harg4 arg5 harg5 arg6 harg6 arg7 harg7 T0 T1 x0 x1 x2 hc0 hc1 hc2).2.1 = mStep sDiag x0 x1 fill0 := by
  unfold kernelRun0_A
  dsimp only
  have h := A_HS0 arg4 arg5 x0 x1
  rw [lq_eq, lq_eq] at h
  exact whole_writes0 _ _ _ _ h
theorem runA_a : (kernelRun0_A c i arg4 harg4 arg5 harg5 arg6 harg6 arg7 harg7 T0 T1 x0 x1 x2 hc0 hc1 hc2).2.2.1 = aStep sDiag x0 x1 x2 fill0 fill1 := by
  unfold kernelRun0_A
  dsimp only
  have h := A_HS1 arg4 arg5 arg6 x0 x1 x2
  rw [lq_eq, lq_eq, lq_eq] at h
  exact whole_writes1 _ _ _ _ h
theorem outA : out0_A_3 c i arg4 harg4 arg5 harg5 arg6 harg6 arg7 harg7 T0 T1 x0 x1 x2 hc0 hc1 hc2 = oStep (aStep sDiag x0 x1 x2 fill0 fill1) := by
  show VO0_3.read (Elt Ideal) (VO0_3.writes (Elt Ideal) VO0_3.junk (kernelRun0_A.sl.HO3_16 arg4 arg5 arg6 x0 x1 x2)) = _
  rw [View.read_writes_junk_eq_canon, A_HO3, canon_blocks, A_HS1 arg4 arg5 arg6 x0 x1 x2, lq_eq, lq_eq, lq_eq]
  unfold oStep aStep
  refine congrArg asmO (funext fun n => congrArg oOut ?_)
  rw [sw_asm]
  exact readCov_sheets _ _ n
end

section
variable (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
  (x0 : (S2x512x1024.Idx → Elt Ideal .bf16)) (x1 : (S2x512x1024.Idx → Elt Ideal .bf16)) (x2 : (S2x512x1024.Idx → Elt Ideal .bf16))
  (hc0 : IsFirst i T1) (hc1 : IsOff i T0 T1) (hc2 : ¬(IsDiag i T0 T1))

theorem runB_m : (kernelRun0_B c i arg4 harg4 arg5 harg5 arg6 harg6 arg7 harg7 T0 T1 x0 x1 x2 hc0 hc1 hc2).1 = mStep sOff x0 x1 fill0 := by
  unfold kernelRun0_B
  dsimp only
  have h := B_HS0 arg4 arg5 x0 x1
  rw [lq_eq, lq_eq] at h
  exact whole_writes0 _ _ _ _ h
theorem runB_a : (kernelRun0_B c i arg4 harg4 arg5 harg5 arg6 harg6 arg7 harg7 T0 T1 x0 x1 x2 hc0 hc1 hc2).2.1 = aStep sOff x0 x1 x2 fill0 fill1 := by
  unfold kernelRun0_B
  dsimp only
  have h := B_HS1 arg4 arg5 arg6 x0 x1 x2
  rw [lq_eq, lq_eq, lq_eq] at h
  exact whole_writes1 _ _ _ _ h
end

section
variable (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
  (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1))
  (hc0 : ¬(IsFirst i T1)) (hc1 : ¬(IsOff i T0 T1)) (hc2 : IsDiag i T0 T1)

theorem runC_m : (kernelRun0_C c i arg4 harg4 arg5 harg5 arg6 harg6 arg7 harg7 T0 T1 x0 x1 x2 xa0 xa1 hc0 hc1 hc2).2.1 = mStep sDiag x0 x1 xa0 := by
  unfold kernelRun0_C
  dsimp only
  have h := C_HS0 c arg4 arg5 x0 x1 xa0
  rw [lq_eq, lq_eq, ← List.append_nil (sheets _)] at h
  exact whole_writes0 _ _ _ _ h
theorem runC_a : (kernelRun0_C c i arg4 harg4 arg5 harg5 arg6 harg6 arg7 harg7 T0 T1 x0 x1 x2 xa0 xa1 hc0 hc1 hc2).2.2.1 = aStep sDiag x0 x1 x2 xa0 xa1 := by
  unfold kernelRun0_C
  dsimp only
  have h := C_HS1 c arg4 arg5 arg6 x0 x1 x2 xa0 xa1
  rw [lq_eq, lq_eq, lq_eq, ← List.append_nil (sheets _)] at h
  exact whole_writes1 _ _ _ _ h
theorem outC : out0_C_3 c i arg4 harg4 arg5 harg5 arg6 harg6 arg7 harg7 T0 T1 x0 x1 x2 xa0 xa1 hc0 hc1 hc2 = oStep (aStep sDiag x0 x1 x2 xa0 xa1) := by
  show VO0_3.read (Elt Ideal) (VO0_3.writes (Elt Ideal) VO0_3.junk (kernelRun0_C.sl.HO3_16 c arg4 arg5 arg6 x0 x1 x2 xa0 xa1)) = _
  rw [View.read_writes_junk_eq_canon, C_HO3, canon_blocks, C_HS1 c arg4 arg5 arg6 x0 x1 x2 xa0 xa1, lq_eq, lq_eq, lq_eq]
  rw [← List.append_nil (sheets _)]
  unfold oStep aStep
  refine congrArg asmO (funext fun n => congrArg oOut ?_)
  rw [sw_asm]
  exact readCov_sheets _ _ n
end

section
variable (c : Dev nD) (i : grid0.Coords) (arg4 : Memref sig .tc .vmem S2x512x1024 .bf16) (harg4 : arg4.IsWhole) (arg5 : Memref sig .tc .vmem S2x512x1024 .bf16) (harg5 : arg5.IsWhole) (arg6 : Memref sig .tc .vmem S2x512x1024 .bf16) (harg6 : arg6.IsWhole) (arg7 : Memref sig .tc .vmem S2x512x512 .f32) (harg7 : arg7.IsWhole) (T0 : (S10.Idx → Elt Ideal .i32)) (T1 : (S10.Idx → Elt Ideal .i32))
  (x0 : (S2x512x1024.Idx → Elt Ideal .bf16)) (x1 : (S2x512x1024.Idx → Elt Ideal .bf16)) (x2 : (S2x512x1024.Idx → Elt Ideal .bf16)) (xa0 : Buf (Elt Ideal) ((c : Thread nD τ).loc cc0_scratch0)) (xa1 : Buf (Elt Ideal) ((c : Thread nD τ).loc cc0_scratch1))
  (hc0 : ¬(IsFirst i T1)) (hc1 : IsOff i T0 T1) (hc2 : ¬(IsDiag i T0 T1))

theorem runD_m : (kernelRun0_D c i arg4 harg4 arg5 harg5 arg6 harg6 arg7 harg7 T0 T1 x0 x1 x2 xa0 xa1 hc0 hc1 hc2).1 = mStep sOff x0 x1 xa0 := by
  unfold kernelRun0_D
  dsimp only
  have h := D_HS0 c arg4 arg5 x0 x1 xa0
  rw [lq_eq, lq_eq, ← List.append_nil (sheets _)] at h
  exact whole_writes0 _ _ _ _ h
theorem runD_a : (kernelRun0_D c i arg4 harg4 arg5 harg5 arg6 harg6 arg7 harg7 T0 T1 x0 x1 x2 xa0 xa1 hc0 hc1 hc2).2.1 = aStep sOff x0 x1 x2 xa0 xa1 := by
  unfold kernelRun0_D
  dsimp only
  have h := D_HS1 c arg4 arg5 arg6 x0 x1 x2 xa0 xa1
  rw [lq_eq, lq_eq, lq_eq, ← List.append_nil (sheets _)] at h
  exact whole_writes1 _ _ _ _ h
end

end Cert.KernelIdeal.Attn

end
-- ==== Proof.AttnIdeal.Cells.lean ====
/- What one item's arithmetic leaves at one cell: the scores, the running maximum, the running weighted sum and the
   block of the result, as extended reals. -/
module

public import proofs.«01_k».proof.Proof.AttnIdeal.Items
public import Idealize.ShloMosaic.Lib.Pointwise
public import Idealize.ShloMosaic.PureOps.Ideal.Laws
public import Idealize.ShloMosaic.Lib.WordCmp

@[expose] public section

set_option maxRecDepth 16384

noncomputable section

namespace Cert.KernelIdeal.Attn

open Cert.KernelIdeal Cert.KernelIdeal.Gen
open Idealize Idealize.ShloMosaic
open Idealize.ShloMosaic.TcCoe

/-- The factor of the scores: the reference's scale over log 2. -/
def qs : EReal := (((3424635 / 33554432) * (Real.log 2)⁻¹ : ℝ) : EReal)

theorem named_qs : (Named.named (F := Ideal) κ "q_scale" 0x3E16C740#32 : Ideal .f32) = qs := rfl
theorem named_mask : (Named.named (F := Ideal) κ "mask" 0xF149F2CA#32 : Ideal .f32) = (⊥ : EReal) := rfl

/-- The word of −∞ reads as ⊥. -/
theorem ofBits_bot : (Ideal.ofBits FTy.f32 0xFF800000#32 : EReal) = ⊥ := by
  simp only [Ideal.ofBits, Ideal.ieee]
  rw [if_pos (by decide), if_pos (by decide), if_pos (by decide)]

/-- A score below the diagonal: the scaled query row against the key row. -/
theorem sOff_at (q k : Vec Ideal S1x512x128 .bf16) (r j : Fin 512) :
    sOff q k (ix2 r j) = ∑ l : Fin 128, ((q (ix3 0 r l) : EReal) * qs) * k (ix3 0 j l) := by
  pointwise [sOff, named_qs]

/-- A score on the diagonal block: the same where the key is not after the query, ⊥ elsewhere. -/
theorem sDiag_at (q k : Vec Ideal S1x512x128 .bf16) (r j : Fin 512) :
    sDiag q k (ix2 r j) = if j.val ≤ r.val then sOff q k (ix2 r j) else (⊥ : EReal) := by
  pointwise [sDiag, named_mask]
  rw [show IntOp.cmpi CmpIPredicate.sle (BitVec.ofNat 32 ↑j) (BitVec.ofNat 32 ↑r) = if j.val ≤ r.val then 1#1 else 0#1 from ?_]
  · split <;> simp [Scalar.select]
  · rw [WordCmp.cmpi_sle_ofNat (by omega) (by omega)]
    by_cases h : j.val ≤ r.val <;> simp [h]

/-- The running maximum after a block. -/
theorem mNew_at (s : FVec Ideal S512x512 .f32) (mp : Vec Ideal S1x512x128 .f32) (r : Fin 512) (l : Fin 128) :
    mNew s mp (ix2 r l) = max (mp (ix3 0 r l) : EReal) (Finset.univ.fold max (⊥ : EReal) fun j : Fin 512 => s (ix2 r j)) := by
  pointwise [mNew]
  rw [ofBits_bot]

theorem mOut_at (s : FVec Ideal S512x512 .f32) (mp : Vec Ideal S1x512x128 .f32) (r : Fin 512) (l : Fin 128) :
    mOut s mp (ix3 0 r l) = mNew s mp (ix2 r l) := by
  pointwise [mOut]

/-- The running sum after a block. -/
theorem aOut_at (s : FVec Ideal S512x512 .f32) (mp ap : Vec Ideal S1x512x128 .f32) (v : Vec Ideal S1x512x128 .bf16) (r : Fin 512) (l : Fin 128) :
    aOut s mp ap v (ix3 0 r l) = (ap (ix3 0 r l) : EReal) * Ideal.exp2 ((mp (ix3 0 r l) : EReal) - mNew s mp (ix2 r l))
      + ∑ j : Fin 512, Ideal.exp2 ((s (ix2 r j) : EReal) - mNew s mp (ix2 r ⟨j.val % 128, Nat.mod_lt _ (by norm_num)⟩)) * v (ix3 0 j l) := by
  pointwise [aOut]
  refine congrArg₂ (· + ·) rfl (Finset.sum_congr rfl fun j _ => ?_)
  refine congrArg (fun z => Ideal.exp2 (s (ix2 r j) - z) * v (ix3 0 j l)) ?_
  split
  · exact congrArg (fun z => mNew s mp (ix2 r z)) (Fin.ext (Nat.mod_eq_of_lt ‹_›).symm)
  split
  · exact congrArg (fun z => mNew s mp (ix2 r z)) (Fin.ext (by simp only; omega))
  split
  · exact congrArg (fun z => mNew s mp (ix2 r z)) (Fin.ext (by simp only; omega))
  · exact congrArg (fun z => mNew s mp (ix2 r z)) (Fin.ext (by simp only; omega))

/-- The block of the result. -/
theorem oOut_at (a : Vec Ideal S1x512x128 .f32) (r : Fin 512) (d : Fin 64) :
    oOut a (ix3 0 r d) = Ideal.div (a (ix3 0 r ⟨d.val, by omega⟩)) (a (ix3 0 r 64)) := by
  pointwise [oOut]

end Cert.KernelIdeal.Attn

end
-- ==== Proof.AttnIdeal.Online.lean ====
/- The running softmax of one row over the reals: whatever finite number M the running maximum is, the running sum of
   a lane is the sum of 2^(score − M) times the lane's values over the keys seen that do not come after the query. -/
module

public import proofs.«01_k».proof.Proof.AttnIdeal.Cells
public import Mathlib.Analysis.SpecialFunctions.Pow.Real

@[expose] public section

set_option maxRecDepth 16384

noncomputable section

namespace Cert.KernelIdeal.Attn

open Cert.KernelIdeal Cert.KernelIdeal.Gen
open Idealize Idealize.ShloMosaic
open Idealize.ShloMosaic.TcCoe

/-- The weighted sum over the first n keys of those not after position t, at reference level M. -/
def wsum (S V : ℕ → ℝ) (t : ℕ) (M : ℝ) (n : ℕ) : ℝ :=
  ∑ s ∈ Finset.range n, if s ≤ t then (2 : ℝ) ^ (S s - M) * V s else 0

/-- A change of level multiplies the sum. -/
theorem wsum_level (S V : ℕ → ℝ) (t : ℕ) (M M' : ℝ) (n : ℕ) : wsum S V t M n * (2 : ℝ) ^ (M - M') = wsum S V t M' n := by
  unfold wsum
  rw [Finset.sum_mul]
  refine Finset.sum_congr rfl fun s _ => ?_
  split
  · rw [mul_right_comm, ← Real.rpow_add (by norm_num)]; congr 2; ring
  · rw [zero_mul]

/-- A block more of keys adds its part. -/
theorem wsum_block (S V : ℕ → ℝ) (t : ℕ) (M : ℝ) (n : ℕ) :
    wsum S V t M (n + 512) = wsum S V t M n + ∑ j : Fin 512, if n + j.val ≤ t then (2 : ℝ) ^ (S (n + j.val) - M) * V (n + j.val) else 0 := by
  unfold wsum
  rw [Finset.sum_range_add]
  exact congrArg _ (Finset.sum_range _)

theorem ereal_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a block of scores one of which is a number is a number. -/
theorem block_max (s : Fin 512 → EReal) (htop : ∀ j, s j ≠ ⊤) (j0 : Fin 512) (h0 : s j0 ≠ ⊥) :
    ∃ B : ℝ, Finset.univ.fold max (⊥ : EReal) s = B := by
  have e : Finset.univ.fold max (⊥ : EReal) s = Finset.univ.sup s := rfl
  rw [e]
  have hb : Finset.univ.sup s ≠ ⊥ := fun h => h0 (le_bot_iff.1 (h ▸ Finset.le_sup (f := s) (Finset.mem_univ j0)))
  have ht : Finset.univ.sup s ≠ ⊤ := by
    refine ne_of_lt ((Finset.sup_lt_iff (bot_lt_top)).2 fun j _ => lt_top_iff_ne_top.2 (htop j))
  exact ⟨(Finset.univ.sup s).toReal, (EReal.coe_toReal ht hb).symm⟩

/-- One weight: 2^(score − M), nothing for a masked key. -/
theorem exp2_score (c : Prop) [Decidable c] (S M : ℝ) :
    Ideal.exp2 ((if c then (S : EReal) else ⊥) - (M : EReal)) = ((if c then (2 : ℝ) ^ (S - M) else 0 : ℝ) : EReal) := by
  split
  · rw [← EReal.coe_sub]; rfl
  · rw [EReal.bot_sub]; rfl

/-- What an item's sheets hold at row r once the first n keys are in: one finite level for all lanes, and in each lane
    the weighted sum at that level; before any key, ⊥ and zero. -/
def RowInv (S : ℕ → ℝ) (V : ℕ → Fin 128 → ℝ) (t n : ℕ) (mu al : Fin 128 → EReal) : Prop :=
  ∃ M : ℝ, ∀ l, mu l = (M : EReal) ∧ al l = ((wsum S (fun s => V s l) t M n : ℝ) : EReal)

/-- One block of keys, from nothing or from a row that holds the keys before it. -/
theorem row_step (S : ℕ → ℝ) (V : ℕ → Fin 128 → ℝ) (t n : ℕ) (hn : n ≤ t)
    (s : FVec Ideal S512x512 .f32) (mp ap : Vec Ideal S1x512x128 .f32) (v : Vec Ideal S1x512x128 .bf16) (r : Fin 512)
    (hs : ∀ j : Fin 512, s (ix2 r j) = if n + j.val ≤ t then (S (n + j.val) : EReal) else ⊥)
    (hv : ∀ (j : Fin 512) (l : Fin 128), v (ix3 0 j l) = (V (n + j.val) l : EReal))
    (hp : (n = 0 ∧ ∀ l, mp (ix3 0 r l) = (⊥ : EReal) ∧ ap (ix3 0 r l) = (0 : EReal))
      ∨ RowInv S V t n (fun l => mp (ix3 0 r l)) (fun l => ap (ix3 0 r l))) :
    RowInv S V t (n + 512) (fun l => mOut s mp (ix3 0 r l)) (fun l => aOut s mp ap v (ix3 0 r l)) := by
  obtain ⟨B, hB⟩ := block_max (fun j => s (ix2 r j))
    (fun j => by simp only [hs j]; split <;> simp) (0 : Fin 512)
    (by simp only [hs 0]; rw [if_pos (by simpa using hn)]; exact EReal.coe_ne_bot _)
  have key : ∀ M' : ℝ, (∀ l, mNew s mp (ix2 r l) = (M' : EReal)) → ∀ l : Fin 128,
      (∑ j : Fin 512, Ideal.exp2 ((s (ix2 r j) : EReal) - mNew s mp (ix2 r ⟨j.val % 128, Nat.mod_lt _ (by norm_num)⟩)) * v (ix3 0 j l))
        = ((∑ j : Fin 512, if n + j.val ≤ t then (2 : ℝ) ^ (S (n + j.val) - M') * V (n + j.val) l else 0 : ℝ) : EReal) := by
    intro M' hM' l
    rw [ereal_sum]
    refine Finset.sum_congr rfl fun j _ => ?_
    rw [hM', hs, hv, exp2_score, ← EReal.coe_mul]
    split <;> simp
  rcases hp with ⟨rfl, hp⟩ | ⟨M, hp⟩
  · have hM' : ∀ l, mNew s mp (ix2 r l) = (B : EReal) := fun l => by
      rw [mNew_at, (hp l).1, hB]; exact max_eq_right bot_le
    refine ⟨B, fun l => ⟨by simp only [mOut_at]; exact hM' l, ?_⟩⟩
    simp only [aOut_at]
    rw [key B hM' l, (hp l).1, (hp l).2, wsum_block]
    rw [zero_mul, zero_add]
    unfold wsum
    rw [Finset.range_zero, Finset.sum_empty, zero_add]
  · beta_reduce at hp
    have hM' : ∀ l, mNew s mp (ix2 r l) = ((max M B : ℝ) : EReal) := fun l => by
      rw [mNew_at, (hp l).1, hB]; exact (EReal.coe_strictMono.monotone.map_max (a := M) (b := B)).symm
    refine ⟨max M B, fun l => ⟨by simp only [mOut_at]; exact hM' l, ?_⟩⟩
    simp only [aOut_at]
    rw [key _ hM' l, hM' l, (hp l).1, (hp l).2, wsum_block, ← wsum_level S _ t M (max M B) n, EReal.coe_add, EReal.coe_mul]
    rw [← EReal.coe_sub]
    rfl

end Cert.KernelIdeal.Attn

end
-- ==== Proof.AttnIdeal.BlockStep.lean ====
/- One step over a block of keys, for every item and every query row of a block. -/
module

public import proofs.«01_k».proof.Proof.AttnIdeal.Paths
public import proofs.«01_k».proof.Proof.AttnIdeal.Online
public import proofs.«01_k».proof.Proof.AttnIdeal.Cells

@[expose] public section

set_option maxRecDepth 16384

noncomputable section

namespace Cert.KernelIdeal.Attn

open Cert.KernelIdeal Cert.KernelIdeal.Gen
open Idealize Idealize.ShloMosaic
open Idealize.ShloMosaic.TcCoe

/-- The factor the queries are multiplied by, as a real number. -/
def qsr : ℝ := (3424635 / 33554432) * (Real.log 2)⁻¹

/-- The lane of head h where its slot's entry l lies. -/
abbrev slot (h : Fin 8) (l : Fin 128) : Fin 1024 := ⟨h.val * 128 + l.val, by have := h.isLt; have := l.isLt; omega⟩
abbrev itemE (n : Fin 16) : Fin 2 := ⟨n.val / 8, by have := n.isLt; omega⟩
abbrev itemH (n : Fin 16) : Fin 8 := ⟨n.val % 8, Nat.mod_lt _ (by norm_num)⟩

theorem qw_at (x : S2x512x1024.Idx → Elt Ideal .bf16) (n : Fin 16) (r : Fin 512) (l : Fin 128) :
    qw x n (ix3 0 r l) = x (ix3 (n0 := 2) (n1 := 512) (n2 := 1024) (itemE n) r (slot (itemH n) l)) := by
  refine congrArg x (Shape.idx3_ext ?_ ?_ ?_)
  · show n.val / 8 + 1 * 0 = n.val / 8; omega
  · show 0 + 1 * r.val = r.val; omega
  · show n.val % 8 * 128 + 1 * l.val = n.val % 8 * 128 + l.val; omega

theorem sw_at (x : S16x512x128.Idx → Elt Ideal .f32) (n : Fin 16) (r : Fin 512) (l : Fin 128) :
    sw x n (ix3 0 r l) = x (ix3 (n0 := 16) (n1 := 512) (n2 := 128) n r l) := congrArg x (rS_emb n _)

/-- The score of key s against a query slot. -/
def score (q : Fin 128 → ℝ) (k : ℕ → Fin 128 → ℝ) (s : ℕ) : ℝ := ∑ l : Fin 128, (q l * qsr) * k s l

theorem sOff_real (q k : Sheet .bf16) (r j : Fin 512) (qr kr : Fin 128 → ℝ)
    (hq : ∀ l, q (ix3 0 r l) = (qr l : EReal)) (hk : ∀ l, k (ix3 0 j l) = (kr l : EReal)) :
    sOff q k (ix2 r j) = ((∑ l : Fin 128, (qr l * qsr) * kr l : ℝ) : EReal) := by
  rw [sOff_at, ereal_sum]
  refine Finset.sum_congr rfl fun l _ => ?_
  rw [hq, hk, EReal.coe_mul, EReal.coe_mul]
  rfl

theorem fill0_at (x : S16x512x128.Idx) : fill0 x = (⊥ : EReal) := by
  pointwise [fill0, k0_pay1, named_mask]
theorem fill1_at (x : S16x512x128.Idx) : fill1 x = (0 : EReal) := by
  pointwise [fill1, k0_pay2]

/-- The blocks of one pair of batch entries: query block i, key block j, as real numbers. -/
structure Blocks (Q : Fin 2 → ℕ → Fin 8 → Fin 128 → ℝ) (K V : Fin 2 → ℕ → Fin 8 → Fin 128 → ℝ) (i j : ℕ)
    (x0 x1 x2 : S2x512x1024.Idx → Elt Ideal .bf16) : Prop where
  q : ∀ e r h l, x0 (ix3 (n0 := 2) (n1 := 512) (n2 := 1024) e r (slot h l)) = ((Q e (512 * i + r.val) h l : ℝ) : EReal)
  k : ∀ e r h l, x1 (ix3 (n0 := 2) (n1 := 512) (n2 := 1024) e r (slot h l)) = ((K e (512 * j + r.val) h l : ℝ) : EReal)
  v : ∀ e r h l, x2 (ix3 (n0 := 2) (n1 := 512) (n2 := 1024) e r (slot h l)) = ((V e (512 * j + r.val) h l : ℝ) : EReal)

/-- The scratch buffers hold, for every item and row, the keys before n. -/
def Held (Q K V : Fin 2 → ℕ → Fin 8 → Fin 128 → ℝ) (i n : ℕ) (mu al : S16x512x128.Idx → Elt Ideal .f32) : Prop :=
  ∀ (x : Fin 16) (r : Fin 512),
    RowInv (score (Q (itemE x) (512 * i + r.val) (itemH x)) fun s => K (itemE x) s (itemH x)) (fun s => V (itemE x) s (itemH x)) (512 * i + r.val) n
      (fun l => mu (ix3 (n0 := 16) (n1 := 512) (n2 := 128) x r l)) (fun l => al (ix3 (n0 := 16) (n1 := 512) (n2 := 128) x r l))

theorem held_step {Q K V : Fin 2 → ℕ → Fin 8 → Fin 128 → ℝ} {i j : ℕ} {x0 x1 x2 : S2x512x1024.Idx → Elt Ideal .bf16}
    (hb : Blocks Q K V i j x0 x1 x2) (hij : j ≤ i) (mp ap : S16x512x128.Idx → Elt Ideal .f32)
    (hp : (j = 0 ∧ mp = fill0 ∧ ap = fill1) ∨ Held Q K V i (512 * j) mp ap)
    (s : Sheet .bf16 → Sheet .bf16 → FVec Ideal S512x512 .f32) (hs : (j = i ∧ s = sDiag) ∨ (j < i ∧ s = sOff)) :
    Held Q K V i (512 * j + 512) (mStep s x0 x1 mp) (aStep s x0 x1 x2 mp ap) := by
  intro x r
  refine row_step _ _ _ (512 * j) (by omega) (s (qw x0 x) (qw x1 x)) (sw mp x) (sw ap x) (qw x2 x) r ?_ ?_ ?_
  · intro jj
    have hj := jj.isLt
    have hr := r.isLt
    have key : sOff (qw x0 x) (qw x1 x) (ix2 r jj) = ((score (Q (itemE x) (512 * i + r.val) (itemH x)) (fun s => K (itemE x) s (itemH x)) (512 * j + jj.val) : ℝ) : EReal) :=
      sOff_real _ _ _ _ _ _ (fun l => (qw_at _ _ _ _).trans (hb.q _ _ _ _)) fun l => (qw_at _ _ _ _).trans (hb.k _ _ _ _)
    rcases hs with ⟨e, rfl⟩ | ⟨e, rfl⟩
    · rw [sDiag_at, key]
      by_cases hc : jj.val ≤ r.val
      · rw [if_pos hc, if_pos (by omega)]
      · rw [if_neg hc, if_neg (by omega)]
    · rw [key, if_pos (by omega)]
  · exact fun jj l => (qw_at _ _ _ _).trans (hb.v _ _ _ _)
  · rcases hp with ⟨rfl, rfl, rfl⟩ | hp
    · exact Or.inl ⟨rfl, fun l => ⟨(sw_at _ _ _ _).trans (fill0_at _), (sw_at _ _ _ _).trans (fill1_at _)⟩⟩
    · refine Or.inr ?_
      have e := hp x r
      have e1 : (fun l => sw mp x (ix3 0 r l)) = fun l => mp (ix3 (n0 := 16) (n1 := 512) (n2 := 128) x r l) := funext fun l => sw_at _ _ _ _
      have e2 : (fun l => sw ap x (ix3 0 r l)) = fun l => ap (ix3 (n0 := 16) (n1 := 512) (n2 := 128) x r l) := funext fun l => sw_at _ _ _ _
      rw [e1, e2]
      exact e

/-- The block of the result, from the sums. -/
theorem oStep_at (a : S16x512x128.Idx → Elt Ideal .f32) (e : Fin 2) (r : Fin 512) (h : Fin 8) (d : Fin 64) :
    oStep a (ix3 (n0 := 2) (n1 := 512) (n2 := 512) e r ⟨h.val * 64 + d.val, by have := h.isLt; have := d.isLt; omega⟩)
      = Ideal.div (a (ix3 (n0 := 16) (n1 := 512) (n2 := 128) ⟨e.val * 8 + h.val, by have := h.isLt; have := e.isLt; omega⟩ r ⟨d.val, by have := d.isLt; omega⟩))
          (a (ix3 (n0 := 16) (n1 := 512) (n2 := 128) ⟨e.val * 8 + h.val, by have := h.isLt; have := e.isLt; omega⟩ r 64)) := by
  have hh := h.isLt
  have hd := d.isLt
  unfold oStep asmO
  have e1 : (⟨e.val * 8 + (h.val * 64 + d.val) / 64, by have := e.isLt; omega⟩ : Fin 16) = ⟨e.val * 8 + h.val, by have := e.isLt; omega⟩ := Fin.ext (by
    show e.val * 8 + (h.val * 64 + d.val) / 64 = e.val * 8 + h.val; omega)
  have e2 : (⟨(h.val * 64 + d.val) % 64, Nat.mod_lt _ (by norm_num)⟩ : Fin 64) = d := Fin.ext (by
    show (h.val * 64 + d.val) % 64 = d.val; omega)
  refine Eq.trans (b := oOut (sw a ⟨e.val * 8 + h.val, by have := e.isLt; omega⟩) (ix3 0 r d)) ?_ ?_
  · show oOut (sw a ⟨e.val * 8 + (h.val * 64 + d.val) / 64, _⟩) (ix3 0 r ⟨(h.val * 64 + d.val) % 64, _⟩) = _
    rw [e1, e2]
  · rw [oOut_at, sw_at, sw_at]

end Cert.KernelIdeal.Attn

end
-- ==== Proof.AttnIdeal.Traj.lean ====
/- The forty grid points: what the scratch buffers hold after each, and the result array at the end. -/
module

public import proofs.«01_k».proof.Proof.AttnIdeal.BlockStep
public import proofs.«01_k».proof.Proof.AttnIdeal.Launch

@[expose] public section

set_option maxRecDepth 16384

noncomputable section

namespace Cert.KernelIdeal.Attn

open Cert.KernelIdeal Cert.KernelIdeal.Gen
open Idealize Idealize.ShloMosaic
open Idealize.ShloMosaic.TcCoe
open Idealize.ShloMosaic.Pipeline (Dat Cfg Window)

/-- The pair of batch entries, the query block and the key block of a grid point. -/
def gN (n : ℕ) : ℕ := n / 10
def qN (n : ℕ) : ℕ := ([0, 1, 1, 2, 2, 2, 3, 3, 3, 3] : List ℕ).getD (n % 10) 0
def kN (n : ℕ) : ℕ := ([0, 0, 1, 0, 1, 2, 0, 1, 2, 3] : List ℕ).getD (n % 10) 0

theorem first_iff : ∀ t : Fin cfgA.N, P0_0 t ↔ kN t.val = 0 := by decide +kernel
theorem off_iff : ∀ t : Fin cfgA.N, P0_1 t ↔ kN t.val < qN t.val := by decide +kernel
theorem flush_diag : ∀ t : Fin cfgA.N, (cfgA.win (3 : Fin 4)).flush t = true → ¬P0_1 t := by decide +kernel
theorem order : ∀ n : Fin 40, kN n.val ≤ qN n.val ∧ qN n.val < 4 ∧ gN n.val < 4
    ∧ (kN n.val ≠ 0 → n.val ≠ 0 ∧ gN (n.val - 1) = gN n.val ∧ qN (n.val - 1) = qN n.val ∧ kN (n.val - 1) + 1 = kN n.val) := by decide
theorem lt40 (t : Fin cfgA.N) : t.val < 40 := t.isLt
theorem idx0 : ∀ t : Fin cfgA.N, (cfgA.win (0 : Fin 4)).index t = ![gN t.val, qN t.val, 0] := by decide +kernel
theorem idx1 : ∀ t : Fin cfgA.N, (cfgA.win (1 : Fin 4)).index t = ![gN t.val, kN t.val, 0] := by decide +kernel
theorem idx2 : ∀ t : Fin cfgA.N, (cfgA.win (2 : Fin 4)).index t = ![gN t.val, kN t.val, 0] := by decide +kernel
theorem idx3 : ∀ t : Fin cfgA.N, (cfgA.win (3 : Fin 4)).index t = ![gN t.val, qN t.val, 0] := by decide +kernel

end Cert.KernelIdeal.Attn

end
-- ==== Proof.AttnIdeal.Points.lean ====
/- The blocks at a grid point, and by induction over the points what the scratch buffers hold. -/
module

public import proofs.«01_k».proof.Proof.AttnIdeal.Traj

@[expose] public section

set_option maxRecDepth 16384

noncomputable section

namespace Cert.KernelIdeal.Attn

open Cert.KernelIdeal Cert.KernelIdeal.Gen
open Idealize Idealize.ShloMosaic
open Idealize.ShloMosaic.TcCoe
open Idealize.ShloMosaic.Pipeline (Dat Cfg Window)

theorem emb0 (t : Fin cfgA.N) (y : S2x512x1024.Idx) (b : Fin 8) (p : Fin 2048) (hb : b.val = 2 * gN t.val + (y 0).val) (hp : p.val = 512 * qN t.val + (y 1).val) :
    (((cfgA.win (0 : Fin 4)).blk t).view.emb y : S8x2048x1024.Idx) = ix3 (n0 := 8) (n1 := 2048) (n2 := 1024) b p (y 2) := by
  have e := idx0 t
  refine Shape.idx3_ext ?_ ?_ ?_
  · blk_simp [e]; omega
  · blk_simp [e]; omega
  · blk_simp [e]

theorem emb1 (t : Fin cfgA.N) (y : S2x512x1024.Idx) (b : Fin 8) (p : Fin 2048) (hb : b.val = 2 * gN t.val + (y 0).val) (hp : p.val = 512 * kN t.val + (y 1).val) :
    (((cfgA.win (1 : Fin 4)).blk t).view.emb y : S8x2048x1024.Idx) = ix3 (n0 := 8) (n1 := 2048) (n2 := 1024) b p (y 2) := by
  have e := idx1 t
  refine Shape.idx3_ext ?_ ?_ ?_
  · blk_simp [e]; omega
  · blk_simp [e]; omega
  · blk_simp [e]

theorem emb2 (t : Fin cfgA.N) (y : S2x512x1024.Idx) (b : Fin 8) (p : Fin 2048) (hb : b.val = 2 * gN t.val + (y 0).val) (hp : p.val = 512 * kN t.val + (y 1).val) :
    (((cfgA.win (2 : Fin 4)).blk t).view.emb y : S8x2048x1024.Idx) = ix3 (n0 := 8) (n1 := 2048) (n2 := 1024) b p (y 2) := by
  have e := idx2 t
  refine Shape.idx3_ext ?_ ?_ ?_
  · blk_simp [e]; omega
  · blk_simp [e]; omega
  · blk_simp [e]

theorem emb3 (t : Fin cfgA.N) (y : S2x512x512.Idx) (b : Fin 8) (p : Fin 2048) (hb : b.val = 2 * gN t.val + (y 0).val) (hp : p.val = 512 * qN t.val + (y 1).val) :
    (((cfgA.win (3 : Fin 4)).blk t).view.emb y : S8x2048x512.Idx) = ix3 (n0 := 8) (n1 := 2048) (n2 := 512) b p (y 2) := by
  have e := idx3 t
  refine Shape.idx3_ext ?_ ?_ ?_
  · blk_simp [e]; omega
  · blk_simp [e]; omega
  · blk_simp [e]

variable (m : (ℓ : Loc nD τ sig) → Buf (Elt Ideal) ℓ) (ρ : Dev nD → PrngReg) (c : Dev nD)

/-- The three arrays the call reads hold these real numbers in their slots. -/
structure Slots (Q K V : ℕ → ℕ → Fin 8 → Fin 128 → ℝ) : Prop where
  q : ∀ (b : Fin 8) (p : Fin 2048) h l, (m ((c : Thread nD τ).loc main_v11) : S8x2048x1024.Idx → EReal) (ix3 (n0 := 8) (n1 := 2048) (n2 := 1024) b p (slot h l)) = ((Q b.val p.val h l : ℝ) : EReal)
  k : ∀ (b : Fin 8) (p : Fin 2048) h l, (m ((c : Thread nD τ).loc main_v13) : S8x2048x1024.Idx → EReal) (ix3 (n0 := 8) (n1 := 2048) (n2 := 1024) b p (slot h l)) = ((K b.val p.val h l : ℝ) : EReal)
  v : ∀ (b : Fin 8) (p : Fin 2048) h l, (m ((c : Thread nD τ).loc main_v14) : S8x2048x1024.Idx → EReal) (ix3 (n0 := 8) (n1 := 2048) (n2 := 1024) b p (slot h l)) = ((V b.val p.val h l : ℝ) : EReal)
  one : ∀ b p h, V b p h 64 = 1

variable {m c} {Q K V : ℕ → ℕ → Fin 8 → Fin 128 → ℝ}

/-- The pair of batch entries at a grid point. -/
abbrev pair (Q : ℕ → ℕ → Fin 8 → Fin 128 → ℝ) (g : ℕ) : Fin 2 → ℕ → Fin 8 → Fin 128 → ℝ := fun e => Q (2 * g + e.val)

theorem blocks_at (hs : Slots m c Q K V) (t : Fin cfgA.N) :
    Blocks (pair Q (gN t.val)) (pair K (gN t.val)) (pair V (gN t.val)) (qN t.val) (kN t.val)
      (iblk m ρ c (0 : Fin 4) t) (iblk m ρ c (1 : Fin 4) t) (iblk m ρ c (2 : Fin 4) t) := by
  obtain ⟨h1, h2, h3, _⟩ := order ⟨t.val, lt40 t⟩
  dsimp only at h1 h2 h3
  constructor
  · intro e r h l
    have he := e.isLt
    have hr := r.isLt
    have x := emb0 t (ix3 (n0 := 2) (n1 := 512) (n2 := 1024) e r (slot h l)) ⟨2 * gN t.val + e.val, by omega⟩ ⟨512 * qN t.val + r.val, by omega⟩ rfl rfl
    exact (congrArg (m ((c : Thread nD τ).loc main_v11) : S8x2048x1024.Idx → EReal) x).trans (hs.q ⟨2 * gN t.val + e.val, by omega⟩ ⟨512 * qN t.val + r.val, by omega⟩ h l)
  · intro e r h l
    have he := e.isLt
    have hr := r.isLt
    have x := emb1 t (ix3 (n0 := 2) (n1 := 512) (n2 := 1024) e r (slot h l)) ⟨2 * gN t.val + e.val, by omega⟩ ⟨512 * kN t.val + r.val, by omega⟩ rfl rfl
    exact (congrArg (m ((c : Thread nD τ).loc main_v13) : S8x2048x1024.Idx → EReal) x).trans (hs.k ⟨2 * gN t.val + e.val, by omega⟩ ⟨512 * kN t.val + r.val, by omega⟩ h l)
  · intro e r h l
    have he := e.isLt
    have hr := r.isLt
    have x := emb2 t (ix3 (n0 := 2) (n1 := 512) (n2 := 1024) e r (slot h l)) ⟨2 * gN t.val + e.val, by omega⟩ ⟨512 * kN t.val + r.val, by omega⟩ rfl rfl
    exact (congrArg (m ((c : Thread nD τ).loc main_v14) : S8x2048x1024.Idx → EReal) x).trans (hs.v ⟨2 * gN t.val + e.val, by omega⟩ ⟨512 * kN t.val + r.val, by omega⟩ h l)

theorem prev0_succ (t : Fin cfgA.N) (h : t.val ≠ 0) : prev0 m ρ c t = traj0 m ρ c (t.val - 1) (by have := t.isLt; omega) := by
  unfold prev0; rw [dif_neg h]

theorem fst_of {A B C : Type} {x : A × B × C} {a : A} {b : B} {c : C} (h : x = (a, b, c)) : x.1 = a := by rw [h]
theorem mid_of {A B C : Type} {x : A × B × C} {a : A} {b : B} {c : C} (h : x = (a, b, c)) : x.2.1 = b := by rw [h]
theorem last_of {A B C : Type} {x : A × B × C} {a : A} {b : B} {c : C} (h : x = (a, b, c)) : x.2.2 = c := by rw [h]

/-! What a point of each path leaves, whatever it finds. -/

theorem leftA_m (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : ¬P0_1 t) :
    (step0 m ρ c t prev).2.1 = mStep sDiag (iblk m ρ c (0 : Fin 4) t) (iblk m ρ c (1 : Fin 4) t) fill0 :=
  (mid_of (step0_A m ρ c t prev q0 q1)).trans (runA_m c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) (hypsR0_A t q0 q1).1 (hypsR0_A t q0 q1).2.1 (hypsR0_A t q0 q1).2.2.1)
theorem leftA_a (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : ¬P0_1 t) :
    (step0 m ρ c t prev).2.2 = aStep sDiag (iblk m ρ c (0 : Fin 4) t) (iblk m ρ c (1 : Fin 4) t) (iblk m ρ c (2 : Fin 4) t) fill0 fill1 :=
  (last_of (step0_A m ρ c t prev q0 q1)).trans (runA_a c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) (hypsR0_A t q0 q1).1 (hypsR0_A t q0 q1).2.1 (hypsR0_A t q0 q1).2.2.1)
theorem leftA_o (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : ¬P0_1 t) :
    (step0 m ρ c t prev).1 = oStep (aStep sDiag (iblk m ρ c (0 : Fin 4) t) (iblk m ρ c (1 : Fin 4) t) (iblk m ρ c (2 : Fin 4) t) fill0 fill1) :=
  (fst_of (step0_A m ρ c t prev q0 q1)).trans (outA c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) (hypsR0_A t q0 q1).1 (hypsR0_A t q0 q1).2.1 (hypsR0_A t q0 q1).2.2.1)
theorem leftB_m (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : P0_1 t) :
    (step0 m ρ c t prev).2.1 = mStep sOff (iblk m ρ c (0 : Fin 4) t) (iblk m ρ c (1 : Fin 4) t) fill0 :=
  (mid_of (step0_B m ρ c t prev q0 q1)).trans (runB_m c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) (hypsR0_B t q0 q1).1 (hypsR0_B t q0 q1).2.1 (hypsR0_B t q0 q1).2.2.1)
theorem leftB_a (t : Fin cfgA.N) (prev : (S2x512x512.Idx → Elt Ideal .f32) × Buf (Elt Ideal) ((c : Thread nD τ).loc cc0_scratch0) × Buf (Elt Ideal) ((c : Thread nD τ).loc cc0_scratch1)) (q0 : P0_0 t) (q1 : P0_1 t) :
    (step0 m ρ c t prev).2.2 = aStep sOff (iblk m ρ c (0 : Fin 4) t) (iblk m ρ c (1 : Fin 4) t) (iblk m ρ c (2 : Fin 4) t) fill0 fill1 :=
  (last_of (step0_B m ρ c t prev q0 q1)).trans (runB_a c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) (hypsR0_B t q0 q1).1 (hypsR0_B t q0 q1).2.1 (hypsR0_B t q0 q1).2.2.1)
theorem leftC_m (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : ¬P0_1 t) :
    (step0 m ρ c t prev).2.1 = mStep sDiag (iblk m ρ c (0 : Fin 4) t) (iblk m ρ c (1 : Fin 4) t) prev.2.1 :=
  (mid_of (step0_C m ρ c t prev q0 q1)).trans (runC_m c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1)
theorem leftC_a (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : ¬P0_1 t) :
    (step0 m ρ c t prev).2.2 = aStep sDiag (iblk m ρ c (0 : Fin 4) t) (iblk m ρ c (1 : Fin 4) t) (iblk m ρ c (2 : Fin 4) t) prev.2.1 prev.2.2 :=
  (last_of (step0_C m ρ c t prev q0 q1)).trans (runC_a c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1)
theorem leftC_o (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : ¬P0_1 t) :
    (step0 m ρ c t prev).1 = oStep (aStep sDiag (iblk m ρ c (0 : Fin 4) t) (iblk m ρ c (1 : Fin 4) t) (iblk m ρ c (2 : Fin 4) t) prev.2.1 prev.2.2) :=
  (fst_of (step0_C m ρ c t prev q0 q1)).trans (outC c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) prev.2.1 prev.2.2 (hypsR0_C t q0 q1).1 (hypsR0_C t q0 q1).2.1 (hypsR0_C t q0 q1).2.2.1)
theorem leftD_m (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : P0_1 t) :
    (step0 m ρ c t prev).2.1 = mStep sOff (iblk m ρ c (0 : Fin 4) t) (iblk m ρ c (1 : Fin 4) t) prev.2.1 :=
  (mid_of (step0_D m ρ c t prev q0 q1)).trans (runD_m c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1)
theorem leftD_a (t : Fin cfgA.N) (prev : (S2x512x512.Idx → Elt Ideal .f32) × Buf (Elt Ideal) ((c : Thread nD τ).loc cc0_scratch0) × Buf (Elt Ideal) ((c : Thread nD τ).loc cc0_scratch1)) (q0 : ¬P0_0 t) (q1 : P0_1 t) :
    (step0 m ρ c t prev).2.2 = aStep sOff (iblk m ρ c (0 : Fin 4) t) (iblk m ρ c (1 : Fin 4) t) (iblk m ρ c (2 : Fin 4) t) prev.2.1 prev.2.2 :=
  (last_of (step0_D m ρ c t prev q0 q1)).trans (runD_a c (crd t) (ms0_0 t) (hs0_0 t) (ms0_1 t) (hs0_1 t) (ms0_2 t) (hs0_2 t) (ms0_3 t) (hs0_3 t) pinT_0 pinT_1
    (iblk m ρ c (0 : Fin 4) t) (iblk m ρ c (1 : Fin 4) t) (iblk m ρ c (2 : Fin 4) t) prev.2.1 prev.2.2 (hypsR0_D t q0 q1).1 (hypsR0_D t q0 q1).2.1 (hypsR0_D t q0 q1).2.2.1)

theorem held_at (hs : Slots m c Q K V) : ∀ (n : ℕ) (hn : n < cfgA.N),
    Held (pair Q (gN n)) (pair K (gN n)) (pair V (gN n)) (qN n) (512 * kN n + 512) (traj0 m ρ c n hn).2.1 (traj0 m ρ c n hn).2.2 := by
  intro n
  induction n using Nat.strong_induction_on with
  | _ n ih =>
  intro hn
  obtain ⟨h1, h2, h3, h4⟩ := order ⟨n, hn⟩
  dsimp only at h1 h2 h3 h4
  have f0 := first_iff ⟨n, hn⟩
  have f1 := off_iff ⟨n, hn⟩
  have hb := blocks_at ρ hs ⟨n, hn⟩
  have ht := traj0_eq m ρ c ⟨n, hn⟩
  dsimp only at f0 f1 hb ht
  have hprev : ∀ q0 : ¬P0_0 ⟨n, hn⟩, Held (pair Q (gN n)) (pair K (gN n)) (pair V (gN n)) (qN n) (512 * kN n) (prev0 m ρ c ⟨n, hn⟩).2.1 (prev0 m ρ c ⟨n, hn⟩).2.2 := by
    intro q0
    obtain ⟨k1, k2, k3, k4⟩ := h4 fun h => q0 (f0.2 h)
    have e := ih (n - 1) (by omega) (by omega)
    rw [prev0_succ ρ ⟨n, hn⟩ k1]
    rw [k2, k3, show 512 * kN (n - 1) + 512 = 512 * kN n by omega] at e
    exact e
  rw [ht]
  by_cases q0 : P0_0 ⟨n, hn⟩ <;> by_cases q1 : P0_1 ⟨n, hn⟩
  · rw [leftB_m ρ ⟨n, hn⟩ _ q0 q1, leftB_a ρ ⟨n, hn⟩ _ q0 q1]
    exact held_step hb h1 _ _ (Or.inl ⟨f0.1 q0, rfl, rfl⟩) _ (Or.inr ⟨f1.1 q1, rfl⟩)
  · rw [leftA_m ρ ⟨n, hn⟩ _ q0 q1, leftA_a ρ ⟨n, hn⟩ _ q0 q1]
    exact held_step hb h1 _ _ (Or.inl ⟨f0.1 q0, rfl, rfl⟩) _ (Or.inl ⟨Nat.le_antisymm h1 (not_lt.1 fun h => q1 (f1.2 h)), rfl⟩)
  · rw [leftD_m ρ ⟨n, hn⟩ _ q0 q1, leftD_a ρ ⟨n, hn⟩ _ q0 q1]
    exact held_step hb h1 _ _ (Or.inr (hprev q0)) _ (Or.inr ⟨f1.1 q1, rfl⟩)
  · rw [leftC_m ρ ⟨n, hn⟩ _ q0 q1, leftC_a ρ ⟨n, hn⟩ _ q0 q1]
    exact held_step hb h1 _ _ (Or.inr (hprev q0)) _ (Or.inl ⟨Nat.le_antisymm h1 (not_lt.1 fun h => q1 (f1.2 h)), rfl⟩)

/-- At a point of the diagonal the block of the result is read off the sums. -/
theorem out_at (t : Fin cfgA.N) (q1 : ¬P0_1 t) : (traj0 m ρ c t.val t.isLt).1 = oStep (traj0 m ρ c t.val t.isLt).2.2 := by
  rw [traj0_eq m ρ c t]
  by_cases q0 : P0_0 t
  · rw [leftA_o ρ t _ q0 q1, leftA_a ρ t _ q0 q1]
  · rw [leftC_o ρ t _ q0 q1, leftC_a ρ t _ q0 q1]

end Cert.KernelIdeal.Attn

end
-- ==== Proof.AttnIdeal.Array.lean ====
/- The result array of the call: for every query the weighted mean of the values of the keys up to it. -/
module

public import proofs.«01_k».proof.Proof.AttnIdeal.Points

@[expose] public section

set_option maxRecDepth 16384

noncomputable section

namespace Cert.KernelIdeal.Attn

open Cert.KernelIdeal Cert.KernelIdeal.Gen
open Idealize Idealize.ShloMosaic
open Idealize.ShloMosaic.TcCoe
open Idealize.ShloMosaic.Pipeline (Dat Cfg Window)

/-- The weighted sum over the keys up to t, at level zero. -/
def asum (S V : ℕ → ℝ) (t : ℕ) : ℝ := ∑ s ∈ Finset.range (t + 1), (2 : ℝ) ^ S s * V s

theorem wsum_eq (S V : ℕ → ℝ) (t : ℕ) (M : ℝ) (n : ℕ) (h : t < n) : wsum S V t M n = asum S V t * (2 : ℝ) ^ (-M) := by
  unfold wsum asum
  rw [← Finset.sum_filter, Finset.sum_mul]
  have e : (Finset.range n).filter (fun s => s ≤ t) = Finset.range (t + 1) := by
    ext s; simp only [Finset.mem_filter, Finset.mem_range]; omega
  rw [e]
  refine Finset.sum_congr rfl fun s _ => ?_
  rw [sub_eq_add_neg, Real.rpow_add (by norm_num)]; ring

theorem asum_pos (S : ℕ → ℝ) (V : ℕ → ℝ) (hV : ∀ s, V s = 1) (t : ℕ) : 0 < asum S V t := by
  unfold asum
  refine Finset.sum_pos (fun s _ => ?_) ⟨0, Finset.mem_range.2 (Nat.succ_pos t)⟩
  rw [hV, mul_one]
  exact Real.rpow_pos_of_pos (by norm_num) _

theorem div_real (x y : ℝ) (h : y ≠ 0) : Ideal.div (x : EReal) (y : EReal) = ((x / y : ℝ) : EReal) := by
  rw [Ideal.div_coe h, ← EReal.coe_mul, mul_one_div]

/-- The attention of batch entry b, query p, head h, at column d. -/
def attn (Q K V : ℕ → ℕ → Fin 8 → Fin 128 → ℝ) (b p : ℕ) (h : Fin 8) (d : Fin 64) : ℝ :=
  asum (score (Q b p h) fun s => K b s h) (fun s => V b s h ⟨d.val, by have := d.isLt; omega⟩) p
    / asum (score (Q b p h) fun s => K b s h) (fun s => V b s h 64) p

theorem oStep_held {Q K V : Fin 2 → ℕ → Fin 8 → Fin 128 → ℝ} {i n : ℕ} {mu al : S16x512x128.Idx → Elt Ideal .f32}
    (hh : Held Q K V i n mu al) (hn : 512 * i + 511 < n) (hV : ∀ e s h, V e s h 64 = 1) (e : Fin 2) (r : Fin 512) (h : Fin 8) (d : Fin 64) :
    oStep al (ix3 (n0 := 2) (n1 := 512) (n2 := 512) e r ⟨h.val * 64 + d.val, by have := h.isLt; have := d.isLt; omega⟩)
      = ((asum (score (Q e (512 * i + r.val) h) fun s => K e s h) (fun s => V e s h ⟨d.val, by have := d.isLt; omega⟩) (512 * i + r.val)
        / asum (score (Q e (512 * i + r.val) h) fun s => K e s h) (fun s => V e s h 64) (512 * i + r.val) : ℝ) : EReal) := by
  have he' := e.isLt
  have hh' := h.isLt
  have hr := r.isLt
  obtain ⟨M, hM⟩ := hh ⟨e.val * 8 + h.val, by omega⟩ r
  have e1 : itemE ⟨e.val * 8 + h.val, by omega⟩ = e := Fin.ext (by show (e.val * 8 + h.val) / 8 = e.val; omega)
  have e2 : itemH ⟨e.val * 8 + h.val, by omega⟩ = h := Fin.ext (by show (e.val * 8 + h.val) % 8 = h.val; omega)
  rw [e1, e2] at hM
  beta_reduce at hM
  rw [oStep_at, (hM ⟨d.val, by have := d.isLt; omega⟩).2, (hM 64).2, wsum_eq _ _ _ _ _ (by omega), wsum_eq _ _ _ _ _ (by omega)]
  have hp := Real.rpow_pos_of_pos (show (0 : ℝ) < 2 by norm_num) (-M)
  have ha := asum_pos (score (Q e (512 * i + r.val) h) fun s => K e s h) (fun s => V e s h 64) (fun s => hV e s h) (512 * i + r.val)
  rw [div_real _ _ (mul_pos ha hp).ne', mul_div_mul_right _ _ hp.ne']

/-- The whole array. -/
def result (Q K V : ℕ → ℕ → Fin 8 → Fin 128 → ℝ) : S8x2048x512.Idx → EReal := fun y =>
  ((attn Q K V (y 0).val (y 1).val ⟨(y 2).val / 64, by have : (y 2).val < 512 := (y 2).isLt; omega⟩ ⟨(y 2).val % 64, Nat.mod_lt _ (by norm_num)⟩ : ℝ) : EReal)

variable {m : (ℓ : Loc nD τ sig) → Buf (Elt Ideal) ℓ} (ρ : Dev nD → PrngReg) {c : Dev nD} {Q K V : ℕ → ℕ → Fin 8 → Fin 128 → ℝ}

theorem block_result (hs : Slots m c Q K V) (t : Fin cfgA.N) (q1 : ¬P0_1 t) (y : S2x512x512.Idx) :
    (traj0 m ρ c t.val t.isLt).1 y = result Q K V (((cfgA.win (3 : Fin 4)).blk t).view.emb y) := by
  obtain ⟨h1, h2, h3, h4⟩ := order ⟨t.val, lt40 t⟩
  dsimp only at h1 h2 h3 h4
  have hy0 : (y 0).val < 2 := (y 0).isLt
  have hy1 : (y 1).val < 512 := (y 1).isLt
  have hy2 : (y 2).val < 512 := (y 2).isLt
  have hk : kN t.val = qN t.val := Nat.le_antisymm h1 (not_lt.1 fun h => q1 ((off_iff t).2 h))
  have hh := held_at ρ hs t.val t.isLt
  have e := oStep_held hh (by omega) (fun e s h => hs.one _ _ _) (y 0) (y 1) ⟨(y 2).val / 64, by omega⟩ ⟨(y 2).val % 64, Nat.mod_lt _ (by norm_num)⟩
  rw [out_at ρ t q1]
  have hy : y = ix3 (n0 := 2) (n1 := 512) (n2 := 512) (y 0) (y 1) ⟨(y 2).val / 64 * 64 + (y 2).val % 64, by omega⟩ :=
    Shape.idx3_ext rfl rfl (by show (y 2).val = (y 2).val / 64 * 64 + (y 2).val % 64; omega)
  have hemb := emb3 t y ⟨2 * gN t.val + (y 0).val, by omega⟩ ⟨512 * qN t.val + (y 1).val, by omega⟩ rfl rfl
  refine Eq.trans (congrArg _ hy) (e.trans ?_)
  exact (congrArg (result Q K V) hemb).symm

/-- What the call leaves in its result array. -/
theorem result_array (hs : Slots m c Q K V) : (dats m ρ 0 c).arrAt (3 : Fin 4) cfgA.N = result Q K V := by
  refine (dats m ρ 0 c).arrAt_eq_of_covers (3 : Fin 4) _ (by decide +kernel) fun t hf y => ?_
  exact block_result ρ hs t (flush_diag t hf) y

end Cert.KernelIdeal.Attn

end
-- ==== Proof.AttnIdeal.Host.lean ====
/- The three arrays the call reads, from the arguments: each head's slot of 128 lanes. -/
module

public import proofs.«01_k».proof.Proof.AttnIdeal.Array
public import Idealize.ShloMosaic.Lib.Claim

@[expose] public section

set_option maxRecDepth 16384

noncomputable section

namespace Cert.KernelIdeal.Attn

open Cert.KernelIdeal Cert.KernelIdeal.Gen
open Idealize Idealize.ShloMosaic
open Idealize.ShloMosaic.TcCoe

variable (m : (ℓ : Loc nD τ sig) → Buf (Elt Ideal) ℓ) (c : Dev nD)

def slotsOf (x : S8x2048x8x96.Idx → Ideal .bf16) : S8x2048x1024.Idx → Ideal .bf16 :=
  shapeCast S8x2048x1024 (pad S8x2048x8x128 ![0, 0, 0, 0] ![0, 0, 0, 32] ![0, 0, 0, 0] x (constant S_ .bf16 0x0000#16) pads_S8x2048x8x96_S8x2048x8x128_000_000_000_0320 h_S_ : S8x2048x8x128.Idx → Ideal .bf16) shapeCasts_S8x2048x8x128_S8x2048x1024

def slotsV (x : S8x2048x8x64.Idx → Ideal .bf16) : S8x2048x1024.Idx → Ideal .bf16 :=
  shapeCast S8x2048x1024 (truncf .bf16 (addf (F := Ideal) (pad S8x2048x8x128 ![0, 0, 0, 0] ![0, 0, 0, 64] ![0, 0, 0, 0] (extf .f32 (F := Ideal) x bitsLt_bf16_f32 : S8x2048x8x64.Idx → Ideal .f32) (constant S_ .f32 0x00000000#32) pads_S8x2048x8x64_S8x2048x8x128_000_000_000_0640 h_S_ : S8x2048x8x128.Idx → Ideal .f32)
    (broadcastInDim S8x2048x8x128 ![0, 1, 2, 3] bcast_S1x1x1x128_S8x2048x8x128_0_1_2_3 (broadcastInDim S1x1x1x128 ![3] bcast_S128_S1x1x1x128_3
      (uitofp .f32 (cmpi .eq (iotaInDim S128 32 0) (broadcastInDim S128 ![] bcast_S_S128 (constantI S_ 32 64#32))) : S128.Idx → Ideal .f32)))) bitsLt_bf16_f32) shapeCasts_S8x2048x8x128_S8x2048x1024

set_option maxHeartbeats 1000000 in
theorem mid_q : mid m ((c : Thread nD τ).loc main_v11) = slotsOf (m ((c : Thread nD τ).loc main_arg0)) := by
  delta mid; simp only [hostOps0]
  after_results_simp <;> rfl
set_option maxHeartbeats 1000000 in
theorem mid_k : mid m ((c : Thread nD τ).loc main_v13) = slotsOf (m ((c : Thread nD τ).loc main_arg1)) := by
  delta mid; simp only [hostOps0]
  after_results_simp <;> rfl
set_option maxHeartbeats 1000000 in
theorem mid_v : mid m ((c : Thread nD τ).loc main_v14) = slotsV (m ((c : Thread nD τ).loc main_arg2)) := by
  delta mid; simp only [hostOps0]
  after_results_simp <;> rfl

theorem slotsOf_at (x : S8x2048x8x96.Idx → Ideal .bf16) (b : Fin 8) (p : Fin 2048) (h : Fin 8) (l : Fin 128) :
    (slotsOf x (ix3 (n0 := 8) (n1 := 2048) (n2 := 1024) b p (slot h l)) : EReal)
      = if hl : l.val < 96 then x (ix4 (n0 := 8) (n1 := 2048) (n2 := 8) (n3 := 96) b p h ⟨l.val, hl⟩) else 0 := by
  have hh := h.isLt
  have hl' := l.isLt
  have e1 : (h.val * 128 + l.val) / 128 = h.val := by omega
  have e2 : (h.val * 128 + l.val) % 128 = l.val := by omega
  pointwise [slotsOf]
  simp only [e1, e2]
  by_cases hl : l.val < 96
  · rw [dif_pos ⟨hh, hl⟩, dif_pos hl]
  · rw [dif_neg fun g => hl g.2, dif_neg hl]

/-- The row that is one at lane 64. -/
theorem lane_one (l : Fin 128) : (FloatOps.uitofp (F := Ideal) FTy.f32 (IntOp.cmpi CmpIPredicate.eq (BitVec.ofNat 32 l.val) 64#32) : EReal) = if l = 64 then 1 else 0 := by
  have e : IntOp.cmpi CmpIPredicate.eq (BitVec.ofNat 32 l.val) 64#32 = if l = 64 then 1#1 else 0#1 := by
    revert l; decide
  rw [e]
  by_cases h : l = 64
  · rw [if_pos h, if_pos h]
    show ((((1#1 : BitVec 1).toNat : ℝ) : EReal)) = 1
    norm_num
  · rw [if_neg h, if_neg h]
    show ((((0#1 : BitVec 1).toNat : ℝ) : EReal)) = 0
    norm_num

theorem slotsV_at (x : S8x2048x8x64.Idx → Ideal .bf16) (b : Fin 8) (p : Fin 2048) (h : Fin 8) (l : Fin 128) :
    (slotsV x (ix3 (n0 := 8) (n1 := 2048) (n2 := 1024) b p (slot h l)) : EReal)
      = if hl : l.val < 64 then x (ix4 (n0 := 8) (n1 := 2048) (n2 := 8) (n3 := 64) b p h ⟨l.val, hl⟩) else if l = 64 then 1 else 0 := by
  have hh := h.isLt
  have hl' := l.isLt
  have e1 : (h.val * 128 + l.val) / 128 = h.val := by omega
  have e2 : (h.val * 128 + l.val) % 128 = l.val := by omega
  pointwise [slotsV]
  simp only [e1, e2]
  refine (congrArg _ (lane_one l)).trans ?_
  by_cases hl : l.val < 64
  · rw [dif_pos ⟨hh, hl⟩, dif_pos hl, if_neg fun g => by rw [g] at hl; exact absurd hl (by decide), add_zero]
  · rw [dif_neg fun g => hl g.2, dif_neg hl, zero_add]

/-- An array of real numbers. -/
def AllReal {ι : Type} (x : ι → EReal) : Prop := ∀ i, x i ≠ ⊥ ∧ x i ≠ ⊤

/-- The arguments' entries as real numbers, in slots. -/
def rq (A : S8x2048x8x96.Idx → EReal) (b p : ℕ) (h : Fin 8) (l : Fin 128) : ℝ :=
  if hx : b < 8 ∧ p < 2048 ∧ l.val < 96 then (A (ix4 (n0 := 8) (n1 := 2048) (n2 := 8) (n3 := 96) ⟨b, hx.1⟩ ⟨p, hx.2.1⟩ h ⟨l.val, hx.2.2⟩)).toReal else 0
def rv (A : S8x2048x8x64.Idx → EReal) (b p : ℕ) (h : Fin 8) (l : Fin 128) : ℝ :=
  if hx : b < 8 ∧ p < 2048 ∧ l.val < 64 then (A (ix4 (n0 := 8) (n1 := 2048) (n2 := 8) (n3 := 64) ⟨b, hx.1⟩ ⟨p, hx.2.1⟩ h ⟨l.val, hx.2.2⟩)).toReal
  else if l = 64 then 1 else 0

theorem slotsOf_real (x : S8x2048x8x96.Idx → Ideal .bf16) (hx : AllReal x) (b : Fin 8) (p : Fin 2048) (h : Fin 8) (l : Fin 128) :
    (slotsOf x (ix3 (n0 := 8) (n1 := 2048) (n2 := 1024) b p (slot h l)) : EReal) = ((rq x b.val p.val h l : ℝ) : EReal) := by
  rw [slotsOf_at]
  unfold rq
  by_cases hl : l.val < 96
  · rw [dif_pos hl, dif_pos ⟨b.isLt, p.isLt, hl⟩]
    exact (EReal.coe_toReal (hx _).2 (hx _).1).symm
  · rw [dif_neg hl, dif_neg fun g => hl g.2.2]; rfl

theorem slotsV_real (x : S8x2048x8x64.Idx → Ideal .bf16) (hx : AllReal x) (b : Fin 8) (p : Fin 2048) (h : Fin 8) (l : Fin 128) :
    (slotsV x (ix3 (n0 := 8) (n1 := 2048) (n2 := 1024) b p (slot h l)) : EReal) = ((rv x b.val p.val h l : ℝ) : EReal) := by
  rw [slotsV_at]
  unfold rv
  by_cases hl : l.val < 64
  · rw [dif_pos hl, dif_pos ⟨b.isLt, p.isLt, hl⟩]
    exact (EReal.coe_toReal (hx _).2 (hx _).1).symm
  · rw [dif_neg hl, dif_neg fun g => hl g.2.2]
    by_cases h6 : l = 64
    · rw [if_pos h6, if_pos h6]; rfl
    · rw [if_neg h6, if_neg h6]; rfl

/-- The call's three arrays, given that the arguments are finite. -/
theorem slots_mid (h0 : AllReal (m ((c : Thread nD τ).loc main_arg0) : S8x2048x8x96.Idx → EReal))
    (h1 : AllReal (m ((c : Thread nD τ).loc main_arg1) : S8x2048x8x96.Idx → EReal))
    (h2 : AllReal (m ((c : Thread nD τ).loc main_arg2) : S8x2048x8x64.Idx → EReal)) :
    Slots (mid m) c (rq (m ((c : Thread nD τ).loc main_arg0))) (rq (m ((c : Thread nD τ).loc main_arg1))) (rv (m ((c : Thread nD τ).loc main_arg2))) where
  q b p h l := (congrFun (mid_q m c) _).trans (slotsOf_real _ h0 b p h l)
  k b p h l := (congrFun (mid_k m c) _).trans (slotsOf_real _ h1 b p h l)
  v b p h l := (congrFun (mid_v m c) _).trans (slotsV_real _ h2 b p h l)
  one b p h := by
    unfold rv
    rw [dif_neg fun g => absurd g.2.2 (by decide), if_pos rfl]

end Cert.KernelIdeal.Attn

end
-- ==== Proof.Plain.Value.lean ====
/- Over finite arguments the plain attention is the kernel's array: the exponential of a score is a power of two, whatever
   level is taken off first cancels in the quotient, and the lanes past a head's width add nothing. -/
module

public import proofs.«01_k».proof.Proof.Plain.Reference
public import proofs.«01_k».proof.Proof.AttnIdeal.Host

@[expose] public section

set_option maxRecDepth 16384

noncomputable section

namespace Cert.ReferenceIdeal.Attn

open Cert.ReferenceIdeal Cert.ReferenceIdeal.Gen
open Idealize Idealize.ShloMosaic
open Idealize.ShloMosaic.TcCoe
open Cert.KernelIdeal.Attn (rq rv AllReal score qsr asum asum_pos div_real ereal_sum attn result)

/-- A sum over the lanes of a slot whose lanes from 96 on hold nothing. -/
theorem sum_lanes (f : Fin 128 → ℝ) (hf : ∀ l : Fin 128, 96 ≤ l.val → f l = 0) :
    ∑ l : Fin 128, f l = ∑ l : Fin 96, f ⟨l.val, by have := l.isLt; omega⟩ := by
  have e := Fin.sum_univ_add (a := 96) (b := 32) f
  refine e.trans ?_
  rw [Finset.sum_eq_zero (s := (Finset.univ : Finset (Fin 32))) fun l _ => hf _ (by simp), add_zero]
  rfl

theorem score_eq (q : Fin 128 → ℝ) (k : ℕ → Fin 128 → ℝ) (s : ℕ) (hq : ∀ l : Fin 128, 96 ≤ l.val → q l = 0) :
    Real.log 2 * score q k s
      = (∑ l : Fin 96, q ⟨l.val, by have := l.isLt; omega⟩ * k s ⟨l.val, by have := l.isLt; omega⟩) * (3424635 / 33554432) := by
  have hl : Real.log 2 ≠ 0 := (Real.log_pos (by norm_num)).ne'
  unfold score
  rw [sum_lanes _ fun l hh => by rw [hq l hh, zero_mul, zero_mul], Finset.mul_sum, Finset.sum_mul]
  refine Finset.sum_congr rfl fun l _ => ?_
  unfold qsr
  field_simp

theorem rq_wide (A : S8x2048x8x96.Idx → EReal) (b p : ℕ) (h : Fin 8) (l : Fin 128) (hl : 96 ≤ l.val) : rq A b p h l = 0 := by
  unfold rq
  exact dif_neg fun g => absurd g.2.2 (by omega)

theorem rq_eq (A : S8x2048x8x96.Idx → EReal) (hA : AllReal A) (b h : Fin 8) (p : Fin 2048) (l : Fin 96) :
    A (ix4 (n0 := 8) (n1 := 2048) (n2 := 8) (n3 := 96) b p h l) = ((rq A b.val p.val h ⟨l.val, by have := l.isLt; omega⟩ : ℝ) : EReal) := by
  unfold rq
  rw [dif_pos ⟨b.isLt, p.isLt, l.isLt⟩]
  exact (EReal.coe_toReal (hA _).2 (hA _).1).symm

theorem rv_eq (A : S8x2048x8x64.Idx → EReal) (hA : AllReal A) (b h : Fin 8) (p : Fin 2048) (d : Fin 64) :
    A (ix4 (n0 := 8) (n1 := 2048) (n2 := 8) (n3 := 64) b p h d) = ((rv A b.val p.val h ⟨d.val, by have := d.isLt; omega⟩ : ℝ) : EReal) := by
  unfold rv
  rw [dif_pos ⟨b.isLt, p.isLt, d.isLt⟩]
  exact (EReal.coe_toReal (hA _).2 (hA _).1).symm

theorem rv_one (A : S8x2048x8x64.Idx → EReal) (b p : ℕ) (h : Fin 8) : rv A b p h 64 = 1 := by
  unfold rv
  rw [dif_neg fun g => absurd g.2.2 (by decide), if_pos rfl]

/-- The keys not after the query. -/
theorem sum_causal (f : ℕ → ℝ) (p : Fin 2048) :
    (∑ s : Fin 2048, if s.val ≤ p.val then f s.val else 0) = ∑ s ∈ Finset.range (p.val + 1), f s := by
  have hp := p.isLt
  rw [← Finset.sum_range (fun s => if s ≤ p.val then f s else 0), ← Finset.sum_filter]
  refine Finset.sum_congr ?_ fun _ _ => rfl
  ext s
  simp only [Finset.mem_filter, Finset.mem_range]
  omega

/-- The largest entry of a row one entry of which is a number is a number. -/
theorem row_max (f : Fin 2048 → EReal) (htop : ∀ j, f j ≠ ⊤) (j0 : Fin 2048) (h0 : f j0 ≠ ⊥) :
    ∃ M : ℝ, Finset.univ.fold max (⊥ : EReal) f = M := by
  have e : Finset.univ.fold max (⊥ : EReal) f = Finset.univ.sup f := rfl
  rw [e]
  have hb : Finset.univ.sup f ≠ ⊥ := fun g => h0 (le_bot_iff.1 (g ▸ Finset.le_sup (f := f) (Finset.mem_univ j0)))
  have ht : Finset.univ.sup f ≠ ⊤ := ne_of_lt ((Finset.sup_lt_iff bot_lt_top).2 fun j _ => lt_top_iff_ne_top.2 (htop j))
  exact ⟨(Finset.univ.sup f).toReal, (EReal.coe_toReal ht hb).symm⟩

/-- A weight at level M. -/
theorem exp_score (c : Prop) [Decidable c] (S M : ℝ) :
    Ideal.exp ((if c then ((Real.log 2 * S : ℝ) : EReal) else ⊥) - (M : EReal))
      = ((if c then (2 : ℝ) ^ S * Real.exp (-M) else 0 : ℝ) : EReal) := by
  split
  · rw [← EReal.coe_sub]
    have e : (2 : ℝ) ^ S * Real.exp (-M) = Real.exp (Real.log 2 * S - M) := by
      rw [Real.rpow_def_of_pos (by norm_num), ← Real.exp_add, sub_eq_add_neg]
    rw [e]
    rfl
  · rw [EReal.bot_sub]; rfl

variable (x0 x1 : S8x2048x8x96.Idx → Ideal .bf16) (x2 : S8x2048x8x64.Idx → Ideal .bf16)

theorem scores_real (h0 : AllReal x0) (h1 : AllReal x1) (b h : Fin 8) (p s : Fin 2048) :
    (scores x0 x1 (ix4 (n0 := 8) (n1 := 8) (n2 := 2048) (n3 := 2048) b h p s) : EReal)
      = if s.val ≤ p.val then ((Real.log 2 * score (rq x0 b.val p.val h) (fun s => rq x1 b.val s h) s.val : ℝ) : EReal) else ⊥ := by
  rw [scores_at]
  refine if_congr Iff.rfl ?_ rfl
  rw [score_eq _ _ _ fun l hl => rq_wide x0 b.val p.val h l hl, EReal.coe_mul, ereal_sum]
  refine congrArg (· * _) (Finset.sum_congr rfl fun l _ => ?_)
  rw [EReal.coe_mul]
  exact congrArg₂ (· * ·) (rq_eq x0 h0 b h p l) (rq_eq x1 h1 b h s l)

theorem out_real (h0 : AllReal x0) (h1 : AllReal x1) (h2 : AllReal x2) (b h : Fin 8) (p : Fin 2048) (d : Fin 64) :
    (out x0 x1 x2 (ix3 (n0 := 8) (n1 := 2048) (n2 := 512) b p ⟨h.val * 64 + d.val, by have := h.isLt; have := d.isLt; omega⟩) : EReal)
      = ((attn (rq x0) (rq x1) (rv x2) b.val p.val h d : ℝ) : EReal) := by
  obtain ⟨M, hM⟩ := row_max (fun s => (scores x0 x1 (ix4 (n0 := 8) (n1 := 8) (n2 := 2048) (n3 := 2048) b h p s) : EReal))
    (fun s => by simp only [scores_real x0 x1 h0 h1]; split; exacts [EReal.coe_ne_top _, bot_ne_top]) p
    (by simp only [scores_real x0 x1 h0 h1]; rw [if_pos le_rfl]; exact EReal.coe_ne_bot _)
  obtain ⟨S, hS⟩ : ∃ S : ℕ → ℝ, S = score (rq x0 b.val p.val h) (fun s => rq x1 b.val s h) := ⟨_, rfl⟩
  have hw : ∀ s : Fin 2048, (weights x0 x1 (ix4 (n0 := 8) (n1 := 8) (n2 := 2048) (n3 := 2048) b h p s) : EReal)
      = ((if s.val ≤ p.val then (2 : ℝ) ^ S s.val * Real.exp (-M) else 0 : ℝ) : EReal) := fun s => by
    rw [weights_at, top_at, hM, scores_real x0 x1 h0 h1, ← hS, exp_score]
  have hE := Real.exp_pos (-M)
  have ht : (total x0 x1 (ix3 (n0 := 8) (n1 := 8) (n2 := 2048) b h p) : EReal) = ((asum S (fun _ => 1) p.val * Real.exp (-M) : ℝ) : EReal) := by
    rw [total_at, Finset.sum_congr rfl fun s _ => hw s, ← ereal_sum, sum_causal (fun s => (2 : ℝ) ^ S s * Real.exp (-M))]
    unfold asum
    rw [Finset.sum_mul]
    simp only [mul_one]
  have hpos := asum_pos S (fun _ => 1) (fun _ => rfl) p.val
  have hpr : ∀ s : Fin 2048, (probs x0 x1 (ix4 (n0 := 8) (n1 := 8) (n2 := 2048) (n3 := 2048) b h p s) : EReal)
      = ((if s.val ≤ p.val then (2 : ℝ) ^ S s.val / asum S (fun _ => 1) p.val else 0 : ℝ) : EReal) := fun s => by
    rw [probs_at, hw, ht, div_real _ _ (mul_pos hpos hE).ne']
    split
    · rw [mul_div_mul_right _ _ hE.ne']
    · rw [zero_div]
  rw [out_at]
  have hterm : ∀ s : Fin 2048, (x2 (ix4 (n0 := 8) (n1 := 2048) (n2 := 8) (n3 := 64) b s h d) : EReal)
        * probs x0 x1 (ix4 (n0 := 8) (n1 := 8) (n2 := 2048) (n3 := 2048) b h p s)
      = ((if s.val ≤ p.val then (2 : ℝ) ^ S s.val * rv x2 b.val s.val h ⟨d.val, by have := d.isLt; omega⟩ / asum S (fun _ => 1) p.val else 0 : ℝ) : EReal) := fun s => by
    refine (congrArg₂ (fun a c : EReal => a * c) (rv_eq x2 h2 b h s d) (hpr s)).trans ?_
    beta_reduce
    rw [← EReal.coe_mul]
    split
    · rw [mul_div_assoc', mul_comm (rv x2 b.val s.val h _)]
    · rw [mul_zero]
  rw [Finset.sum_congr rfl fun s _ => hterm s, ← ereal_sum,
    sum_causal (fun s => (2 : ℝ) ^ S s * rv x2 b.val s h ⟨d.val, by have := d.isLt; omega⟩ / asum S (fun _ => 1) p.val), ← Finset.sum_div]
  unfold attn
  rw [← hS]
  have e1 : (fun s => rv x2 b.val s h 64) = fun _ : ℕ => (1 : ℝ) := funext fun s => rv_one x2 b.val s h
  rw [e1]
  rfl

/-- The two are one array. -/
theorem out_eq (h0 : AllReal x0) (h1 : AllReal x1) (h2 : AllReal x2) : out x0 x1 x2 = result (rq x0) (rq x1) (rv x2) := by
  funext y
  have hlt : (y 2).val < 512 := (y 2).isLt
  have hy : y = ix3 (n0 := 8) (n1 := 2048) (n2 := 512) (y 0) (y 1)
      ⟨(⟨(y 2).val / 64, by omega⟩ : Fin 8).val * 64 + (⟨(y 2).val % 64, Nat.mod_lt _ (by norm_num)⟩ : Fin 64).val, by dsimp only; omega⟩ := by
    funext i
    match i with
    | 0 => rfl
    | 1 => rfl
    | 2 => exact Fin.ext (by show (y 2).val = (y 2).val / 64 * 64 + (y 2).val % 64; omega)
  exact (congrArg (out x0 x1 x2) hy).trans (out_real x0 x1 x2 h0 h1 h2 (y 0) ⟨(y 2).val / 64, by omega⟩ (y 1) ⟨(y 2).val % 64, Nat.mod_lt _ (by norm_num)⟩)

end Cert.ReferenceIdeal.Attn

end
-- ==== Proof.Plain.Finite.lean ====
/- The precondition read back: all three arguments hold finite numbers only. -/
module

public import proofs.«01_k».proof.Pre_finite
public import proofs.«01_k».proof.Proof.AttnIdeal.Host
public import Idealize.ShloMosaic.Lib.ReduceAll

@[expose] public section

set_option maxRecDepth 16384

noncomputable section

namespace Cert.Pre_finite.Attn

open Cert.Pre_finite
open Idealize Idealize.ShloMosaic
open Idealize.ShloMosaic.TcCoe
open Cert.KernelIdeal.Attn (AllReal)

instance facts : Cert.Pre_finite.Facts where
  bcast_S_S8x2048x8x96 := by decide
  reducesTo_S8x2048x8x96_S_d0_1_2_3 := by decide
  h_S_ := by decide
  bcast_S_S8x2048x8x64 := by decide
  reducesTo_S8x2048x8x64_S_d0_1_2_3 := by decide

/-- The word of ∞. -/
theorem inf_word : (Ideal.ofBits FTy.bf16 0x7F80#16 : EReal) = ⊤ := by
  simp only [Ideal.ofBits, Ideal.ieee]
  rw [if_pos (by decide), if_pos (by decide), if_neg (by decide)]

/-- A number whose absolute value is below ∞ is finite. -/
theorem real_of_lt (x t : EReal) (ht : t = ⊤) (h : Ideal.cmp .olt (max x (-x)) t = 1#1) : x ≠ ⊥ ∧ x ≠ ⊤ := by
  subst ht
  have hlt : max x (-x) < ⊤ := by
    by_contra hn
    simp [Ideal.cmp, hn] at h
  refine ⟨?_, ?_⟩
  · rintro rfl; simp at hlt
  · rintro rfl; simp at hlt

theorem real_at {s : Shape} (x t : FVec Ideal s .bf16) (ht : ∀ i, (t i : EReal) = ⊤) (i : s.Idx)
    (h : cmpf .olt (Host.absf x) t i = 1#1) : (x i : EReal) ≠ ⊥ ∧ (x i : EReal) ≠ ⊤ :=
  real_of_lt (x i) (t i) (ht i) h

theorem one_idx (i j : S_.Idx) : i = j := funext fun a => a.elim0

instance : Subsingleton S_.Idx := ⟨one_idx⟩

theorem reals {x0 x1 : FVec Ideal S8x2048x8x96 .bf16} {x2 : FVec Ideal S8x2048x8x64 .bf16} (h : fn (F := Ideal) x0 x1 x2 = fun _ => 1#1) :
    AllReal (x0 : S8x2048x8x96.Idx → EReal) ∧ AllReal (x1 : S8x2048x8x96.Idx → EReal) ∧ AllReal (x2 : S8x2048x8x64.Idx → EReal) := by
  have e := congrFun h ix0
  dsimp only [fn] at e
  obtain ⟨e01, e2⟩ := IntOp.andi_eq_one.1 e
  obtain ⟨e0, e1⟩ := IntOp.andi_eq_one.1 e01
  refine ⟨fun i => ?_, fun i => ?_, fun i => ?_⟩
  · exact real_at x0 _ (fun _ => inf_word) i (Host.reduce_andi_all _ _ _ _ _ e0 i)
  · exact real_at x1 _ (fun _ => inf_word) i (Host.reduce_andi_all _ _ _ _ _ e1 i)
  · exact real_at x2 _ (fun _ => inf_word) i (Host.reduce_andi_all _ _ _ _ _ e2 i)

end Cert.Pre_finite.Attn

end
-- ==== Proof.Mem.Block.lean ====
/- The memory's keys and values, one row of 128 for every position and head: what the call leaves in its two arrays. -/
module

public import proofs.«01_k».proof.Proof.Gen.Kernel2Ideal.Value
public import Idealize.ShloMosaic.Lib.Pointwise
public import Idealize.ShloMosaic.Lib.Claim
public import Idealize.ShloMosaic.Lib.Pipeline.Value
public import Idealize.ShloMosaic.Lib.ViewIndex
public import Idealize.ShloMosaic.Lib.Pipeline.ValueKit.Geometry

@[expose] public section

set_option maxRecDepth 16384

noncomputable section

namespace Cert.Kernel2Ideal.Mem

open Cert.Kernel2Ideal Cert.Kernel2Ideal.Gen
open Idealize Idealize.ShloMosaic
open Idealize.ShloMosaic.TcCoe

theorem pair_ext {d : Fin 2 → ℕ} {x y : (⟨2, d⟩ : Shape).Idx} (h0 : (x 0).val = (y 0).val) (h1 : (x 1).val = (y 1).val) : x = y :=
  funext fun a => by fin_cases a; exacts [Fin.ext h0, Fin.ext h1]

/-- A row's factor: one over the root of its mean square. -/
def scale (f : Fin 1024 → EReal) : EReal :=
  Ideal.rsqrt (Ideal.div (∑ j : Fin 1024, f j * f j) (Ideal.ofBits FTy.f32 0x44800000#32) + Ideal.ofBits FTy.f32 0x358637BD#32)

/-- A normalised row against a column of a weight. -/
def dot (f g w : Fin 1024 → EReal) : EReal := ∑ j : Fin 1024, f j * scale f * g j * w j

/-- The whole array: position and head over column. -/
def table (X : S8x256x1024.Idx → EReal) (g : Fin 1024 → EReal) (w : S1024x512.Idx → EReal) : S8192x128.Idx → EReal := fun y =>
  dot (fun j => X (ix3 (n0 := 8) (n1 := 256) (n2 := 1024) ⟨(y 0).val / 1024, by have : (y 0).val < 8192 := (y 0).isLt; omega⟩ ⟨(y 0).val / 4 % 256, Nat.mod_lt _ (by norm_num)⟩ j)) g
    (fun j => w (ix2 (n0 := 1024) (n1 := 512) j ⟨(y 0).val % 4 * 128 + (y 1).val, by have : (y 1).val < 128 := (y 1).isLt; omega⟩))

theorem pay2_at (x0 : Vec Ideal S512x1024 .f32) (x1 : Vec Ideal S1x1024 .f32) (x2 : Vec Ideal S1024x512 .bf16) (r : Fin 2048) (d : Fin 128) :
    (k0_pay2 x0 x1 x2 (ix2 (n0 := 2048) (n1 := 128) r d) : EReal)
      = dot (fun j => x0 (ix2 (n0 := 512) (n1 := 1024) ⟨r.val / 4, by have := r.isLt; omega⟩ j)) (fun j => x1 (ix2 (n0 := 1) (n1 := 1024) 0 j))
          (fun j => x2 (ix2 (n0 := 1024) (n1 := 512) j ⟨r.val % 4 * 128 + d.val, by have := d.isLt; omega⟩)) := by
  pointwise [k0_pay2, k0_pay1]
  rfl
theorem pay3_at (x0 : Vec Ideal S512x1024 .f32) (x1 : Vec Ideal S1x1024 .f32) (x2 : Vec Ideal S1024x512 .bf16) (r : Fin 2048) (d : Fin 128) :
    (k0_pay3 x0 x1 x2 (ix2 (n0 := 2048) (n1 := 128) r d) : EReal)
      = dot (fun j => x0 (ix2 (n0 := 512) (n1 := 1024) ⟨r.val / 4, by have := r.isLt; omega⟩ j)) (fun j => x1 (ix2 (n0 := 1) (n1 := 1024) 0 j))
          (fun j => x2 (ix2 (n0 := 1024) (n1 := 512) j ⟨r.val % 4 * 128 + d.val, by have := d.isLt; omega⟩)) := by
  pointwise [k0_pay3, k0_pay1]
  rfl

variable (m : (ℓ : Loc nD τ sig) → Buf (Elt Ideal) ℓ) (c : Dev nD)

theorem V_v0 : (V m c main_v0 : S2048x1024.Idx → EReal) = shapeCast S2048x1024 (m ((c : Thread nD τ).loc main_arg0) : S8x256x1024.Idx → EReal) shapeCasts_S8x256x1024_S2048x1024 := by
  delta V; simp only [hostOps0]
  after_results_simp <;> rfl
theorem V_v1 : (V m c main_v1 : S1x1024.Idx → EReal) = shapeCast S1x1024 (m ((c : Thread nD τ).loc main_arg1) : S1024.Idx → EReal) shapeCasts_S1024_S1x1024 := by
  delta V; simp only [hostOps0]
  after_results_simp <;> rfl
theorem V_v2 : (V m c main_v2 : S1024x512.Idx → EReal) = (m ((c : Thread nD τ).loc main_arg2) : S1024x512.Idx → EReal) := by
  delta V; simp only [hostOps0]
  after_results_simp <;> rfl
theorem V_v3 : (V m c main_v3 : S1024x512.Idx → EReal) = (m ((c : Thread nD τ).loc main_arg3) : S1024x512.Idx → EReal) := by
  delta V; simp only [hostOps0]
  after_results_simp <;> rfl

theorem idx0 : ∀ t : Fin cfg0.N, win0_0.index t = ![t.val, 0] :=
  (by decide +kernel : ∀ t : Fin grid0.N, win0_0.index t = ![t.val, 0])
theorem idx4 : ∀ t : Fin cfg0.N, win0_4.index t = ![t.val, 0] :=
  (by decide +kernel : ∀ t : Fin grid0.N, win0_4.index t = ![t.val, 0])

theorem idx5 : ∀ t : Fin cfg0.N, win0_5.index t = ![t.val, 0] :=
  (by decide +kernel : ∀ t : Fin grid0.N, win0_5.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])

theorem emb0 (t : Fin cfg0.N) (y : S512x1024.Idx) (p : Fin 2048) (hp : p.val = 512 * t.val + (y 0).val) :
    (((cfg0.win (0 : Fin 6)).blk t).view.emb y : S2048x1024.Idx) = ix2 (n0 := 2048) (n1 := 1024) p (y 1) := by
  have e := idx0 t
  refine pair_ext ?_ ?_
  · blk_simp [e]; omega
  · blk_simp [e]
theorem emb1 (t : Fin cfg0.N) (y : S1x1024.Idx) : (((cfg0.win (1 : Fin 6)).blk t).view.emb y : S1x1024.Idx) = y := by
  have e := idx1 t
  refine pair_ext ?_ ?_
  · blk_simp [e]
  · blk_simp [e]
theorem emb2 (t : Fin cfg0.N) (y : S1024x512.Idx) : (((cfg0.win (2 : Fin 6)).blk t).view.emb y : S1024x512.Idx) = y := by
  have e := idx2 t
  refine pair_ext ?_ ?_
  · blk_simp [e]
  · blk_simp [e]
theorem emb3 (t : Fin cfg0.N) (y : S1024x512.Idx) : (((cfg0.win (3 : Fin 6)).blk t).view.emb y : S1024x512.Idx) = y := by
  have e := idx3 t
  refine pair_ext ?_ ?_
  · blk_simp [e]
  · blk_simp [e]
theorem emb4 (t : Fin cfg0.N) (y : S2048x128.Idx) (p : Fin 8192) (hp : p.val = 2048 * t.val + (y 0).val) :
    (((cfg0.win (4 : Fin 6)).blk t).view.emb y : S8192x128.Idx) = ix2 (n0 := 8192) (n1 := 128) p (y 1) := by
  have e := idx4 t
  refine pair_ext ?_ ?_
  · blk_simp [e]; omega
  · blk_simp [e]
theorem emb5 (t : Fin cfg0.N) (y : S2048x128.Idx) (p : Fin 8192) (hp : p.val = 2048 * t.val + (y 0).val) :
    (((cfg0.win (5 : Fin 6)).blk t).view.emb y : S8192x128.Idx) = ix2 (n0 := 8192) (n1 := 128) p (y 1) := by
  have e := idx5 t
  refine pair_ext ?_ ?_
  · blk_simp [e]; omega
  · blk_simp [e]

theorem lt4 (t : Fin cfg0.N) : t.val < 4 := lt_of_lt_of_eq t.isLt (by decide +kernel)

theorem rows_at (X : S8x256x1024.Idx → EReal) (b : Fin 8) (p : Fin 256) (q : Fin 2048) (hq : q.val = 256 * b.val + p.val) (j : Fin 1024) :
    shapeCast S2048x1024 X shapeCasts_S8x256x1024_S2048x1024 (ix2 (n0 := 2048) (n1 := 1024) q j) = X (ix3 (n0 := 8) (n1 := 256) (n2 := 1024) b p j) := by
  pointwise
  refine congrArg X (Shape.idx3_ext ?_ ?_ ?_)
  all_goals first | rfl | (have := p.isLt; have := b.isLt; simp [ix3]; omega)
theorem gain_at (g : S1024.Idx → EReal) (j : Fin 1024) :
    shapeCast S1x1024 g shapeCasts_S1024_S1x1024 (ix2 (n0 := 1) (n1 := 1024) 0 j) = g (ix1 (n0 := 1024) j) := by
  pointwise

theorem blk0 (t : Fin cfg0.N) (a : Fin 512) (j : Fin 1024) (b : Fin 8) (p : Fin 256) (hq : 512 * t.val + a.val = 256 * b.val + p.val) :
    iblk m c (0 : Fin 6) t (ix2 (n0 := 512) (n1 := 1024) a j) = (m ((c : Thread nD τ).loc main_arg0) : S8x256x1024.Idx → EReal) (ix3 (n0 := 8) (n1 := 256) (n2 := 1024) b p j) := by
  have ht := lt4 t
  have ha := a.isLt
  refine (congrArg (V m c main_v0 : S2048x1024.Idx → EReal) (emb0 t (ix2 (n0 := 512) (n1 := 1024) a j) ⟨512 * t.val + a.val, by omega⟩ rfl)).trans ?_
  rw [V_v0]
  exact rows_at _ b p _ hq j
theorem blk1 (t : Fin cfg0.N) (j : Fin 1024) :
    iblk m c (1 : Fin 6) t (ix2 (n0 := 1) (n1 := 1024) 0 j) = (m ((c : Thread nD τ).loc main_arg1) : S1024.Idx → EReal) (ix1 (n0 := 1024) j) := by
  refine (congrArg (V m c main_v1 : S1x1024.Idx → EReal) (emb1 t _)).trans ?_
  rw [V_v1]
  exact gain_at _ j
theorem blk2 (t : Fin cfg0.N) (y : S1024x512.Idx) : iblk m c (2 : Fin 6) t y = (m ((c : Thread nD τ).loc main_arg2) : S1024x512.Idx → EReal) y := by
  refine (congrArg (V m c main_v2 : S1024x512.Idx → EReal) (emb2 t _)).trans ?_
  rw [V_v2]
theorem blk3 (t : Fin cfg0.N) (y : S1024x512.Idx) : iblk m c (3 : Fin 6) t y = (m ((c : Thread nD τ).loc main_arg3) : S1024x512.Idx → EReal) y := by
  refine (congrArg (V m c main_v3 : S1024x512.Idx → EReal) (emb3 t _)).trans ?_
  rw [V_v3]

theorem array4 : (dats m 0 c).arrAt 4 cfg0.N = table (m ((c : Thread nD τ).loc main_arg0) : S8x256x1024.Idx → EReal)
    (fun j => (m ((c : Thread nD τ).loc main_arg1) : S1024.Idx → EReal) (ix1 (n0 := 1024) j)) (m ((c : Thread nD τ).loc main_arg2) : S1024x512.Idx → EReal) := by
  refine (dats m 0 c).arrAt_eq_of_covers (4 : Fin 6) _ (by decide +kernel) fun t hf y => ?_
  have ht := lt4 t
  have hy0 : (y 0).val < 2048 := (y 0).isLt
  rw [show ((cfg0.win (4 : Fin 6)).blk t).view.emb y = ix2 (n0 := 8192) (n1 := 128) ⟨2048 * t.val + (y 0).val, by omega⟩ (y 1) from emb4 t y _ rfl]
  refine (congrFun (after0_4 m c t) y).trans ?_
  unfold out0_4
  rw [View.canon_unit_zero (by decide +kernel), View.ld_unit_zero (by decide +kernel), View.ld_unit_zero (by decide +kernel), View.ld_unit_zero (by decide +kernel)]
  refine (congrArg (k0_pay2 (iblk m c 0 t) (iblk m c 1 t) (iblk m c 2 t)) (show y = ix2 (n0 := 2048) (n1 := 128) (y 0) (y 1) from pair_ext rfl rfl)).trans ?_
  refine (pay2_at _ _ _ (y 0) (y 1)).trans ?_
  unfold table
  congr 1
  · funext j
    exact blk0 m c t _ j _ _ (by show 512 * t.val + (y 0).val / 4 = 256 * ((2048 * t.val + (y 0).val) / 1024) + (2048 * t.val + (y 0).val) / 4 % 256; omega)
  · funext j
    exact blk1 m c t j
  · funext j
    refine (blk2 m c t _).trans (congrArg _ (pair_ext rfl ?_))
    show (y 0).val % 4 * 128 + (y 1).val = (2048 * t.val + (y 0).val) % 4 * 128 + (y 1).val
    omega

theorem array5 : (dats m 0 c).arrAt 5 cfg0.N = table (m ((c : Thread nD τ).loc main_arg0) : S8x256x1024.Idx → EReal)
    (fun j => (m ((c : Thread nD τ).loc main_arg1) : S1024.Idx → EReal) (ix1 (n0 := 1024) j)) (m ((c : Thread nD τ).loc main_arg3) : S1024x512.Idx → EReal) := by
  refine (dats m 0 c).arrAt_eq_of_covers (5 : Fin 6) _ (by decide +kernel) fun t hf y => ?_
  have ht := lt4 t
  have hy0 : (y 0).val < 2048 := (y 0).isLt
  rw [show ((cfg0.win (5 : Fin 6)).blk t).view.emb y = ix2 (n0 := 8192) (n1 := 128) ⟨2048 * t.val + (y 0).val, by omega⟩ (y 1) from emb5 t y _ rfl]
  refine (congrFun (after0_5 m c t) y).trans ?_
  unfold out0_5
  rw [View.canon_unit_zero (by decide +kernel), View.ld_unit_zero (by decide +kernel), View.ld_unit_zero (by decide +kernel), View.ld_unit_zero (by decide +kernel)]
  refine (congrArg (k0_pay3 (iblk m c 0 t) (iblk m c 1 t) (iblk m c 3 t)) (show y = ix2 (n0 := 2048) (n1 := 128) (y 0) (y 1) from pair_ext rfl rfl)).trans ?_
  refine (pay3_at _ _ _ (y 0) (y 1)).trans ?_
  unfold table
  congr 1
  · funext j
    exact blk0 m c t _ j _ _ (by show 512 * t.val + (y 0).val / 4 = 256 * ((2048 * t.val + (y 0).val) / 1024) + (2048 * t.val + (y 0).val) / 4 % 256; omega)
  · funext j
    exact blk1 m c t j
  · funext j
    refine (blk3 m c t _).trans (congrArg _ (pair_ext rfl ?_))
    show (y 0).val % 4 * 128 + (y 1).val = (2048 * t.val + (y 0).val) % 4 * 128 + (y 1).val
    omega

end Cert.Kernel2Ideal.Mem

end
-- ==== Proof.Mem.Value.lean ====
/- The plain keys and values of the memory are the call's two arrays. -/
module

public import proofs.«01_k».proof.Defs
public import proofs.«01_k».proof.Proof.Mem.Block
public import proofs.«01_k».proof.Proof.Gen.Reference2Ideal.Run

@[expose] public section

set_option maxRecDepth 16384

noncomputable section

namespace Cert.Reference2Ideal.Mem

open Cert.Reference2Ideal Cert.Reference2Ideal.Gen
open Idealize Idealize.ShloMosaic Idealize.SL.Sem
open Idealize.ShloMosaic.TcCoe
open Cert.Kernel2Ideal.Mem (table scale dot array4 array5)

/-- The plain array, as the operations compose it. -/
def plain (X : S8x256x1024.Idx → EReal) (g : S1024.Idx → EReal) (w : S1024x512.Idx → EReal) : S8192x128.Idx → EReal :=
  shapeCast S8192x128 (Host.dotGeneral (F := Ideal) (φ₁ := .f32) (φ₂ := .f32) dot_S8x256x1024_S1024x512_S8x256x512_2_0_01_1_n_n none (mulf (mulf X (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf X X) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))) w) shapeCasts_S8x256x512_S8192x128

theorem plain_at (X : S8x256x1024.Idx → EReal) (g : S1024.Idx → EReal) (w : S1024x512.Idx → EReal) (R : Fin 8192) (d : Fin 128) :
    plain X g w (ix2 (n0 := 8192) (n1 := 128) R d) = table X (fun j => g (ix1 (n0 := 1024) j)) w (ix2 (n0 := 8192) (n1 := 128) R d) := by
  pointwise [plain]
  unfold table dot scale
  rfl

theorem plain_eq (X : S8x256x1024.Idx → EReal) (g : S1024.Idx → EReal) (w : S1024x512.Idx → EReal) :
    plain X g w = table X (fun j => g (ix1 (n0 := 1024) j)) w := by
  funext y
  rw [show y = ix2 (n0 := 8192) (n1 := 128) (y 0) (y 1) from Cert.Kernel2Ideal.Mem.pair_ext rfl rfl]
  exact plain_at X g w _ _

/-- Both end with the same two arrays. -/
theorem same : Cert.algebraic_Kernel2Ideal_Reference2Ideal := by
  intro m g m' g' hpre hag
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    Cert.Kernel2Ideal.Value.run_blocks m g, ?_⟩
  refine (θ_run (Cert.Reference2Ideal.defs (F := Ideal)) _ _).mono (fun r h => ?_) (Cert.Reference2Ideal.Value.run (F := Ideal) m' g')
  intro c
  refine ⟨?_, ?_, (h c).2.2⟩
  · refine (h c).1.trans ((plain_eq _ _ _).trans ?_)
    rw [(hag c).1, (hag c).2.1, (hag c).2.2.1]
    exact (array4 m c).symm
  · refine (h c).2.1.trans ((plain_eq _ _ _).trans ?_)
    rw [(hag c).1, (hag c).2.1, (hag c).2.2.2]
    exact (array5 m c).symm

end Cert.Reference2Ideal.Mem

end
-- ==== Proof.Ffn.Chunk.lean ====
/- What one block of 512 rows computes, column by column: the gate's rows with the two before them, the activation, and the
   readings of the windows a chunk of 256 columns takes. -/
module

public import proofs.«01_k».proof.Proof.Gen.Kernel3Ideal.Value
public import Idealize.ShloMosaic.Lib.Pointwise
public import Idealize.ShloMosaic.Lib.Claim
public import Idealize.ShloMosaic.Lib.WholeRead
public import Idealize.ShloMosaic.Lib.Pipeline.Value
public import Idealize.ShloMosaic.Lib.ViewIndex
public import Idealize.ShloMosaic.Lib.Pipeline.ValueKit.Geometry

@[expose] public section

set_option maxRecDepth 16384

noncomputable section

namespace Cert.Kernel3Ideal.Ffn

open Cert.Kernel3Ideal Cert.Kernel3Ideal.Gen
open Idealize Idealize.ShloMosaic
open Idealize.ShloMosaic.TcCoe

theorem pair_ext {d : Fin 2 → ℕ} {x y : (⟨2, d⟩ : Shape).Idx} (h0 : (x 0).val = (y 0).val) (h1 : (x 1).val = (y 1).val) : x = y :=
  funext fun a => by fin_cases a; exacts [Fin.ext h0, Fin.ext h1]

/-- Column l of chunk k. -/
def col (k : Fin 11) (l : Fin 256) : Fin 2816 := ⟨256 * k.val + l.val, by have := k.isLt; have := l.isLt; omega⟩

/-- A row of the block against a column of a weight. -/
def proj (h : S512x1024.Idx → EReal) (w : S1024x2816.Idx → EReal) (r : Fin 512) (q : Fin 2816) : EReal :=
  ∑ j : Fin 1024, h (ix2 (n0 := 512) (n1 := 1024) r j) * w (ix2 (n0 := 1024) (n1 := 2816) j q)

/-- The gate's rows, the two carried ones first. -/
def tap (h : S512x1024.Idx → EReal) (w : S1024x2816.Idx → EReal) (halo : S1x2x2816.Idx → EReal) (n : ℕ) (q : Fin 2816) : EReal :=
  if hn : n < 2 then halo (ix3 (n0 := 1) (n1 := 2) (n2 := 2816) 0 ⟨n, hn⟩ q)
  else if hm : n - 2 < 512 then proj h w ⟨n - 2, hm⟩ q else 0

theorem tap_lt (h : S512x1024.Idx → EReal) (w : S1024x2816.Idx → EReal) (halo : S1x2x2816.Idx → EReal) (e : Fin 2) (q : Fin 2816) :
    tap h w halo e.val q = halo (ix3 (n0 := 1) (n1 := 2) (n2 := 2816) 0 e q) := by
  unfold tap; rw [dif_pos e.isLt]
theorem tap_add (h : S512x1024.Idx → EReal) (w : S1024x2816.Idx → EReal) (halo : S1x2x2816.Idx → EReal) (r : Fin 512) (q : Fin 2816) :
    tap h w halo (r.val + 2) q = proj h w r q := by
  unfold tap; rw [dif_neg (by omega), dif_pos (by have := r.isLt; omega)]
  congr 1

/-- The convolution of the gate, -/
def conv (h : S512x1024.Idx → EReal) (w : S1024x2816.Idx → EReal) (cw : S8x2816.Idx → EReal) (cb : S1x2816.Idx → EReal) (halo : S1x2x2816.Idx → EReal)
    (r : Fin 512) (q : Fin 2816) : EReal :=
  cb (ix2 (n0 := 1) (n1 := 2816) 0 q) + (cw (ix2 (n0 := 8) (n1 := 2816) 0 q) * tap h w halo r.val q
    + cw (ix2 (n0 := 8) (n1 := 2816) 1 q) * tap h w halo (r.val + 1) q + cw (ix2 (n0 := 8) (n1 := 2816) 2 q) * tap h w halo (r.val + 2) q)

/-- and the activation. -/
def act (h : S512x1024.Idx → EReal) (wg wu : S1024x2816.Idx → EReal) (cw : S8x2816.Idx → EReal) (cb : S1x2816.Idx → EReal) (halo : S1x2x2816.Idx → EReal) :
    S512x2816.Idx → EReal := fun y =>
  conv h wg cw cb halo (y 0) (y 1) * Ideal.logistic (conv h wg cw cb halo (y 0) (y 1)) * proj h wu (y 0) (y 1)

/-- The working buffer: in each chunk's plane the carried rows 6 and 7, then the block's. -/
def stage (h : S512x1024.Idx → EReal) (w : S1024x2816.Idx → EReal) (halo : S1x2x2816.Idx → EReal) : S11x1x520x256.Idx → EReal := fun y =>
  tap h w halo ((y 2).val - 6) (col (y 0) (y 3))

/-- The last two rows of the gate. -/
def tail (h : S512x1024.Idx → EReal) (w : S1024x2816.Idx → EReal) (halo : S1x2x2816.Idx → EReal) : S1x2x2816.Idx → EReal := fun y =>
  tap h w halo (512 + (y 1).val) (y 2)

section Read

variable {c : Dev nD}

theorem rd2 {n0 n1 m0 m1 : ℕ} {e : EltTy} {sp : Space} {a : Memref sig .tc sp (⟨2, ![n0, n1]⟩ : Shape) e} (h : a.IsWhole) (x : (⟨2, ![n0, n1]⟩ : Shape).Idx → Elt Ideal e)
    (o p : ℕ) (inb : ∀ i, (![o, p] : Fin 2 → ℕ) i + (![m0, m1] : Fin 2 → ℕ) i ≤ (⟨2, ![n0, n1]⟩ : Shape).size i) (i : Fin m0) (j : Fin m1)
    (i' : Fin n0) (j' : Fin n1) (hi : i'.val = o + i.val) (hj : j'.val = p + j.val) :
    View.readAt (Elt Ideal) a.view (Rect.unit (s := (⟨2, ![n0, n1]⟩ : Shape)) ![o, p] ![m0, m1] inb).toLoadRect (h.unread x) (ix2 (n0 := m0) (n1 := m1) i j)
      = x (ix2 (n0 := n0) (n1 := n1) i' j') := by
  refine (Memref.IsWhole.readAt_unread h x _ _).trans (congrArg x (pair_ext ?_ ?_))
  · rw [show ((ix2 (n0 := n0) (n1 := n1) i' j') 0).val = i'.val from rfl, hi]; show o + 1 * i.val = _; omega
  · rw [show ((ix2 (n0 := n0) (n1 := n1) i' j') 1).val = j'.val from rfl, hj]; show p + 1 * j.val = _; omega

end Read

/-- A row's factor: one over the root of its mean square. -/
def scale (n : ℕ) (f : Fin n → EReal) : EReal :=
  Ideal.rsqrt (Ideal.div (∑ j : Fin n, f j * f j) (Ideal.ofBits FTy.f32 0x44800000#32) + Ideal.ofBits FTy.f32 0x358637BD#32)

theorem norm_at (x : Vec Ideal S512x1024 .f32) (g : Vec Ideal S1x1024 .f32) (r : Fin 512) (j : Fin 1024) :
    (k0_pay4 x g (ix2 (n0 := 512) (n1 := 1024) r j) : EReal) = x (ix2 (n0 := 512) (n1 := 1024) r j) * scale 1024 (fun q => x (ix2 (n0 := 512) (n1 := 1024) r q)) * g (ix2 (n0 := 1) (n1 := 1024) 0 j) := by
  pointwise [k0_pay4, k0_pay3]
  try rfl

theorem proj_at (h : FVec Ideal S512x1024 .bf16) (w : Vec Ideal S1024x256 .bf16) (r : Fin 512) (l : Fin 256) :
    (k0_pay12 h w (ix3 (n0 := 1) (n1 := 512) (n2 := 256) 0 r l) : EReal) = ∑ j : Fin 1024, h (ix2 (n0 := 512) (n1 := 1024) r j) * w (ix2 (n0 := 1024) (n1 := 256) j l) := by
  pointwise [k0_pay12]
  try rfl

/-- Three taps and an offset. -/
def mix (cw : S8x256.Idx → EReal) (cb : S1x256.Idx → EReal) (a b u : EReal) (l : Fin 256) : EReal :=
  cb (ix2 (n0 := 1) (n1 := 256) 0 l) + (cw (ix2 (n0 := 8) (n1 := 256) 0 l) * a + cw (ix2 (n0 := 8) (n1 := 256) 1 l) * b + cw (ix2 (n0 := 8) (n1 := 256) 2 l) * u)

theorem act_at (u v : FVec Ideal S1x512x256 .f32) (cw : Vec Ideal S8x256 .f32) (a b : Vec Ideal S1x1x512x256 .f32) (cb : Vec Ideal S1x256 .f32) (r : Fin 512) (l : Fin 256) :
    (k0_pay9 u v cw a b cb (ix2 (n0 := 512) (n1 := 256) r l) : EReal) = mix cw cb (a (ix4 (n0 := 1) (n1 := 1) (n2 := 512) (n3 := 256) 0 0 r l)) (b (ix4 (n0 := 1) (n1 := 1) (n2 := 512) (n3 := 256) 0 0 r l)) (u (ix3 (n0 := 1) (n1 := 512) (n2 := 256) 0 r l)) l * Ideal.logistic (mix cw cb (a (ix4 (n0 := 1) (n1 := 1) (n2 := 512) (n3 := 256) 0 0 r l)) (b (ix4 (n0 := 1) (n1 := 1) (n2 := 512) (n3 := 256) 0 0 r l)) (u (ix3 (n0 := 1) (n1 := 512) (n2 := 256) 0 r l)) l) * v (ix3 (n0 := 1) (n1 := 512) (n2 := 256) 0 r l) := by
  pointwise [k0_pay9]
  try rfl

/-- A row of the activation against a column of the last weight. -/
def down (a : S512x2816.Idx → EReal) (w : S2816x1024.Idx → EReal) (r : Fin 512) (d : Fin 1024) : EReal :=
  ∑ j : Fin 2816, a (ix2 (n0 := 512) (n1 := 2816) r j) * w (ix2 (n0 := 2816) (n1 := 1024) j d)

theorem out_at (x : FVec Ideal S512x1024 .f32) (a : Vec Ideal S512x2816 .bf16) (w : FVec Ideal S2816x1024 .bf16) (g : Vec Ideal S1x1024 .f32) (r : Fin 512) (d : Fin 1024) :
    (k0_pay1 x a w (constant S512x1024 .f32 0x00000000#32) g (ix2 (n0 := 512) (n1 := 1024) r d) : EReal) = x (ix2 (n0 := 512) (n1 := 1024) r d) + down a w r d * scale 1024 (down a w r) * g (ix2 (n0 := 1) (n1 := 1024) 0 d) := by
  pointwise [k0_pay1]
  try rfl

theorem lift2_at (v : Vec Ideal S1x2x256 .f32) (e : Fin 2) (l : Fin 256) :
    (k0_pay7 v (ix4 (n0 := 1) (n1 := 1) (n2 := 2) (n3 := 256) 0 0 e l) : EReal) = v (ix3 (n0 := 1) (n1 := 2) (n2 := 256) 0 e l) := by
  pointwise [k0_pay7]
theorem lift512_at (v : FVec Ideal S1x512x256 .f32) (r : Fin 512) (l : Fin 256) :
    (k0_pay8 v (ix4 (n0 := 1) (n1 := 1) (n2 := 512) (n3 := 256) 0 0 r l) : EReal) = v (ix3 (n0 := 1) (n1 := 512) (n2 := 256) 0 r l) := by
  pointwise [k0_pay8]
theorem drop2_at (v : Vec Ideal S1x1x2x256 .f32) (e : Fin 2) (l : Fin 256) :
    (k0_pay10 v (ix3 (n0 := 1) (n1 := 2) (n2 := 256) 0 e l) : EReal) = v (ix4 (n0 := 1) (n1 := 1) (n2 := 2) (n3 := 256) 0 0 e l) := by
  pointwise [k0_pay10]
theorem same2_at (v : FVec Ideal S1x2x256 .f32) (e : Fin 2) (l : Fin 256) :
    (k0_pay11 v (ix3 (n0 := 1) (n1 := 2) (n2 := 256) 0 e l) : EReal) = v (ix3 (n0 := 1) (n1 := 2) (n2 := 256) 0 e l) := by
  pointwise [k0_pay11]

end Cert.Kernel3Ideal.Ffn

end
-- ==== Proof.Ffn.Pieces.lean ====
/- Stores chunk by chunk: what a store into the working buffer, the activation or the carried rows holds, and what a load of the
   working buffer then reads. -/
module

public import proofs.«01_k».proof.Proof.Ffn.Chunk
public import Idealize.ShloMosaic.Lib.Pipeline.CanonAppend
public import Idealize.ShloMosaic.Lib.Pipeline.FrameBody

@[expose] public section

set_option maxRecDepth 16384

noncomputable section

namespace Cert.Kernel3Ideal.Ffn

open Cert.Kernel3Ideal Cert.Kernel3Ideal.Gen
open Idealize Idealize.ShloMosaic
open Idealize.ShloMosaic.TcCoe

theorem trip_ext {d : Fin 3 → ℕ} {x y : (⟨3, d⟩ : Shape).Idx} (h0 : (x 0).val = (y 0).val) (h1 : (x 1).val = (y 1).val) (h2 : (x 2).val = (y 2).val) : x = y :=
  funext fun a => by fin_cases a; exacts [Fin.ext h0, Fin.ext h1, Fin.ext h2]
theorem quad_ext {d : Fin 4 → ℕ} {x y : (⟨4, d⟩ : Shape).Idx} (h0 : (x 0).val = (y 0).val) (h1 : (x 1).val = (y 1).val) (h2 : (x 2).val = (y 2).val)
    (h3 : (x 3).val = (y 3).val) : x = y :=
  funext fun a => by fin_cases a; exacts [Fin.ext h0, Fin.ext h1, Fin.ext h2, Fin.ext h3]

/-- Every store of the list holds the values of one function. -/
def Of {S : Shape} {e : EltTy} (G : S.Idx → Elt Ideal e) (L : List (View.Piece (Elt Ideal) S e)) : Prop :=
  ∀ p ∈ L, ∀ x : p.1.shape.Idx, p.2 x = G (p.1.emb x)

theorem Of.nil {S : Shape} {e : EltTy} (G : S.Idx → Elt Ideal e) : Of G [] := fun _ h => absurd h List.not_mem_nil
theorem Of.cons {S : Shape} {e : EltTy} {G : S.Idx → Elt Ideal e} {p : View.Piece (Elt Ideal) S e} {L : List (View.Piece (Elt Ideal) S e)}
    (h : ∀ x : p.1.shape.Idx, p.2 x = G (p.1.emb x)) (t : Of G L) : Of G (p :: L) :=
  fun q hq => (List.mem_cons.1 hq).elim (fun e => e ▸ h) (t q)
theorem Of.canon {S : Shape} {e : EltTy} {G : S.Idx → Elt Ideal e} {L : List (View.Piece (Elt Ideal) S e)} (h : Of G L) (y : S.Idx)
    (hy : ∃ p ∈ L, y ∈ p.1.set) : View.canon L y = G y := View.canon_apply_of_pieces G L h y hy

theorem rd3 {n0 n1 n2 m0 m1 m2 : ℕ} {e : EltTy} {sp : Space} {a : Memref sig .tc sp (⟨3, ![n0, n1, n2]⟩ : Shape) e} (h : a.IsWhole) (x : (⟨3, ![n0, n1, n2]⟩ : Shape).Idx → Elt Ideal e)
    (p : ℕ) (inb : ∀ i, (![0, 0, p] : Fin 3 → ℕ) i + (![m0, m1, m2] : Fin 3 → ℕ) i ≤ (⟨3, ![n0, n1, n2]⟩ : Shape).size i) (i : Fin m0) (j : Fin m1) (l : Fin m2)
    (i' : Fin n0) (j' : Fin n1) (l' : Fin n2) (hi : i'.val = i.val) (hj : j'.val = j.val) (hl : l'.val = p + l.val) :
    View.readAt (Elt Ideal) a.view (Rect.unit (s := (⟨3, ![n0, n1, n2]⟩ : Shape)) ![0, 0, p] ![m0, m1, m2] inb).toLoadRect (h.unread x) (ix3 (n0 := m0) (n1 := m1) (n2 := m2) i j l)
      = x (ix3 (n0 := n0) (n1 := n1) (n2 := n2) i' j' l') := by
  refine (Memref.IsWhole.readAt_unread h x _ _).trans (congrArg x (trip_ext ?_ ?_ ?_))
  · show 0 + 1 * i.val = i'.val; omega
  · show 0 + 1 * j.val = j'.val; omega
  · show p + 1 * l.val = l'.val; omega

theorem whole2 {n0 n1 : ℕ} {e : EltTy} {sp : Space} {a : Memref sig .tc sp (⟨2, ![n0, n1]⟩ : Shape) e} (h : a.IsWhole) (x : (⟨2, ![n0, n1]⟩ : Shape).Idx → Elt Ideal e)
    (inb : ∀ i, (![0, 0] : Fin 2 → ℕ) i + (![n0, n1] : Fin 2 → ℕ) i ≤ (⟨2, ![n0, n1]⟩ : Shape).size i) :
    View.readAt (Elt Ideal) a.view (Rect.unit (s := (⟨2, ![n0, n1]⟩ : Shape)) ![0, 0] ![n0, n1] inb).toLoadRect (h.unread x) = x := by
  funext y
  refine (Memref.IsWhole.readAt_unread h x _ _).trans (congrArg x (pair_ext ?_ ?_))
  · show 0 + 1 * (y 0).val = (y 0).val; omega
  · show 0 + 1 * (y 1).val = (y 1).val; omega

/-- A store left of a column is not seen there. -/
theorem cut (L : List (View.Piece (Elt Ideal) S1x2x2816 .f32)) (q : ℕ) (inb) (p) (y : S1x2x2816.Idx) (hy : q + 256 ≤ (y 2).val) :
    View.canon (⟨Rect.unit (s := S1x2x2816) ![0, 0, q] S1x2x256.size inb, p⟩ :: L) y = View.canon L y :=
  View.canon_cons_of_not_mem _ _ fun h => by
    have g : (y 2).val < q + 256 := ((Rect.mem_set_unit (inb := inb)).1 h 2).2
    omega

theorem start_at (v : Vec Ideal S1x2x2816 .f32) (e : Fin 2) (q : Fin 2816) :
    (k0_pay2 v (ix3 (n0 := 1) (n1 := 2) (n2 := 2816) 0 e q) : EReal) = v (ix3 (n0 := 1) (n1 := 2) (n2 := 2816) 0 e q) := by
  pointwise [k0_pay2]

/-- The normalised rows, -/
def norm (x0 : S512x1024.Idx → EReal) (x2 : S1x1024.Idx → EReal) : S512x1024.Idx → EReal := fun y =>
  x0 y * scale 1024 (fun q => x0 (ix2 (n0 := 512) (n1 := 1024) (y 0) q)) * x2 (ix2 (n0 := 1) (n1 := 1024) 0 (y 1))

theorem norm_eq (x : Vec Ideal S512x1024 .f32) (g : Vec Ideal S1x1024 .f32) : (k0_pay4 x g : S512x1024.Idx → EReal) = norm x g := by
  funext y
  obtain ⟨r, l, rfl⟩ : ∃ (r : Fin 512) (l : Fin 1024), y = ix2 (n0 := 512) (n1 := 1024) r l := ⟨y 0, y 1, pair_ext rfl rfl⟩
  exact norm_at x g r l

/-- and the block's result. -/
def block (x0 : S512x1024.Idx → EReal) (x8 : S1x1024.Idx → EReal) (a : S512x2816.Idx → EReal) (x5 : S2816x1024.Idx → EReal) : S512x1024.Idx → EReal := fun y =>
  x0 y + down a x5 (y 0) (y 1) * scale 1024 (down a x5 (y 0)) * x8 (ix2 (n0 := 1) (n1 := 1024) 0 (y 1))

theorem same_rows (x : Vec Ideal S512x1024 .f32) : (k0_pay3 x : S512x1024.Idx → EReal) = x := by
  funext y
  obtain ⟨r, l, rfl⟩ : ∃ (r : Fin 512) (l : Fin 1024), y = ix2 (n0 := 512) (n1 := 1024) r l := ⟨y 0, y 1, pair_ext rfl rfl⟩
  pointwise [k0_pay3]
theorem same_down (x : Vec Ideal S2816x1024 .bf16) : (k0_pay96 x : S2816x1024.Idx → EReal) = x := by
  funext y
  obtain ⟨r, l, rfl⟩ : ∃ (r : Fin 2816) (l : Fin 1024), y = ix2 (n0 := 2816) (n1 := 1024) r l := ⟨y 0, y 1, pair_ext rfl rfl⟩
  pointwise [k0_pay96]

theorem block_eq (x : FVec Ideal S512x1024 .f32) (a : Vec Ideal S512x2816 .bf16) (w : FVec Ideal S2816x1024 .bf16) (g : Vec Ideal S1x1024 .f32) :
    (k0_pay1 x a w (constant S512x1024 .f32 0x00000000#32) g : S512x1024.Idx → EReal) = block x g a w := by
  funext y
  obtain ⟨r, l, rfl⟩ : ∃ (r : Fin 512) (l : Fin 1024), y = ix2 (n0 := 512) (n1 := 1024) r l := ⟨y 0, y 1, pair_ext rfl rfl⟩
  exact out_at x a w g r l

section

variable {h : S512x1024.Idx → EReal} {w wu : S1024x2816.Idx → EReal} {cw : S8x2816.Idx → EReal} {cb : S1x2816.Idx → EReal} {halo : S1x2x2816.Idx → EReal}

/-- The block's rows into the working buffer, -/
theorem put512 (k : Fin 11) (inb : ∀ a, (![k.val, 0, 8, 0] : Fin 4 → ℕ) a + S1x1x512x256.size a ≤ S11x1x520x256.size a)
    (h' : FVec Ideal S512x1024 .bf16) (hh : (h' : S512x1024.Idx → EReal) = h) (wk : Vec Ideal S1024x256 .bf16)
    (hw : ∀ j l, wk (ix2 (n0 := 1024) (n1 := 256) j l) = w (ix2 (n0 := 1024) (n1 := 2816) j (col k l))) (x : S1x1x512x256.Idx) :
    k0_pay8 (k0_pay12 h' wk) x = stage h w halo ((Rect.unit (s := S11x1x520x256) ![k.val, 0, 8, 0] S1x1x512x256.size inb).emb x) := by
  subst hh
  have h0 : (x 0).val < 1 := (x 0).isLt
  have h1 : (x 1).val < 1 := (x 1).isLt
  have h2 : (x 2).val < 512 := (x 2).isLt
  have hx : x = ix4 (n0 := 1) (n1 := 1) (n2 := 512) (n3 := 256) 0 0 (x 2) (x 3) :=
    quad_ext (by show (x 0).val = 0; omega) (by show (x 1).val = 0; omega) rfl rfl
  refine (congrArg (k0_pay8 (k0_pay12 h' wk)) hx).trans ((lift512_at _ (x 2) (x 3)).trans ((proj_at h' wk (x 2) (x 3)).trans ?_))
  refine Eq.trans ?_ (Eq.symm (?_ : stage h' w halo _ = tap h' w halo ((x 2).val + 2) (col k (x 3))))
  · rw [tap_add (r := (x 2 : Fin 512))]
    exact Finset.sum_congr rfl fun j _ => congrArg _ (hw j _)
  · unfold stage
    congr 1
    · show 8 + 1 * (x 2).val - 6 = _; omega
    · congr 1
      · exact Fin.ext (by show k.val + 1 * (x 0).val = k.val; omega)
      · exact Fin.ext (by show 0 + 1 * (x 3).val = (x 3).val; omega)

/-- the two carried rows into it, -/
theorem put2 (k : Fin 11) (inb : ∀ a, (![k.val, 0, 6, 0] : Fin 4 → ℕ) a + S1x1x2x256.size a ≤ S11x1x520x256.size a)
    (v : Vec Ideal S1x2x256 .f32)
    (hv : ∀ e l, v (ix3 (n0 := 1) (n1 := 2) (n2 := 256) 0 e l) = halo (ix3 (n0 := 1) (n1 := 2) (n2 := 2816) 0 e (col k l))) (x : S1x1x2x256.Idx) :
    k0_pay7 v x = stage h w halo ((Rect.unit (s := S11x1x520x256) ![k.val, 0, 6, 0] S1x1x2x256.size inb).emb x) := by
  have h0 : (x 0).val < 1 := (x 0).isLt
  have h1 : (x 1).val < 1 := (x 1).isLt
  have h2 : (x 2).val < 2 := (x 2).isLt
  have hx : x = ix4 (n0 := 1) (n1 := 1) (n2 := 2) (n3 := 256) 0 0 (x 2) (x 3) :=
    quad_ext (by show (x 0).val = 0; omega) (by show (x 1).val = 0; omega) rfl rfl
  refine (congrArg (k0_pay7 v) hx).trans ((lift2_at v (x 2) (x 3)).trans ((hv _ _).trans ?_))
  refine Eq.trans ?_ (Eq.symm (?_ : stage h w halo _ = tap h w halo (x 2).val (col k (x 3))))
  · exact (tap_lt h w halo (x 2) _).symm
  · unfold stage
    congr 1
    · show 6 + 1 * (x 2).val - 6 = _; omega
    · congr 1
      · exact Fin.ext (by show k.val + 1 * (x 0).val = k.val; omega)
      · exact Fin.ext (by show 0 + 1 * (x 3).val = (x 3).val; omega)

/-- and a load after both. -/
theorem load {S' : Space} (v : View sig .tc S' S11x1x520x256 .f32) (k : Fin 11) (off n : ℕ) (inb8) (inb6) (p8 p6)
    (L : List (View.Piece (Elt Ideal) S11x1x520x256 .f32))
    (hL : Of (stage h w halo) (⟨Rect.unit (s := S11x1x520x256) ![k.val, 0, 8, 0] S1x1x512x256.size inb8, p8⟩ :: ⟨Rect.unit (s := S11x1x520x256) ![k.val, 0, 6, 0] S1x1x2x256.size inb6, p6⟩ :: L))
    (inb) (h6 : 6 ≤ off) (r : Fin n) (l : Fin 256) :
    v.readCov (⟨Rect.unit (s := S11x1x520x256) ![k.val, 0, 8, 0] S1x1x512x256.size inb8, p8⟩ :: ⟨Rect.unit (s := S11x1x520x256) ![k.val, 0, 6, 0] S1x1x2x256.size inb6, p6⟩ :: L)
      (Rect.unit (s := S11x1x520x256) ![k.val, 0, off, 0] ![1, 1, n, 256] inb).toLoadRect (ix4 (n0 := 1) (n1 := 1) (n2 := n) (n3 := 256) 0 0 r l)
      = tap h w halo (off - 6 + r.val) (col k l) := by
  have hr := r.isLt
  have hl := l.isLt
  have hn : off + n ≤ 520 := inb 2
  rw [View.readCov_eq_canon']
  refine (hL.canon _ ?_).trans ?_
  · by_cases h8 : 8 ≤ off + r.val
    · refine ⟨_, List.mem_cons_self .., (Rect.mem_set_unit (inb := inb8)).2 fun a => ?_⟩
      fin_cases a
      · exact ⟨by show k.val ≤ k.val + 1 * 0; omega, by show k.val + 1 * 0 < k.val + 1; omega⟩
      · exact ⟨by show 0 ≤ 0 + 1 * 0; omega, by show 0 + 1 * 0 < 0 + 1; omega⟩
      · exact ⟨by show 8 ≤ off + 1 * r.val; omega, by show off + 1 * r.val < 8 + 512; omega⟩
      · exact ⟨by show 0 ≤ 0 + 1 * l.val; omega, by show 0 + 1 * l.val < 0 + 256; omega⟩
    · refine ⟨_, List.mem_cons_of_mem _ (List.mem_cons_self ..), (Rect.mem_set_unit (inb := inb6)).2 fun a => ?_⟩
      fin_cases a
      · exact ⟨by show k.val ≤ k.val + 1 * 0; omega, by show k.val + 1 * 0 < k.val + 1; omega⟩
      · exact ⟨by show 0 ≤ 0 + 1 * 0; omega, by show 0 + 1 * 0 < 0 + 1; omega⟩
      · exact ⟨by show 6 ≤ off + 1 * r.val; omega, by show off + 1 * r.val < 6 + 2; omega⟩
      · exact ⟨by show 0 ≤ 0 + 1 * l.val; omega, by show 0 + 1 * l.val < 0 + 256; omega⟩
  · unfold stage
    congr 1
    · show off + 1 * r.val - 6 = _; omega
    · exact congrArg (col k) (Fin.ext (by show 0 + 1 * l.val = l.val; omega))

/-- The last rows of a chunk, carried on. -/
theorem putTail (k : Fin 11) (q : ℕ) (hq : q = 256 * k.val) (inb : ∀ a, (![0, 0, q] : Fin 3 → ℕ) a + S1x2x256.size a ≤ S1x2x2816.size a)
    (v : Vec Ideal S1x1x2x256 .f32)
    (hv : ∀ (e : Fin 2) l, v (ix4 (n0 := 1) (n1 := 1) (n2 := 2) (n3 := 256) 0 0 e l) = tap h w halo (518 - 6 + e.val) (col k l)) (x : S1x2x256.Idx) :
    k0_pay11 (k0_pay10 v) x = tail h w halo ((Rect.unit (s := S1x2x2816) ![0, 0, q] S1x2x256.size inb).emb x) := by
  have h0 : (x 0).val < 1 := (x 0).isLt
  have hx : x = ix3 (n0 := 1) (n1 := 2) (n2 := 256) 0 (x 1) (x 2) :=
    trip_ext (by show (x 0).val = 0; omega) rfl rfl
  refine (congrArg (k0_pay11 (k0_pay10 v)) hx).trans ((same2_at _ (x 1) (x 2)).trans ((drop2_at v _ _).trans ((hv _ _).trans ?_)))
  unfold tail
  congr 1
  · show 518 - 6 + (x 1).val = 512 + (0 + 1 * (x 1).val); omega
  · exact Fin.ext (by show 256 * k.val + (x 2).val = q + 1 * (x 2).val; omega)

/-- The same rows, sent out. -/
theorem putSent (k : Fin 11) (q : ℕ) (hq : q = 256 * k.val) (inb : ∀ a, (![0, 0, q] : Fin 3 → ℕ) a + S1x2x256.size a ≤ S1x2x2816.size a)
    (v : Vec Ideal S1x1x2x256 .f32)
    (hv : ∀ (e : Fin 2) l, v (ix4 (n0 := 1) (n1 := 1) (n2 := 2) (n3 := 256) 0 0 e l) = tap h w halo (518 - 6 + e.val) (col k l)) (x : S1x2x256.Idx) :
    k0_pay10 v x = tail h w halo ((Rect.unit (s := S1x2x2816) ![0, 0, q] S1x2x256.size inb).emb x) := by
  have hx : x = ix3 (n0 := 1) (n1 := 2) (n2 := 256) 0 (x 1) (x 2) :=
    trip_ext (by have h0 : (x 0).val < 1 := (x 0).isLt; show (x 0).val = 0; omega) rfl rfl
  refine Eq.trans ?_ (putTail (h := h) (w := w) (halo := halo) k q hq inb v hv x)
  rw [hx]
  exact (same2_at _ (x 1) (x 2)).symm

/-- The last rows of all chunks, sent out. -/
def sent (v0 v1 v2 v3 v4 v5 v6 v7 v8 v9 v10 : Vec Ideal S1x1x2x256 .f32) : List (View.Piece (Elt Ideal) S1x2x2816 .f32) :=
  [⟨Rect.unit (s := S1x2x2816) ![0, 0, 2560] S1x2x256.size inb_S1x2x2816_S1x2x256_0_0_2560, k0_pay10 v10⟩, ⟨Rect.unit (s := S1x2x2816) ![0, 0, 2304] S1x2x256.size inb_S1x2x2816_S1x2x256_0_0_2304, k0_pay10 v9⟩, ⟨Rect.unit (s := S1x2x2816) ![0, 0, 2048] S1x2x256.size inb_S1x2x2816_S1x2x256_0_0_2048, k0_pay10 v8⟩, ⟨Rect.unit (s := S1x2x2816) ![0, 0, 1792] S1x2x256.size inb_S1x2x2816_S1x2x256_0_0_1792, k0_pay10 v7⟩, ⟨Rect.unit (s := S1x2x2816) ![0, 0, 1536] S1x2x256.size inb_S1x2x2816_S1x2x256_0_0_1536, k0_pay10 v6⟩, ⟨Rect.unit (s := S1x2x2816) ![0, 0, 1280] S1x2x256.size inb_S1x2x2816_S1x2x256_0_0_1280, k0_pay10 v5⟩, ⟨Rect.unit (s := S1x2x2816) ![0, 0, 1024] S1x2x256.size inb_S1x2x2816_S1x2x256_0_0_1024, k0_pay10 v4⟩, ⟨Rect.unit (s := S1x2x2816) ![0, 0, 768] S1x2x256.size inb_S1x2x2816_S1x2x256_0_0_768, k0_pay10 v3⟩, ⟨Rect.unit (s := S1x2x2816) ![0, 0, 512] S1x2x256.size inb_S1x2x2816_S1x2x256_0_0_512, k0_pay10 v2⟩, ⟨Rect.unit (s := S1x2x2816) ![0, 0, 256] S1x2x256.size inb_S1x2x2816_S1x2x256_0_0_256, k0_pay10 v1⟩, ⟨Rect.unit (s := S1x2x2816) ![0, 0, 0] S1x2x256.size inb_S1x2x2816_S1x2x256_0_0_0, k0_pay10 v0⟩]

theorem sent_of (v0 v1 v2 v3 v4 v5 v6 v7 v8 v9 v10 : Vec Ideal S1x1x2x256 .f32)
    (h0 : ∀ (e : Fin 2) l, v0 (ix4 (n0 := 1) (n1 := 1) (n2 := 2) (n3 := 256) 0 0 e l) = tap h w halo (518 - 6 + e.val) (col ⟨0, by norm_num⟩ l))
    (h1 : ∀ (e : Fin 2) l, v1 (ix4 (n0 := 1) (n1 := 1) (n2 := 2) (n3 := 256) 0 0 e l) = tap h w halo (518 - 6 + e.val) (col ⟨1, by norm_num⟩ l))
    (h2 : ∀ (e : Fin 2) l, v2 (ix4 (n0 := 1) (n1 := 1) (n2 := 2) (n3 := 256) 0 0 e l) = tap h w halo (518 - 6 + e.val) (col ⟨2, by norm_num⟩ l))
    (h3 : ∀ (e : Fin 2) l, v3 (ix4 (n0 := 1) (n1 := 1) (n2 := 2) (n3 := 256) 0 0 e l) = tap h w halo (518 - 6 + e.val) (col ⟨3, by norm_num⟩ l))
    (h4 : ∀ (e : Fin 2) l, v4 (ix4 (n0 := 1) (n1 := 1) (n2 := 2) (n3 := 256) 0 0 e l) = tap h w halo (518 - 6 + e.val) (col ⟨4, by norm_num⟩ l))
    (h5 : ∀ (e : Fin 2) l, v5 (ix4 (n0 := 1) (n1 := 1) (n2 := 2) (n3 := 256) 0 0 e l) = tap h w halo (518 - 6 + e.val) (col ⟨5, by norm_num⟩ l))
    (h6 : ∀ (e : Fin 2) l, v6 (ix4 (n0 := 1) (n1 := 1) (n2 := 2) (n3 := 256) 0 0 e l) = tap h w halo (518 - 6 + e.val) (col ⟨6, by norm_num⟩ l))
    (h7 : ∀ (e : Fin 2) l, v7 (ix4 (n0 := 1) (n1 := 1) (n2 := 2) (n3 := 256) 0 0 e l) = tap h w halo (518 - 6 + e.val) (col ⟨7, by norm_num⟩ l))
    (h8 : ∀ (e : Fin 2) l, v8 (ix4 (n0 := 1) (n1 := 1) (n2 := 2) (n3 := 256) 0 0 e l) = tap h w halo (518 - 6 + e.val) (col ⟨8, by norm_num⟩ l))
    (h9 : ∀ (e : Fin 2) l, v9 (ix4 (n0 := 1) (n1 := 1) (n2 := 2) (n3 := 256) 0 0 e l) = tap h w halo (518 - 6 + e.val) (col ⟨9, by norm_num⟩ l))
    (h10 : ∀ (e : Fin 2) l, v10 (ix4 (n0 := 1) (n1 := 1) (n2 := 2) (n3 := 256) 0 0 e l) = tap h w halo (518 - 6 + e.val) (col ⟨10, by norm_num⟩ l)) :
    Of (tail h w halo) (sent v0 v1 v2 v3 v4 v5 v6 v7 v8 v9 v10) := by
  unfold sent
  exact Of.cons (fun x => putSent ⟨10, by norm_num⟩ 2560 rfl inb_S1x2x2816_S1x2x256_0_0_2560 v10 h10 x) (Of.cons (fun x => putSent ⟨9, by norm_num⟩ 2304 rfl inb_S1x2x2816_S1x2x256_0_0_2304 v9 h9 x) (Of.cons (fun x => putSent ⟨8, by norm_num⟩ 2048 rfl inb_S1x2x2816_S1x2x256_0_0_2048 v8 h8 x) (Of.cons (fun x => putSent ⟨7, by norm_num⟩ 1792 rfl inb_S1x2x2816_S1x2x256_0_0_1792 v7 h7 x) (Of.cons (fun x => putSent ⟨6, by norm_num⟩ 1536 rfl inb_S1x2x2816_S1x2x256_0_0_1536 v6 h6 x) (Of.cons (fun x => putSent ⟨5, by norm_num⟩ 1280 rfl inb_S1x2x2816_S1x2x256_0_0_1280 v5 h5 x) (Of.cons (fun x => putSent ⟨4, by norm_num⟩ 1024 rfl inb_S1x2x2816_S1x2x256_0_0_1024 v4 h4 x) (Of.cons (fun x => putSent ⟨3, by norm_num⟩ 768 rfl inb_S1x2x2816_S1x2x256_0_0_768 v3 h3 x) (Of.cons (fun x => putSent ⟨2, by norm_num⟩ 512 rfl inb_S1x2x2816_S1x2x256_0_0_512 v2 h2 x) (Of.cons (fun x => putSent ⟨1, by norm_num⟩ 256 rfl inb_S1x2x2816_S1x2x256_0_0_256 v1 h1 x) (Of.cons (fun x => putSent ⟨0, by norm_num⟩ 0 rfl inb_S1x2x2816_S1x2x256_0_0_0 v0 h0 x) (Of.nil _)))))))))))

theorem sent_cover (v0 v1 v2 v3 v4 v5 v6 v7 v8 v9 v10 : Vec Ideal S1x1x2x256 .f32) (y : S1x2x2816.Idx) : ∃ p ∈ sent v0 v1 v2 v3 v4 v5 v6 v7 v8 v9 v10, y ∈ p.1.set := by
  unfold sent
  exact View.cover_of_tiledL (s := S1x2x2816) _ S1x2x256.size (by sl_kernel_rfl) y

/-- and carried on. -/
def kept (v0 v1 v2 v3 v4 v5 v6 v7 v8 v9 v10 : Vec Ideal S1x1x2x256 .f32) : List (View.Piece (Elt Ideal) S1x2x2816 .f32) :=
  [⟨Rect.unit (s := S1x2x2816) ![0, 0, 2560] S1x2x256.size inb_S1x2x2816_S1x2x256_0_0_2560, k0_pay11 (k0_pay10 v10)⟩, ⟨Rect.unit (s := S1x2x2816) ![0, 0, 2304] S1x2x256.size inb_S1x2x2816_S1x2x256_0_0_2304, k0_pay11 (k0_pay10 v9)⟩, ⟨Rect.unit (s := S1x2x2816) ![0, 0, 2048] S1x2x256.size inb_S1x2x2816_S1x2x256_0_0_2048, k0_pay11 (k0_pay10 v8)⟩, ⟨Rect.unit (s := S1x2x2816) ![0, 0, 1792] S1x2x256.size inb_S1x2x2816_S1x2x256_0_0_1792, k0_pay11 (k0_pay10 v7)⟩, ⟨Rect.unit (s := S1x2x2816) ![0, 0, 1536] S1x2x256.size inb_S1x2x2816_S1x2x256_0_0_1536, k0_pay11 (k0_pay10 v6)⟩, ⟨Rect.unit (s := S1x2x2816) ![0, 0, 1280] S1x2x256.size inb_S1x2x2816_S1x2x256_0_0_1280, k0_pay11 (k0_pay10 v5)⟩, ⟨Rect.unit (s := S1x2x2816) ![0, 0, 1024] S1x2x256.size inb_S1x2x2816_S1x2x256_0_0_1024, k0_pay11 (k0_pay10 v4)⟩, ⟨Rect.unit (s := S1x2x2816) ![0, 0, 768] S1x2x256.size inb_S1x2x2816_S1x2x256_0_0_768, k0_pay11 (k0_pay10 v3)⟩, ⟨Rect.unit (s := S1x2x2816) ![0, 0, 512] S1x2x256.size inb_S1x2x2816_S1x2x256_0_0_512, k0_pay11 (k0_pay10 v2)⟩, ⟨Rect.unit (s := S1x2x2816) ![0, 0, 256] S1x2x256.size inb_S1x2x2816_S1x2x256_0_0_256, k0_pay11 (k0_pay10 v1)⟩, ⟨Rect.unit (s := S1x2x2816) ![0, 0, 0] S1x2x256.size inb_S1x2x2816_S1x2x256_0_0_0, k0_pay11 (k0_pay10 v0)⟩]

theorem kept_of (v0 v1 v2 v3 v4 v5 v6 v7 v8 v9 v10 : Vec Ideal S1x1x2x256 .f32)
    (h0 : ∀ (e : Fin 2) l, v0 (ix4 (n0 := 1) (n1 := 1) (n2 := 2) (n3 := 256) 0 0 e l) = tap h w halo (518 - 6 + e.val) (col ⟨0, by norm_num⟩ l))
    (h1 : ∀ (e : Fin 2) l, v1 (ix4 (n0 := 1) (n1 := 1) (n2 := 2) (n3 := 256) 0 0 e l) = tap h w halo (518 - 6 + e.val) (col ⟨1, by norm_num⟩ l))
    (h2 : ∀ (e : Fin 2) l, v2 (ix4 (n0 := 1) (n1 := 1) (n2 := 2) (n3 := 256) 0 0 e l) = tap h w halo (518 - 6 + e.val) (col ⟨2, by norm_num⟩ l))
    (h3 : ∀ (e : Fin 2) l, v3 (ix4 (n0 := 1) (n1 := 1) (n2 := 2) (n3 := 256) 0 0 e l) = tap h w halo (518 - 6 + e.val) (col ⟨3, by norm_num⟩ l))
    (h4 : ∀ (e : Fin 2) l, v4 (ix4 (n0 := 1) (n1 := 1) (n2 := 2) (n3 := 256) 0 0 e l) = tap h w halo (518 - 6 + e.val) (col ⟨4, by norm_num⟩ l))
    (h5 : ∀ (e : Fin 2) l, v5 (ix4 (n0 := 1) (n1 := 1) (n2 := 2) (n3 := 256) 0 0 e l) = tap h w halo (518 - 6 + e.val) (col ⟨5, by norm_num⟩ l))
    (h6 : ∀ (e : Fin 2) l, v6 (ix4 (n0 := 1) (n1 := 1) (n2 := 2) (n3 := 256) 0 0 e l) = tap h w halo (518 - 6 + e.val) (col ⟨6, by norm_num⟩ l))
    (h7 : ∀ (e : Fin 2) l, v7 (ix4 (n0 := 1) (n1 := 1) (n2 := 2) (n3 := 256) 0 0 e l) = tap h w halo (518 - 6 + e.val) (col ⟨7, by norm_num⟩ l))
    (h8 : ∀ (e : Fin 2) l, v8 (ix4 (n0 := 1) (n1 := 1) (n2 := 2) (n3 := 256) 0 0 e l) = tap h w halo (518 - 6 + e.val) (col ⟨8, by norm_num⟩ l))
    (h9 : ∀ (e : Fin 2) l, v9 (ix4 (n0 := 1) (n1 := 1) (n2 := 2) (n3 := 256) 0 0 e l) = tap h w halo (518 - 6 + e.val) (col ⟨9, by norm_num⟩ l))
    (h10 : ∀ (e : Fin 2) l, v10 (ix4 (n0 := 1) (n1 := 1) (n2 := 2) (n3 := 256) 0 0 e l) = tap h w halo (518 - 6 + e.val) (col ⟨10, by norm_num⟩ l)) :
    Of (tail h w halo) (kept v0 v1 v2 v3 v4 v5 v6 v7 v8 v9 v10) := by
  unfold kept
  exact Of.cons (fun x => putTail ⟨10, by norm_num⟩ 2560 rfl inb_S1x2x2816_S1x2x256_0_0_2560 v10 h10 x) (Of.cons (fun x => putTail ⟨9, by norm_num⟩ 2304 rfl inb_S1x2x2816_S1x2x256_0_0_2304 v9 h9 x) (Of.cons (fun x => putTail ⟨8, by norm_num⟩ 2048 rfl inb_S1x2x2816_S1x2x256_0_0_2048 v8 h8 x) (Of.cons (fun x => putTail ⟨7, by norm_num⟩ 1792 rfl inb_S1x2x2816_S1x2x256_0_0_1792 v7 h7 x) (Of.cons (fun x => putTail ⟨6, by norm_num⟩ 1536 rfl inb_S1x2x2816_S1x2x256_0_0_1536 v6 h6 x) (Of.cons (fun x => putTail ⟨5, by norm_num⟩ 1280 rfl inb_S1x2x2816_S1x2x256_0_0_1280 v5 h5 x) (Of.cons (fun x => putTail ⟨4, by norm_num⟩ 1024 rfl inb_S1x2x2816_S1x2x256_0_0_1024 v4 h4 x) (Of.cons (fun x => putTail ⟨3, by norm_num⟩ 768 rfl inb_S1x2x2816_S1x2x256_0_0_768 v3 h3 x) (Of.cons (fun x => putTail ⟨2, by norm_num⟩ 512 rfl inb_S1x2x2816_S1x2x256_0_0_512 v2 h2 x) (Of.cons (fun x => putTail ⟨1, by norm_num⟩ 256 rfl inb_S1x2x2816_S1x2x256_0_0_256 v1 h1 x) (Of.cons (fun x => putTail ⟨0, by norm_num⟩ 0 rfl inb_S1x2x2816_S1x2x256_0_0_0 v0 h0 x) (Of.nil _)))))))))))

theorem kept_cover (v0 v1 v2 v3 v4 v5 v6 v7 v8 v9 v10 : Vec Ideal S1x1x2x256 .f32) (y : S1x2x2816.Idx) : ∃ p ∈ kept v0 v1 v2 v3 v4 v5 v6 v7 v8 v9 v10, y ∈ p.1.set := by
  unfold kept
  exact View.cover_of_tiledL (s := S1x2x2816) _ S1x2x256.size (by sl_kernel_rfl) y

/-- A chunk's activation. -/
theorem putAct (k : Fin 11) (q : ℕ) (hq : q = 256 * k.val) (inb : ∀ a, (![0, q] : Fin 2 → ℕ) a + S512x256.size a ≤ S512x2816.size a)
    (h' : FVec Ideal S512x1024 .bf16) (hh : (h' : S512x1024.Idx → EReal) = h) (wk uk : Vec Ideal S1024x256 .bf16)
    (hw : ∀ j l, wk (ix2 (n0 := 1024) (n1 := 256) j l) = w (ix2 (n0 := 1024) (n1 := 2816) j (col k l)))
    (hu : ∀ j l, uk (ix2 (n0 := 1024) (n1 := 256) j l) = wu (ix2 (n0 := 1024) (n1 := 2816) j (col k l)))
    (ck : Vec Ideal S8x256 .f32) (hc : ∀ j l, ck (ix2 (n0 := 8) (n1 := 256) j l) = cw (ix2 (n0 := 8) (n1 := 2816) j (col k l)))
    (a b : Vec Ideal S1x1x512x256 .f32)
    (ha : ∀ (r : Fin 512) l, a (ix4 (n0 := 1) (n1 := 1) (n2 := 512) (n3 := 256) 0 0 r l) = tap h w halo (6 - 6 + r.val) (col k l))
    (hb : ∀ (r : Fin 512) l, b (ix4 (n0 := 1) (n1 := 1) (n2 := 512) (n3 := 256) 0 0 r l) = tap h w halo (7 - 6 + r.val) (col k l))
    (bk : Vec Ideal S1x256 .f32) (hbk : ∀ j l, bk (ix2 (n0 := 1) (n1 := 256) j l) = cb (ix2 (n0 := 1) (n1 := 2816) j (col k l))) (x : S512x256.Idx) :
    k0_pay9 (k0_pay12 h' wk) (k0_pay12 h' uk) ck a b bk x = act h w wu cw cb halo ((Rect.unit (s := S512x2816) ![0, q] S512x256.size inb).emb x) := by
  subst hh
  obtain ⟨r, l, rfl⟩ : ∃ (r : Fin 512) (l : Fin 256), x = ix2 (n0 := 512) (n1 := 256) r l := ⟨x 0, x 1, pair_ext rfl rfl⟩
  have e0 : ((Rect.unit (s := S512x2816) ![0, q] S512x256.size inb).emb (ix2 (n0 := 512) (n1 := 256) r l)) = ix2 (n0 := 512) (n1 := 2816) r (col k l) :=
    pair_ext (by show 0 + 1 * r.val = r.val; omega) (by show q + 1 * l.val = 256 * k.val + l.val; omega)
  have eg : k0_pay12 h' wk (ix3 (n0 := 1) (n1 := 512) (n2 := 256) 0 r l) = tap h' w halo (r.val + 2) (col k l) := by
    rw [proj_at, tap_add]; exact Finset.sum_congr rfl fun j _ => congrArg _ (hw j _)
  have eu : k0_pay12 h' uk (ix3 (n0 := 1) (n1 := 512) (n2 := 256) 0 r l) = proj h' wu r (col k l) := by
    rw [proj_at]; exact Finset.sum_congr rfl fun j _ => congrArg _ (hu j _)
  have em : mix ck bk (a (ix4 (n0 := 1) (n1 := 1) (n2 := 512) (n3 := 256) 0 0 r l)) (b (ix4 (n0 := 1) (n1 := 1) (n2 := 512) (n3 := 256) 0 0 r l))
      (k0_pay12 h' wk (ix3 (n0 := 1) (n1 := 512) (n2 := 256) 0 r l)) l = conv h' w cw cb halo r (col k l) := by
    unfold mix conv
    rw [hbk, hc, hc, hc, ha, hb, eg, show 6 - 6 + r.val = r.val by omega, show 7 - 6 + r.val = r.val + 1 by omega]
  refine (act_at _ _ ck a b bk r l).trans ?_
  rw [e0, em, eu]
  rfl

end

end Cert.Kernel3Ideal.Ffn

end
-- ==== Proof.Ffn.Layer.lean ====
/- The feed-forward part in closed form, position by position, and the block of 512 rows that computes it. -/
module

public import proofs.«01_k».proof.Proof.Ffn.Pieces

@[expose] public section

set_option maxRecDepth 16384

noncomputable section

namespace Cert.Kernel3Ideal.Ffn

open Cert.Kernel3Ideal Cert.Kernel3Ideal.Gen
open Idealize Idealize.ShloMosaic
open Idealize.ShloMosaic.TcCoe

section Closed

variable (X : S8x2048x1024.Idx → EReal) (g : S1024.Idx → EReal) (wg wu : S1024x2816.Idx → EReal) (cw : S3x2816.Idx → EReal) (cb : S2816.Idx → EReal)
  (wd : S2816x1024.Idx → EReal) (g2 : S1024.Idx → EReal)

/-- A normalised row. -/
def row (b : Fin 8) (p : Fin 2048) (j : Fin 1024) : EReal :=
  X (ix3 (n0 := 8) (n1 := 2048) (n2 := 1024) b p j) * scale 1024 (fun q => X (ix3 (n0 := 8) (n1 := 2048) (n2 := 1024) b p q)) * g (ix1 (n0 := 1024) j)

/-- The gate's rows, two rows of zeros before them. -/
def gate (b : Fin 8) (n : ℕ) (q : Fin 2816) : EReal :=
  if n < 2 then 0 else if h : n - 2 < 2048 then ∑ j : Fin 1024, row X g b ⟨n - 2, h⟩ j * wg (ix2 (n0 := 1024) (n1 := 2816) j q) else 0

/-- The convolution over three rows, -/
def mixed (b : Fin 8) (p : Fin 2048) (q : Fin 2816) : EReal :=
  cb (ix1 (n0 := 2816) q) + (cw (ix2 (n0 := 3) (n1 := 2816) 0 q) * gate X g wg b p.val q + cw (ix2 (n0 := 3) (n1 := 2816) 1 q) * gate X g wg b (p.val + 1) q
    + cw (ix2 (n0 := 3) (n1 := 2816) 2 q) * gate X g wg b (p.val + 2) q)

/-- the activation, -/
def active (b : Fin 8) (p : Fin 2048) (q : Fin 2816) : EReal :=
  mixed X g wg cw cb b p q * Ideal.logistic (mixed X g wg cw cb b p q) * ∑ j : Fin 1024, row X g b p j * wu (ix2 (n0 := 1024) (n1 := 2816) j q)

/-- the last product -/
def lower (b : Fin 8) (p : Fin 2048) (d : Fin 1024) : EReal :=
  ∑ q : Fin 2816, active X g wg wu cw cb b p q * wd (ix2 (n0 := 2816) (n1 := 1024) q d)

/-- and the layer's result. -/
def layer (b : Fin 8) (p : Fin 2048) (d : Fin 1024) : EReal :=
  X (ix3 (n0 := 8) (n1 := 2048) (n2 := 1024) b p d) + lower X g wg wu cw cb wd b p d * scale 1024 (lower X g wg wu cw cb wd b p) * g2 (ix1 (n0 := 1024) d)

/-- The two arrays: all rows of the layer, -/
def result : S16384x1024.Idx → EReal := fun y =>
  layer X g wg wu cw cb wd g2 ⟨(y 0).val / 2048, by have : (y 0).val < 16384 := (y 0).isLt; omega⟩ ⟨(y 0).val % 2048, Nat.mod_lt _ (by norm_num)⟩ (y 1)

/-- and the gate's last two rows of every sequence. -/
def ends : S8x2x2816.Idx → EReal := fun y => gate X g wg (y 0) (2048 + (y 1).val) (y 2)

theorem gate_lt (b : Fin 8) (n : ℕ) (q : Fin 2816) (h : n < 2) : gate X g wg b n q = 0 := by unfold gate; rw [if_pos h]
theorem gate_add (b : Fin 8) (p : Fin 2048) (n : ℕ) (hn : n = p.val + 2) (q : Fin 2816) :
    gate X g wg b n q = ∑ j : Fin 1024, row X g b p j * wg (ix2 (n0 := 1024) (n1 := 2816) j q) := by
  subst hn
  unfold gate
  rw [if_neg (by omega), dif_pos (by have := p.isLt; omega)]
  congr 1

end Closed

section Tile

variable {X : S8x2048x1024.Idx → EReal} {g : S1024.Idx → EReal} {wg wu : S1024x2816.Idx → EReal} {cw : S3x2816.Idx → EReal} {cb : S2816.Idx → EReal}
  {wd : S2816x1024.Idx → EReal} {g2 : S1024.Idx → EReal}
  {x0 : S512x1024.Idx → EReal} {x2 : S1x1024.Idx → EReal} {x6 : S8x2816.Idx → EReal} {x7 : S1x2816.Idx → EReal} {x8 : S1x1024.Idx → EReal} {halo : S1x2x2816.Idx → EReal}
  {b : Fin 8} {i : ℕ} (hi : i < 4)
  (h0 : ∀ (r : Fin 512) (p : Fin 2048) (j : Fin 1024), p.val = 512 * i + r.val → x0 (ix2 (n0 := 512) (n1 := 1024) r j) = X (ix3 (n0 := 8) (n1 := 2048) (n2 := 1024) b p j))
  (h2 : ∀ j : Fin 1024, x2 (ix2 (n0 := 1) (n1 := 1024) 0 j) = g (ix1 (n0 := 1024) j))
  (hh : ∀ (e : Fin 2) (q : Fin 2816), halo (ix3 (n0 := 1) (n1 := 2) (n2 := 2816) 0 e q) = gate X g wg b (512 * i + e.val) q)
  (h6 : ∀ (k : Fin 8) (k' : Fin 3) (q : Fin 2816), k.val = k'.val → x6 (ix2 (n0 := 8) (n1 := 2816) k q) = cw (ix2 (n0 := 3) (n1 := 2816) k' q))
  (h7 : ∀ q : Fin 2816, x7 (ix2 (n0 := 1) (n1 := 2816) 0 q) = cb (ix1 (n0 := 2816) q))
  (h8 : ∀ j : Fin 1024, x8 (ix2 (n0 := 1) (n1 := 1024) 0 j) = g2 (ix1 (n0 := 1024) j))

include h0 h2 in
theorem norm_row (r : Fin 512) (p : Fin 2048) (hp : p.val = 512 * i + r.val) (j : Fin 1024) : norm x0 x2 (ix2 (n0 := 512) (n1 := 1024) r j) = row X g b p j := by
  show x0 (ix2 (n0 := 512) (n1 := 1024) r j) * scale 1024 (fun q => x0 (ix2 (n0 := 512) (n1 := 1024) r q)) * x2 (ix2 (n0 := 1) (n1 := 1024) 0 j) = _
  rw [h2 j, h0 r p j hp, show (fun q => x0 (ix2 (n0 := 512) (n1 := 1024) r q)) = fun q => X (ix3 (n0 := 8) (n1 := 2048) (n2 := 1024) b p q) from funext fun q => h0 r p q hp]
  rfl

include h0 h2 in
theorem proj_row (w : S1024x2816.Idx → EReal) (r : Fin 512) (p : Fin 2048) (hp : p.val = 512 * i + r.val) (q : Fin 2816) :
    proj (norm x0 x2) w r q = ∑ j : Fin 1024, row X g b p j * w (ix2 (n0 := 1024) (n1 := 2816) j q) :=
  Finset.sum_congr rfl fun j _ => congrArg (· * _) (norm_row h0 h2 r p hp j)

include hi h0 h2 hh in
theorem tap_row (n : ℕ) (hn : n < 514) (q : Fin 2816) : tap (norm x0 x2) wg halo n q = gate X g wg b (512 * i + n) q := by
  by_cases h : n < 2
  · exact (tap_lt _ _ _ ⟨n, h⟩ q).trans (hh ⟨n, h⟩ q)
  · obtain ⟨r, rfl⟩ : ∃ r, n = r + 2 := ⟨n - 2, by omega⟩
    refine (tap_add _ _ _ ⟨r, by omega⟩ q).trans ((proj_row h0 h2 wg ⟨r, by omega⟩ ⟨512 * i + r, by omega⟩ rfl q).trans ?_)
    exact (gate_add X g wg b _ _ (by show 512 * i + (r + 2) = 512 * i + r + 2; omega) q).symm

include hi h0 h2 hh in
theorem tail_row (y : S1x2x2816.Idx) : tail (norm x0 x2) wg halo y = gate X g wg b (512 * i + 512 + (y 1).val) (y 2) := by
  have h1 : (y 1).val < 2 := (y 1).isLt
  exact (tap_row hi h0 h2 hh (512 + (y 1).val) (by omega) (y 2)).trans (by rw [Nat.add_assoc])

include hi h0 h2 hh h6 h7 in
theorem conv_row (r : Fin 512) (p : Fin 2048) (hp : p.val = 512 * i + r.val) (q : Fin 2816) : conv (norm x0 x2) wg x6 x7 halo r q = mixed X g wg cw cb b p q := by
  have hr := r.isLt
  unfold conv mixed
  rw [h7 q, h6 0 0 q rfl, h6 1 1 q rfl, h6 2 2 q rfl, tap_row hi h0 h2 hh _ (by omega) q, tap_row hi h0 h2 hh _ (by omega) q, tap_row hi h0 h2 hh _ (by omega) q, hp,
    Nat.add_assoc, Nat.add_assoc]

include hi h0 h2 hh h6 h7 in
theorem act_row (r : Fin 512) (p : Fin 2048) (hp : p.val = 512 * i + r.val) (q : Fin 2816) :
    act (norm x0 x2) wg wu x6 x7 halo (ix2 (n0 := 512) (n1 := 2816) r q) = active X g wg wu cw cb b p q := by
  show conv (norm x0 x2) wg x6 x7 halo r q * Ideal.logistic (conv (norm x0 x2) wg x6 x7 halo r q) * proj (norm x0 x2) wu r q = _
  rw [conv_row hi h0 h2 hh h6 h7 r p hp q, proj_row h0 h2 wu r p hp q]
  rfl

include hi h0 h2 hh h6 h7 in
theorem down_row (r : Fin 512) (p : Fin 2048) (hp : p.val = 512 * i + r.val) (d : Fin 1024) :
    down (act (norm x0 x2) wg wu x6 x7 halo) wd r d = lower X g wg wu cw cb wd b p d :=
  Finset.sum_congr rfl fun q _ => congrArg (· * _) (act_row hi h0 h2 hh h6 h7 r p hp q)

include hi h0 h2 hh h6 h7 h8 in
theorem block_row (y : S512x1024.Idx) (p : Fin 2048) (hp : p.val = 512 * i + (y 0).val) :
    block x0 x8 (act (norm x0 x2) wg wu x6 x7 halo) wd y = layer X g wg wu cw cb wd g2 b p (y 1) := by
  obtain ⟨r, d, rfl⟩ : ∃ (r : Fin 512) (d : Fin 1024), y = ix2 (n0 := 512) (n1 := 1024) r d := ⟨y 0, y 1, pair_ext rfl rfl⟩
  show x0 (ix2 (n0 := 512) (n1 := 1024) r d) + down (act (norm x0 x2) wg wu x6 x7 halo) wd r d * scale 1024 (down (act (norm x0 x2) wg wu x6 x7 halo) wd r) * x8 (ix2 (n0 := 1) (n1 := 1024) 0 d) = _
  rw [h8 d, h0 r p d hp, show down (act (norm x0 x2) wg wu x6 x7 halo) wd r = lower X g wg wu cw cb wd b p from funext fun d => down_row hi h0 h2 hh h6 h7 r p hp d]
  rfl

end Tile

end Cert.Kernel3Ideal.Ffn

end
-- ==== Proof.Ffn.Windows.lean ====
/- The blocks the windows fetch at each point, read off the call's arguments. -/
module

public import proofs.«01_k».proof.Proof.Ffn.Layer
public import proofs.«01_k».proof.Proof.Gen.Kernel3Ideal.Frame

@[expose] public section

set_option maxRecDepth 16384

noncomputable section

namespace Cert.Kernel3Ideal.Ffn

open Cert.Kernel3Ideal Cert.Kernel3Ideal.Gen
open Idealize Idealize.ShloMosaic
open Idealize.ShloMosaic.TcCoe

variable (m : (ℓ : Loc nD τ sig) → Buf (Elt Ideal) ℓ) (c : Dev nD)

theorem V_cst : (V m c main_cst : S8x2x2816.Idx → EReal) = constant (F := Ideal) S8x2x2816 .f32 0x00000000#32 := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v0 : (V m c main_v0 : S8x2816.Idx → EReal) = pad S8x2816 ![0, 0] ![5, 0] ![0, 0] (m ((c : Thread nD τ).loc main_arg4) : S3x2816.Idx → EReal) (sitofp (F := Ideal) .f32 (constantI S_ 32 0#32)) pads_S3x2816_S8x2816_050_000 h_S_ := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v1 : (V m c main_v1 : S16384x1024.Idx → EReal) = shapeCast S16384x1024 (m ((c : Thread nD τ).loc main_arg0) : S8x2048x1024.Idx → EReal) shapeCasts_S8x2048x1024_S16384x1024 := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v2 : (V m c main_v2 : S1x1024.Idx → EReal) = shapeCast S1x1024 (m ((c : Thread nD τ).loc main_arg1) : S1024.Idx → EReal) shapeCasts_S1024_S1x1024 := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v3 : (V m c main_v3 : S1024x2816.Idx → EReal) = (m ((c : Thread nD τ).loc main_arg2) : S1024x2816.Idx → EReal) := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v4 : (V m c main_v4 : S1024x2816.Idx → EReal) = (m ((c : Thread nD τ).loc main_arg3) : S1024x2816.Idx → EReal) := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v5 : (V m c main_v5 : S2816x1024.Idx → EReal) = (m ((c : Thread nD τ).loc main_arg6) : S2816x1024.Idx → EReal) := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v6 : (V m c main_v6 : S1x2816.Idx → EReal) = shapeCast S1x2816 (m ((c : Thread nD τ).loc main_arg5) : S2816.Idx → EReal) shapeCasts_S2816_S1x2816 := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl
theorem V_v7 : (V m c main_v7 : S1x1024.Idx → EReal) = shapeCast S1x1024 (m ((c : Thread nD τ).loc main_arg7) : S1024.Idx → EReal) shapeCasts_S1024_S1x1024 := by
  delta V; simp only [hostOps0, hostOps0_1, hostOps0_2, StableHlo.TRef.binary, StableHlo.TRef.nullary, StableHlo.TRef.unary, StableHlo.TRef.toBuf, StableHlo.TRef.ofBuf, cast_eq, List.flatten_cons, List.flatten_nil, List.append_nil, List.cons_append, List.nil_append]
  after_results_simp <;> rfl

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val / 4, 0, 0] :=
  (by decide +kernel : ∀ t : Fin grid0.N, win0_10.index t = ![t.val / 4, 0, 0])
theorem lt32 (t : Fin cfg0.N) : t.val < 32 := lt_of_lt_of_eq t.isLt (by decide +kernel)

theorem emb0 (t : Fin cfg0.N) (y : S512x1024.Idx) (p : Fin 16384) (hp : p.val = 512 * t.val + (y 0).val) :
    (((cfg0.win (0 : Fin 11)).blk t).view.emb y : S16384x1024.Idx) = ix2 (n0 := 16384) (n1 := 1024) p (y 1) := by
  have e := idx0 t
  refine pair_ext ?_ ?_
  · blk_simp [e]; omega
  · blk_simp [e]
theorem emb9 (t : Fin cfg0.N) (y : S512x1024.Idx) (p : Fin 16384) (hp : p.val = 512 * t.val + (y 0).val) :
    (((cfg0.win (9 : Fin 11)).blk t).view.emb y : S16384x1024.Idx) = ix2 (n0 := 16384) (n1 := 1024) p (y 1) := by
  have e := idx9 t
  refine pair_ext ?_ ?_
  · blk_simp [e]; omega
  · blk_simp [e]
theorem emb1 (t : Fin cfg0.N) (y : S1x2x2816.Idx) (b : Fin 8) (hb : b.val = t.val / 4) :
    (((cfg0.win (1 : Fin 11)).blk t).view.emb y : S8x2x2816.Idx) = ix3 (n0 := 8) (n1 := 2) (n2 := 2816) b (y 1) (y 2) := by
  have e := idx1 t
  have h0 : (y 0).val < 1 := (y 0).isLt
  refine trip_ext ?_ ?_ ?_
  · blk_simp [e]; omega
  · blk_simp [e]
  · blk_simp [e]
theorem emb10 (t : Fin cfg0.N) (y : S1x2x2816.Idx) (b : Fin 8) (hb : b.val = t.val / 4) :
    (((cfg0.win (10 : Fin 11)).blk t).view.emb y : S8x2x2816.Idx) = ix3 (n0 := 8) (n1 := 2) (n2 := 2816) b (y 1) (y 2) := by
  have e := idx10 t
  have h0 : (y 0).val < 1 := (y 0).isLt
  refine trip_ext ?_ ?_ ?_
  · blk_simp [e]; omega
  · blk_simp [e]
  · blk_simp [e]
theorem emb2 (t : Fin cfg0.N) (y : S1x1024.Idx) : (((cfg0.win (2 : Fin 11)).blk t).view.emb y : S1x1024.Idx) = y := by
  have e := idx2 t
  refine pair_ext ?_ ?_
  · blk_simp [e]
  · blk_simp [e]
theorem emb3 (t : Fin cfg0.N) (y : S1024x2816.Idx) : (((cfg0.win (3 : Fin 11)).blk t).view.emb y : S1024x2816.Idx) = y := by
  have e := idx3 t
  refine pair_ext ?_ ?_
  · blk_simp [e]
  · blk_simp [e]
theorem emb4 (t : Fin cfg0.N) (y : S1024x2816.Idx) : (((cfg0.win (4 : Fin 11)).blk t).view.emb y : S1024x2816.Idx) = y := by
  have e := idx4 t
  refine pair_ext ?_ ?_
  · blk_simp [e]
  · blk_simp [e]
theorem emb5 (t : Fin cfg0.N) (y : S2816x1024.Idx) : (((cfg0.win (5 : Fin 11)).blk t).view.emb y : S2816x1024.Idx) = y := by
  have e := idx5 t
  refine pair_ext ?_ ?_
  · blk_simp [e]
  · blk_simp [e]
theorem emb6 (t : Fin cfg0.N) (y : S8x2816.Idx) : (((cfg0.win (6 : Fin 11)).blk t).view.emb y : S8x2816.Idx) = y := by
  have e := idx6 t
  refine pair_ext ?_ ?_
  · blk_simp [e]
  · blk_simp [e]
theorem emb7 (t : Fin cfg0.N) (y : S1x2816.Idx) : (((cfg0.win (7 : Fin 11)).blk t).view.emb y : S1x2816.Idx) = y := by
  have e := idx7 t
  refine pair_ext ?_ ?_
  · blk_simp [e]
  · blk_simp [e]
theorem emb8 (t : Fin cfg0.N) (y : S1x1024.Idx) : (((cfg0.win (8 : Fin 11)).blk t).view.emb y : S1x1024.Idx) = y := by
  have e := idx8 t
  refine pair_ext ?_ ?_
  · blk_simp [e]
  · blk_simp [e]

theorem rows_at (X : S8x2048x1024.Idx → EReal) (b : Fin 8) (p : Fin 2048) (q : Fin 16384) (hq : q.val = 2048 * b.val + p.val) (j : Fin 1024) :
    shapeCast S16384x1024 X shapeCasts_S8x2048x1024_S16384x1024 (ix2 (n0 := 16384) (n1 := 1024) q j) = X (ix3 (n0 := 8) (n1 := 2048) (n2 := 1024) b p j) := by
  pointwise
  refine congrArg X (Shape.idx3_ext ?_ ?_ ?_)
  all_goals first | rfl | (have := p.isLt; have := b.isLt; simp [ix3]; omega)
theorem gain_at (g : S1024.Idx → EReal) (j : Fin 1024) :
    shapeCast S1x1024 g shapeCasts_S1024_S1x1024 (ix2 (n0 := 1) (n1 := 1024) 0 j) = g (ix1 (n0 := 1024) j) := by
  pointwise
theorem bias_at (g : S2816.Idx → EReal) (j : Fin 2816) :
    shapeCast S1x2816 g shapeCasts_S2816_S1x2816 (ix2 (n0 := 1) (n1 := 2816) 0 j) = g (ix1 (n0 := 2816) j) := by
  pointwise
theorem zero_at (y : S8x2x2816.Idx) : (constant (F := Ideal) S8x2x2816 .f32 0x00000000#32 y : EReal) = 0 := by
  obtain ⟨b, e, q, rfl⟩ : ∃ (b : Fin 8) (e : Fin 2) (q : Fin 2816), y = ix3 (n0 := 8) (n1 := 2) (n2 := 2816) b e q := ⟨y 0, y 1, y 2, trip_ext rfl rfl rfl⟩
  pointwise
theorem pad_at (w : S3x2816.Idx → EReal) (v : S_.Idx → EReal) (k : Fin 8) (k' : Fin 3) (hk : k.val = k'.val) (q : Fin 2816) :
    pad S8x2816 ![0, 0] ![5, 0] ![0, 0] w v pads_S3x2816_S8x2816_050_000 h_S_ (ix2 (n0 := 8) (n1 := 2816) k q) = w (ix2 (n0 := 3) (n1 := 2816) k' q) := by
  pointwise
  have h : k.val < 3 := by have := k'.isLt; omega
  rw [dif_pos h]
  exact congrArg w (pair_ext hk rfl)

theorem blk0 (t : Fin cfg0.N) (b : Fin 8) (hb : b.val = t.val / 4) (r : Fin 512) (p : Fin 2048) (j : Fin 1024) (hp : p.val = 512 * (t.val % 4) + r.val) :
    iblk m c (0 : Fin 11) t (ix2 (n0 := 512) (n1 := 1024) r j) = (m ((c : Thread nD τ).loc main_arg0) : S8x2048x1024.Idx → EReal) (ix3 (n0 := 8) (n1 := 2048) (n2 := 1024) b p j) := by
  have ht := lt32 t
  have hr := r.isLt
  refine (congrArg (V m c main_v1 : S16384x1024.Idx → EReal) (emb0 t (ix2 (n0 := 512) (n1 := 1024) r j) ⟨512 * t.val + r.val, by omega⟩ rfl)).trans ?_
  rw [V_v1]
  exact rows_at _ b p _ (by show 512 * t.val + r.val = 2048 * b.val + p.val; omega) j
theorem blk1 (t : Fin cfg0.N) (y : S1x2x2816.Idx) : iblk m c (1 : Fin 11) t y = (0 : EReal) := by
  exact (congrFun (V_cst m c) (((cfg0.win (1 : Fin 11)).blk t).view.emb y : S8x2x2816.Idx)).trans (zero_at _)
theorem blk2 (t : Fin cfg0.N) (j : Fin 1024) : iblk m c (2 : Fin 11) t (ix2 (n0 := 1) (n1 := 1024) 0 j) = (m ((c : Thread nD τ).loc main_arg1) : S1024.Idx → EReal) (ix1 (n0 := 1024) j) := by
  refine (congrArg (V m c main_v2 : S1x1024.Idx → EReal) (emb2 t _)).trans ?_
  rw [V_v2]
  exact gain_at _ j
theorem blk7 (t : Fin cfg0.N) (j : Fin 2816) : iblk m c (7 : Fin 11) t (ix2 (n0 := 1) (n1 := 2816) 0 j) = (m ((c : Thread nD τ).loc main_arg5) : S2816.Idx → EReal) (ix1 (n0 := 2816) j) := by
  refine (congrArg (V m c main_v6 : S1x2816.Idx → EReal) (emb7 t _)).trans ?_
  rw [V_v6]
  exact bias_at _ j
theorem blk8 (t : Fin cfg0.N) (j : Fin 1024) : iblk m c (8 : Fin 11) t (ix2 (n0 := 1) (n1 := 1024) 0 j) = (m ((c : Thread nD τ).loc main_arg7) : S1024.Idx → EReal) (ix1 (n0 := 1024) j) := by
  refine (congrArg (V m c main_v7 : S1x1024.Idx → EReal) (emb8 t _)).trans ?_
  rw [V_v7]
  exact gain_at _ j
theorem blk3 (t : Fin cfg0.N) : (iblk m c (3 : Fin 11) t : S1024x2816.Idx → EReal) = (m ((c : Thread nD τ).loc main_arg2) : S1024x2816.Idx → EReal) := by
  funext y
  refine (congrArg (V m c main_v3 : S1024x2816.Idx → EReal) (emb3 t y)).trans ?_
  rw [V_v3]
theorem blk4 (t : Fin cfg0.N) : (iblk m c (4 : Fin 11) t : S1024x2816.Idx → EReal) = (m ((c : Thread nD τ).loc main_arg3) : S1024x2816.Idx → EReal) := by
  funext y
  refine (congrArg (V m c main_v4 : S1024x2816.Idx → EReal) (emb4 t y)).trans ?_
  rw [V_v4]
theorem blk5 (t : Fin cfg0.N) : (iblk m c (5 : Fin 11) t : S2816x1024.Idx → EReal) = (m ((c : Thread nD τ).loc main_arg6) : S2816x1024.Idx → EReal) := by
  funext y
  refine (congrArg (V m c main_v5 : S2816x1024.Idx → EReal) (emb5 t y)).trans ?_
  rw [V_v5]
theorem blk6 (t : Fin cfg0.N) (k : Fin 8) (k' : Fin 3) (q : Fin 2816) (hk : k.val = k'.val) :
    iblk m c (6 : Fin 11) t (ix2 (n0 := 8) (n1 := 2816) k q) = (m ((c : Thread nD τ).loc main_arg4) : S3x2816.Idx → EReal) (ix2 (n0 := 3) (n1 := 2816) k' q) := by
  refine (congrArg (V m c main_v0 : S8x2816.Idx → EReal) (emb6 t _)).trans ?_
  rw [V_v0]
  exact pad_at _ _ k k' hk q

end Cert.Kernel3Ideal.Ffn

end
-- ==== Proof.Ffn.First.lean ====
/- The stores of a block that starts a batch entry: the carried rows are the given ones. -/
module

public import proofs.«01_k».proof.Proof.Ffn.Pieces
public import proofs.«01_k».proof.Proof.Gen.Kernel3Ideal.Frame

@[expose] public section

set_option maxRecDepth 16384

noncomputable section

namespace Cert.Kernel3Ideal.Ffn.First

open Cert.Kernel3Ideal Cert.Kernel3Ideal.Gen
open Idealize Idealize.ShloMosaic
open Idealize.ShloMosaic.TcCoe

variable (c : Dev nD) (i : grid0.Coords) (arg2 : Memref sig .tc .vmem S512x1024 .f32) (harg2 : arg2.IsWhole) (arg3 : Memref sig .tc .vmem S1x2x2816 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x2x2816 .f32) (harg12 : arg12.IsWhole) (arg13 : Memref sig .tc .vmem S1x2x2816 .f32) (harg13 : arg13.IsWhole) (arg14 : Memref sig .tc .vmem S11x1x520x256 .f32) (harg14 : arg14.IsWhole) (arg15 : Memref sig .tc .vmem S512x2816 .bf16) (harg15 : arg15.IsWhole) (hc0 : cond0_0 i)     (x0 : Vec Ideal S512x1024 .f32) (x1 : Vec Ideal S1x2x2816 .f32) (x2 : Vec Ideal S1x1024 .f32) (x3 : Vec Ideal S1024x2816 .bf16) (x4 : Vec Ideal S1024x2816 .bf16) (x5 : Vec Ideal S2816x1024 .bf16) (x6 : Vec Ideal S8x2816 .f32) (x7 : Vec Ideal S1x2816 .f32) (x8 : Vec Ideal S1x1024 .f32)
include c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8

theorem hs0 (y : S1x2x2816.Idx) : View.canon (kernelRun0_A.sl.HS0_1 (F := Ideal) c arg3 harg3 x1) y = x1 y := by
  unfold kernelRun0_A.sl.HS0_1
  rw [View.canon_unit_zero (by decide +kernel)]
  obtain ⟨e, q, rfl⟩ : ∃ (e : Fin 2) (q : Fin 2816), y = ix3 (n0 := 1) (n1 := 2) (n2 := 2816) 0 e q :=
    ⟨y 1, y 2, trip_ext (by have h : (y 0).val < 1 := (y 0).isLt; show (y 0).val = 0; omega) rfl rfl⟩
  exact (start_at _ e q).trans (rd3 harg3 x1 0 _ 0 e q 0 e q rfl rfl (by omega))
theorem hs1 (y : S1x2x2816.Idx) (hy : 256 ≤ (y 2).val) : View.canon (kernelRun0_A.sl.HS0_2 (F := Ideal) c arg2 harg2 arg3 harg3 arg4 harg4 arg5 harg5 arg13 arg14 x0 x1 x2 x3) y = x1 y := by
  unfold kernelRun0_A.sl.HS0_2
  exact (cut _ 0 _ _ y (by omega)).trans (hs0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)
theorem hs2 (y : S1x2x2816.Idx) (hy : 512 ≤ (y 2).val) : View.canon (kernelRun0_A.sl.HS0_3 (F := Ideal) c arg2 harg2 arg3 harg3 arg4 harg4 arg5 harg5 arg13 arg14 x0 x1 x2 x3) y = x1 y := by
  unfold kernelRun0_A.sl.HS0_3
  exact (cut _ 256 _ _ y (by omega)).trans (hs1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs3 (y : S1x2x2816.Idx) (hy : 768 ≤ (y 2).val) : View.canon (kernelRun0_A.sl.HS0_4 (F := Ideal) c arg2 harg2 arg3 harg3 arg4 harg4 arg5 harg5 arg13 arg14 x0 x1 x2 x3) y = x1 y := by
  unfold kernelRun0_A.sl.HS0_4
  exact (cut _ 512 _ _ y (by omega)).trans (hs2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs4 (y : S1x2x2816.Idx) (hy : 1024 ≤ (y 2).val) : View.canon (kernelRun0_A.sl.HS0_5 (F := Ideal) c arg2 harg2 arg3 harg3 arg4 harg4 arg5 harg5 arg13 arg14 x0 x1 x2 x3) y = x1 y := by
  unfold kernelRun0_A.sl.HS0_5
  exact (cut _ 768 _ _ y (by omega)).trans (hs3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs5 (y : S1x2x2816.Idx) (hy : 1280 ≤ (y 2).val) : View.canon (kernelRun0_A.sl.HS0_6 (F := Ideal) c arg2 harg2 arg3 harg3 arg4 harg4 arg5 harg5 arg13 arg14 x0 x1 x2 x3) y = x1 y := by
  unfold kernelRun0_A.sl.HS0_6
  exact (cut _ 1024 _ _ y (by omega)).trans (hs4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs6 (y : S1x2x2816.Idx) (hy : 1536 ≤ (y 2).val) : View.canon (kernelRun0_A.sl.HS0_7 (F := Ideal) c arg2 harg2 arg3 harg3 arg4 harg4 arg5 harg5 arg13 arg14 x0 x1 x2 x3) y = x1 y := by
  unfold kernelRun0_A.sl.HS0_7
  exact (cut _ 1280 _ _ y (by omega)).trans (hs5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs7 (y : S1x2x2816.Idx) (hy : 1792 ≤ (y 2).val) : View.canon (kernelRun0_A.sl.HS0_8 (F := Ideal) c arg2 harg2 arg3 harg3 arg4 harg4 arg5 harg5 arg13 arg14 x0 x1 x2 x3) y = x1 y := by
  unfold kernelRun0_A.sl.HS0_8
  exact (cut _ 1536 _ _ y (by omega)).trans (hs6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs8 (y : S1x2x2816.Idx) (hy : 2048 ≤ (y 2).val) : View.canon (kernelRun0_A.sl.HS0_9 (F := Ideal) c arg2 harg2 arg3 harg3 arg4 harg4 arg5 harg5 arg13 arg14 x0 x1 x2 x3) y = x1 y := by
  unfold kernelRun0_A.sl.HS0_9
  exact (cut _ 1792 _ _ y (by omega)).trans (hs7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs9 (y : S1x2x2816.Idx) (hy : 2304 ≤ (y 2).val) : View.canon (kernelRun0_A.sl.HS0_10 (F := Ideal) c arg2 harg2 arg3 harg3 arg4 harg4 arg5 harg5 arg13 arg14 x0 x1 x2 x3) y = x1 y := by
  unfold kernelRun0_A.sl.HS0_10
  exact (cut _ 2048 _ _ y (by omega)).trans (hs8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hs10 (y : S1x2x2816.Idx) (hy : 2560 ≤ (y 2).val) : View.canon (kernelRun0_A.sl.HS0_11 (F := Ideal) c arg2 harg2 arg3 harg3 arg4 harg4 arg5 harg5 arg13 arg14 x0 x1 x2 x3) y = x1 y := by
  unfold kernelRun0_A.sl.HS0_11
  exact (cut _ 2304 _ _ y (by omega)).trans (hs9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y (by omega))
theorem hal0 (e : Fin 2) (l : Fin 256) : kernelRun0_A.sl.v28 (F := Ideal) c arg3 harg3 arg13 x1 (ix3 (n0 := 1) (n1 := 2) (n2 := 256) 0 e l) = x1 (ix3 (n0 := 1) (n1 := 2) (n2 := 2816) 0 e (col ⟨0, by norm_num⟩ l)) := by
  unfold kernelRun0_A.sl.v28
  rw [View.readCov_eq_canon']
  refine (hs0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _).trans (congrArg x1 (trip_ext rfl ?_ ?_))
  · show 0 + 1 * e.val = e.val; omega
  · show 0 + 1 * l.val = 256 * 0 + l.val; omega
theorem hal1 (e : Fin 2) (l : Fin 256) : kernelRun0_A.sl.v82 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨1, by norm_num⟩ l)) := by
  unfold kernelRun0_A.sl.v82
  rw [View.readCov_eq_canon']
  refine (hs1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 256 ≤ 256 + 1 * l.val; omega)).trans (congrArg x1 (trip_ext rfl ?_ ?_))
  · show 0 + 1 * e.val = e.val; omega
  · show 256 + 1 * l.val = 256 * 1 + l.val; omega
theorem hal2 (e : Fin 2) (l : Fin 256) : kernelRun0_A.sl.v136 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨2, by norm_num⟩ l)) := by
  unfold kernelRun0_A.sl.v136
  rw [View.readCov_eq_canon']
  refine (hs2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 512 ≤ 512 + 1 * l.val; omega)).trans (congrArg x1 (trip_ext rfl ?_ ?_))
  · show 0 + 1 * e.val = e.val; omega
  · show 512 + 1 * l.val = 256 * 2 + l.val; omega
theorem hal3 (e : Fin 2) (l : Fin 256) : kernelRun0_A.sl.v190 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨3, by norm_num⟩ l)) := by
  unfold kernelRun0_A.sl.v190
  rw [View.readCov_eq_canon']
  refine (hs3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 768 ≤ 768 + 1 * l.val; omega)).trans (congrArg x1 (trip_ext rfl ?_ ?_))
  · show 0 + 1 * e.val = e.val; omega
  · show 768 + 1 * l.val = 256 * 3 + l.val; omega
theorem hal4 (e : Fin 2) (l : Fin 256) : kernelRun0_A.sl.v244 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨4, by norm_num⟩ l)) := by
  unfold kernelRun0_A.sl.v244
  rw [View.readCov_eq_canon']
  refine (hs4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 1024 ≤ 1024 + 1 * l.val; omega)).trans (congrArg x1 (trip_ext rfl ?_ ?_))
  · show 0 + 1 * e.val = e.val; omega
  · show 1024 + 1 * l.val = 256 * 4 + l.val; omega
theorem hal5 (e : Fin 2) (l : Fin 256) : kernelRun0_A.sl.v298 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨5, by norm_num⟩ l)) := by
  unfold kernelRun0_A.sl.v298
  rw [View.readCov_eq_canon']
  refine (hs5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 1280 ≤ 1280 + 1 * l.val; omega)).trans (congrArg x1 (trip_ext rfl ?_ ?_))
  · show 0 + 1 * e.val = e.val; omega
  · show 1280 + 1 * l.val = 256 * 5 + l.val; omega
theorem hal6 (e : Fin 2) (l : Fin 256) : kernelRun0_A.sl.v352 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨6, by norm_num⟩ l)) := by
  unfold kernelRun0_A.sl.v352
  rw [View.readCov_eq_canon']
  refine (hs6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 1536 ≤ 1536 + 1 * l.val; omega)).trans (congrArg x1 (trip_ext rfl ?_ ?_))
  · show 0 + 1 * e.val = e.val; omega
  · show 1536 + 1 * l.val = 256 * 6 + l.val; omega
theorem hal7 (e : Fin 2) (l : Fin 256) : kernelRun0_A.sl.v406 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨7, by norm_num⟩ l)) := by
  unfold kernelRun0_A.sl.v406
  rw [View.readCov_eq_canon']
  refine (hs7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 1792 ≤ 1792 + 1 * l.val; omega)).trans (congrArg x1 (trip_ext rfl ?_ ?_))
  · show 0 + 1 * e.val = e.val; omega
  · show 1792 + 1 * l.val = 256 * 7 + l.val; omega
theorem hal8 (e : Fin 2) (l : Fin 256) : kernelRun0_A.sl.v460 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨8, by norm_num⟩ l)) := by
  unfold kernelRun0_A.sl.v460
  rw [View.readCov_eq_canon']
  refine (hs8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 2048 ≤ 2048 + 1 * l.val; omega)).trans (congrArg x1 (trip_ext rfl ?_ ?_))
  · show 0 + 1 * e.val = e.val; omega
  · show 2048 + 1 * l.val = 256 * 8 + l.val; omega
theorem hal9 (e : Fin 2) (l : Fin 256) : kernelRun0_A.sl.v514 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨9, by norm_num⟩ l)) := by
  unfold kernelRun0_A.sl.v514
  rw [View.readCov_eq_canon']
  refine (hs9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 2304 ≤ 2304 + 1 * l.val; omega)).trans (congrArg x1 (trip_ext rfl ?_ ?_))
  · show 0 + 1 * e.val = e.val; omega
  · show 2304 + 1 * l.val = 256 * 9 + l.val; omega
theorem hal10 (e : Fin 2) (l : Fin 256) : kernelRun0_A.sl.v568 (F := Ideal) c arg2 harg2 arg3 harg3 arg4 harg4 arg5 harg5 arg13 arg14 x0 x1 x2 x3 (ix3 (n0 := 1) (n1 := 2) (n2 := 256) 0 e l) = x1 (ix3 (n0 := 1) (n1 := 2) (n2 := 2816) 0 e (col ⟨10, by norm_num⟩ l)) := by
  unfold kernelRun0_A.sl.v568
  rw [View.readCov_eq_canon']
  refine (hs10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 _ (by show 2560 ≤ 2560 + 1 * l.val; omega)).trans (congrArg x1 (trip_ext rfl ?_ ?_))
  · show 0 + 1 * e.val = e.val; omega
  · show 2560 + 1 * l.val = 256 * 10 + l.val; omega
theorem st0 : Of (stage (kernelRun0_A.sl.r_1 (F := Ideal) c arg2 harg2 arg4 harg4 x0 x2) x3 x1) (kernelRun0_A.sl.HS1_2 (F := Ideal) c arg2 harg2 arg3 harg3 arg4 harg4 arg5 harg5 arg13 x0 x1 x2 x3) := by
  unfold kernelRun0_A.sl.HS1_2
  exact Of.cons (fun x => put512 ⟨0, by norm_num⟩ inb_S11x1x520x256_S1x1x512x256_0_0_8_0 _ rfl (View.readAt (Elt Ideal) arg5.view (Rect.unit (s := S1024x2816) ![0, 0] S1024x256.size inb_S1024x2816_S1024x256_0_0).toLoadRect (harg5.unread x3)) (fun j l => rd2 harg5 x3 0 0 _ j l j (col ⟨0, by norm_num⟩ l) (Nat.zero_add _).symm (by show 256 * 0 + l.val = 0 + l.val; omega)) x)
    (Of.cons (fun x => put2 ⟨0, by norm_num⟩ inb_S11x1x520x256_S1x1x2x256_0_0_6_0 (kernelRun0_A.sl.v28 (F := Ideal) c arg3 harg3 arg13 x1) (fun e l => hal0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) (Of.nil _))
theorem rd_v38 (r : Fin 512) (l : Fin 256) : kernelRun0_A.sl.v38 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨0, by norm_num⟩ l) :=
  load arg14.view ⟨0, by norm_num⟩ 6 512 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v44 (r : Fin 512) (l : Fin 256) : kernelRun0_A.sl.v44 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨0, by norm_num⟩ l) :=
  load arg14.view ⟨0, by norm_num⟩ 7 512 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v68 (r : Fin 2) (l : Fin 256) : kernelRun0_A.sl.v68 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨0, by norm_num⟩ l) :=
  load arg14.view ⟨0, by norm_num⟩ 518 2 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st1 : Of (stage (kernelRun0_A.sl.r_1 (F := Ideal) c arg2 harg2 arg4 harg4 x0 x2) x3 x1) (kernelRun0_A.sl.HS1_4 (F := Ideal) c arg2 harg2 arg3 harg3 arg4 harg4 arg5 harg5 arg13 arg14 x0 x1 x2 x3) := by
  unfold kernelRun0_A.sl.HS1_4
  exact Of.cons (fun x => put512 ⟨1, by norm_num⟩ inb_S11x1x520x256_S1x1x512x256_1_0_8_0 _ rfl (View.readAt (Elt Ideal) arg5.view (Rect.unit (s := S1024x2816) ![0, 256] S1024x256.size inb_S1024x2816_S1024x256_0_256).toLoadRect (harg5.unread x3)) (fun j l => rd2 harg5 x3 0 256 _ j l j (col ⟨1, by norm_num⟩ l) (Nat.zero_add _).symm (by show 256 * 1 + l.val = 256 + l.val; omega)) x)
    (Of.cons (fun x => put2 ⟨1, by norm_num⟩ inb_S11x1x520x256_S1x1x2x256_1_0_6_0 (kernelRun0_A.sl.v82 (F := Ideal) c arg2 harg2 arg3 harg3 arg4 harg4 arg5 harg5 arg13 arg14 x0 x1 x2 x3) (fun e l => hal1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v92 (r : Fin 512) (l : Fin 256) : kernelRun0_A.sl.v92 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨1, by norm_num⟩ l) :=
  load arg14.view ⟨1, by norm_num⟩ 6 512 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v98 (r : Fin 512) (l : Fin 256) : kernelRun0_A.sl.v98 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨1, by norm_num⟩ l) :=
  load arg14.view ⟨1, by norm_num⟩ 7 512 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v122 (r : Fin 2) (l : Fin 256) : kernelRun0_A.sl.v122 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨1, by norm_num⟩ l) :=
  load arg14.view ⟨1, by norm_num⟩ 518 2 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st2 : Of (stage (kernelRun0_A.sl.r_1 (F := Ideal) c arg2 harg2 arg4 harg4 x0 x2) x3 x1) (kernelRun0_A.sl.HS1_6 (F := Ideal) c arg2 harg2 arg3 harg3 arg4 harg4 arg5 harg5 arg13 arg14 x0 x1 x2 x3) := by
  unfold kernelRun0_A.sl.HS1_6
  exact Of.cons (fun x => put512 ⟨2, by norm_num⟩ inb_S11x1x520x256_S1x1x512x256_2_0_8_0 _ rfl (View.readAt (Elt Ideal) arg5.view (Rect.unit (s := S1024x2816) ![0, 512] S1024x256.size inb_S1024x2816_S1024x256_0_512).toLoadRect (harg5.unread x3)) (fun j l => rd2 harg5 x3 0 512 _ j l j (col ⟨2, by norm_num⟩ l) (Nat.zero_add _).symm (by show 256 * 2 + l.val = 512 + l.val; omega)) x)
    (Of.cons (fun x => put2 ⟨2, by norm_num⟩ inb_S11x1x520x256_S1x1x2x256_2_0_6_0 (kernelRun0_A.sl.v136 (F := Ideal) c arg2 harg2 arg3 harg3 arg4 harg4 arg5 harg5 arg13 arg14 x0 x1 x2 x3) (fun e l => hal2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v146 (r : Fin 512) (l : Fin 256) : kernelRun0_A.sl.v146 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨2, by norm_num⟩ l) :=
  load arg14.view ⟨2, by norm_num⟩ 6 512 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v152 (r : Fin 512) (l : Fin 256) : kernelRun0_A.sl.v152 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨2, by norm_num⟩ l) :=
  load arg14.view ⟨2, by norm_num⟩ 7 512 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v176 (r : Fin 2) (l : Fin 256) : kernelRun0_A.sl.v176 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨2, by norm_num⟩ l) :=
  load arg14.view ⟨2, by norm_num⟩ 518 2 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st3 : Of (stage (kernelRun0_A.sl.r_1 (F := Ideal) c arg2 harg2 arg4 harg4 x0 x2) x3 x1) (kernelRun0_A.sl.HS1_8 (F := Ideal) c arg2 harg2 arg3 harg3 arg4 harg4 arg5 harg5 arg13 arg14 x0 x1 x2 x3) := by
  unfold kernelRun0_A.sl.HS1_8
  exact Of.cons (fun x => put512 ⟨3, by norm_num⟩ inb_S11x1x520x256_S1x1x512x256_3_0_8_0 _ rfl (View.readAt (Elt Ideal) arg5.view (Rect.unit (s := S1024x2816) ![0, 768] S1024x256.size inb_S1024x2816_S1024x256_0_768).toLoadRect (harg5.unread x3)) (fun j l => rd2 harg5 x3 0 768 _ j l j (col ⟨3, by norm_num⟩ l) (Nat.zero_add _).symm (by show 256 * 3 + l.val = 768 + l.val; omega)) x)
    (Of.cons (fun x => put2 ⟨3, by norm_num⟩ inb_S11x1x520x256_S1x1x2x256_3_0_6_0 (kernelRun0_A.sl.v190 (F := Ideal) c arg2 harg2 arg3 harg3 arg4 harg4 arg5 harg5 arg13 arg14 x0 x1 x2 x3) (fun e l => hal3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v200 (r : Fin 512) (l : Fin 256) : kernelRun0_A.sl.v200 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨3, by norm_num⟩ l) :=
  load arg14.view ⟨3, by norm_num⟩ 6 512 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v206 (r : Fin 512) (l : Fin 256) : kernelRun0_A.sl.v206 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨3, by norm_num⟩ l) :=
  load arg14.view ⟨3, by norm_num⟩ 7 512 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v230 (r : Fin 2) (l : Fin 256) : kernelRun0_A.sl.v230 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨3, by norm_num⟩ l) :=
  load arg14.view ⟨3, by norm_num⟩ 518 2 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st4 : Of (stage (kernelRun0_A.sl.r_1 (F := Ideal) c arg2 harg2 arg4 harg4 x0 x2) x3 x1) (kernelRun0_A.sl.HS1_10 (F := Ideal) c arg2 harg2 arg3 harg3 arg4 harg4 arg5 harg5 arg13 arg14 x0 x1 x2 x3) := by
  unfold kernelRun0_A.sl.HS1_10
  exact Of.cons (fun x => put512 ⟨4, by norm_num⟩ inb_S11x1x520x256_S1x1x512x256_4_0_8_0 _ rfl (View.readAt (Elt Ideal) arg5.view (Rect.unit (s := S1024x2816) ![0, 1024] S1024x256.size inb_S1024x2816_S1024x256_0_1024).toLoadRect (harg5.unread x3)) (fun j l => rd2 harg5 x3 0 1024 _ j l j (col ⟨4, by norm_num⟩ l) (Nat.zero_add _).symm (by show 256 * 4 + l.val = 1024 + l.val; omega)) x)
    (Of.cons (fun x => put2 ⟨4, by norm_num⟩ inb_S11x1x520x256_S1x1x2x256_4_0_6_0 (kernelRun0_A.sl.v244 (F := Ideal) c arg2 harg2 arg3 harg3 arg4 harg4 arg5 harg5 arg13 arg14 x0 x1 x2 x3) (fun e l => hal4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v254 (r : Fin 512) (l : Fin 256) : kernelRun0_A.sl.v254 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨4, by norm_num⟩ l) :=
  load arg14.view ⟨4, by norm_num⟩ 6 512 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v260 (r : Fin 512) (l : Fin 256) : kernelRun0_A.sl.v260 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨4, by norm_num⟩ l) :=
  load arg14.view ⟨4, by norm_num⟩ 7 512 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v284 (r : Fin 2) (l : Fin 256) : kernelRun0_A.sl.v284 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨4, by norm_num⟩ l) :=
  load arg14.view ⟨4, by norm_num⟩ 518 2 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st5 : Of (stage (kernelRun0_A.sl.r_1 (F := Ideal) c arg2 harg2 arg4 harg4 x0 x2) x3 x1) (kernelRun0_A.sl.HS1_12 (F := Ideal) c arg2 harg2 arg3 harg3 arg4 harg4 arg5 harg5 arg13 arg14 x0 x1 x2 x3) := by
  unfold kernelRun0_A.sl.HS1_12
  exact Of.cons (fun x => put512 ⟨5, by norm_num⟩ inb_S11x1x520x256_S1x1x512x256_5_0_8_0 _ rfl (View.readAt (Elt Ideal) arg5.view (Rect.unit (s := S1024x2816) ![0, 1280] S1024x256.size inb_S1024x2816_S1024x256_0_1280).toLoadRect (harg5.unread x3)) (fun j l => rd2 harg5 x3 0 1280 _ j l j (col ⟨5, by norm_num⟩ l) (Nat.zero_add _).symm (by show 256 * 5 + l.val = 1280 + l.val; omega)) x)
    (Of.cons (fun x => put2 ⟨5, by norm_num⟩ inb_S11x1x520x256_S1x1x2x256_5_0_6_0 (kernelRun0_A.sl.v298 (F := Ideal) c arg2 harg2 arg3 harg3 arg4 harg4 arg5 harg5 arg13 arg14 x0 x1 x2 x3) (fun e l => hal5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v308 (r : Fin 512) (l : Fin 256) : kernelRun0_A.sl.v308 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨5, by norm_num⟩ l) :=
  load arg14.view ⟨5, by norm_num⟩ 6 512 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v314 (r : Fin 512) (l : Fin 256) : kernelRun0_A.sl.v314 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨5, by norm_num⟩ l) :=
  load arg14.view ⟨5, by norm_num⟩ 7 512 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v338 (r : Fin 2) (l : Fin 256) : kernelRun0_A.sl.v338 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨5, by norm_num⟩ l) :=
  load arg14.view ⟨5, by norm_num⟩ 518 2 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st6 : Of (stage (kernelRun0_A.sl.r_1 (F := Ideal) c arg2 harg2 arg4 harg4 x0 x2) x3 x1) (kernelRun0_A.sl.HS1_14 (F := Ideal) c arg2 harg2 arg3 harg3 arg4 harg4 arg5 harg5 arg13 arg14 x0 x1 x2 x3) := by
  unfold kernelRun0_A.sl.HS1_14
  exact Of.cons (fun x => put512 ⟨6, by norm_num⟩ inb_S11x1x520x256_S1x1x512x256_6_0_8_0 _ rfl (View.readAt (Elt Ideal) arg5.view (Rect.unit (s := S1024x2816) ![0, 1536] S1024x256.size inb_S1024x2816_S1024x256_0_1536).toLoadRect (harg5.unread x3)) (fun j l => rd2 harg5 x3 0 1536 _ j l j (col ⟨6, by norm_num⟩ l) (Nat.zero_add _).symm (by show 256 * 6 + l.val = 1536 + l.val; omega)) x)
    (Of.cons (fun x => put2 ⟨6, by norm_num⟩ inb_S11x1x520x256_S1x1x2x256_6_0_6_0 (kernelRun0_A.sl.v352 (F := Ideal) c arg2 harg2 arg3 harg3 arg4 harg4 arg5 harg5 arg13 arg14 x0 x1 x2 x3) (fun e l => hal6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v362 (r : Fin 512) (l : Fin 256) : kernelRun0_A.sl.v362 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨6, by norm_num⟩ l) :=
  load arg14.view ⟨6, by norm_num⟩ 6 512 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v368 (r : Fin 512) (l : Fin 256) : kernelRun0_A.sl.v368 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨6, by norm_num⟩ l) :=
  load arg14.view ⟨6, by norm_num⟩ 7 512 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v392 (r : Fin 2) (l : Fin 256) : kernelRun0_A.sl.v392 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨6, by norm_num⟩ l) :=
  load arg14.view ⟨6, by norm_num⟩ 518 2 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st7 : Of (stage (kernelRun0_A.sl.r_1 (F := Ideal) c arg2 harg2 arg4 harg4 x0 x2) x3 x1) (kernelRun0_A.sl.HS1_16 (F := Ideal) c arg2 harg2 arg3 harg3 arg4 harg4 arg5 harg5 arg13 arg14 x0 x1 x2 x3) := by
  unfold kernelRun0_A.sl.HS1_16
  exact Of.cons (fun x => put512 ⟨7, by norm_num⟩ inb_S11x1x520x256_S1x1x512x256_7_0_8_0 _ rfl (View.readAt (Elt Ideal) arg5.view (Rect.unit (s := S1024x2816) ![0, 1792] S1024x256.size inb_S1024x2816_S1024x256_0_1792).toLoadRect (harg5.unread x3)) (fun j l => rd2 harg5 x3 0 1792 _ j l j (col ⟨7, by norm_num⟩ l) (Nat.zero_add _).symm (by show 256 * 7 + l.val = 1792 + l.val; omega)) x)
    (Of.cons (fun x => put2 ⟨7, by norm_num⟩ inb_S11x1x520x256_S1x1x2x256_7_0_6_0 (kernelRun0_A.sl.v406 (F := Ideal) c arg2 harg2 arg3 harg3 arg4 harg4 arg5 harg5 arg13 arg14 x0 x1 x2 x3) (fun e l => hal7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v416 (r : Fin 512) (l : Fin 256) : kernelRun0_A.sl.v416 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨7, by norm_num⟩ l) :=
  load arg14.view ⟨7, by norm_num⟩ 6 512 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v422 (r : Fin 512) (l : Fin 256) : kernelRun0_A.sl.v422 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨7, by norm_num⟩ l) :=
  load arg14.view ⟨7, by norm_num⟩ 7 512 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v446 (r : Fin 2) (l : Fin 256) : kernelRun0_A.sl.v446 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨7, by norm_num⟩ l) :=
  load arg14.view ⟨7, by norm_num⟩ 518 2 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st8 : Of (stage (kernelRun0_A.sl.r_1 (F := Ideal) c arg2 harg2 arg4 harg4 x0 x2) x3 x1) (kernelRun0_A.sl.HS1_18 (F := Ideal) c arg2 harg2 arg3 harg3 arg4 harg4 arg5 harg5 arg13 arg14 x0 x1 x2 x3) := by
  unfold kernelRun0_A.sl.HS1_18
  exact Of.cons (fun x => put512 ⟨8, by norm_num⟩ inb_S11x1x520x256_S1x1x512x256_8_0_8_0 _ rfl (View.readAt (Elt Ideal) arg5.view (Rect.unit (s := S1024x2816) ![0, 2048] S1024x256.size inb_S1024x2816_S1024x256_0_2048).toLoadRect (harg5.unread x3)) (fun j l => rd2 harg5 x3 0 2048 _ j l j (col ⟨8, by norm_num⟩ l) (Nat.zero_add _).symm (by show 256 * 8 + l.val = 2048 + l.val; omega)) x)
    (Of.cons (fun x => put2 ⟨8, by norm_num⟩ inb_S11x1x520x256_S1x1x2x256_8_0_6_0 (kernelRun0_A.sl.v460 (F := Ideal) c arg2 harg2 arg3 harg3 arg4 harg4 arg5 harg5 arg13 arg14 x0 x1 x2 x3) (fun e l => hal8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v470 (r : Fin 512) (l : Fin 256) : kernelRun0_A.sl.v470 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨8, by norm_num⟩ l) :=
  load arg14.view ⟨8, by norm_num⟩ 6 512 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v476 (r : Fin 512) (l : Fin 256) : kernelRun0_A.sl.v476 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨8, by norm_num⟩ l) :=
  load arg14.view ⟨8, by norm_num⟩ 7 512 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v500 (r : Fin 2) (l : Fin 256) : kernelRun0_A.sl.v500 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨8, by norm_num⟩ l) :=
  load arg14.view ⟨8, by norm_num⟩ 518 2 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st9 : Of (stage (kernelRun0_A.sl.r_1 (F := Ideal) c arg2 harg2 arg4 harg4 x0 x2) x3 x1) (kernelRun0_A.sl.HS1_20 (F := Ideal) c arg2 harg2 arg3 harg3 arg4 harg4 arg5 harg5 arg13 arg14 x0 x1 x2 x3) := by
  unfold kernelRun0_A.sl.HS1_20
  exact Of.cons (fun x => put512 ⟨9, by norm_num⟩ inb_S11x1x520x256_S1x1x512x256_9_0_8_0 _ rfl (View.readAt (Elt Ideal) arg5.view (Rect.unit (s := S1024x2816) ![0, 2304] S1024x256.size inb_S1024x2816_S1024x256_0_2304).toLoadRect (harg5.unread x3)) (fun j l => rd2 harg5 x3 0 2304 _ j l j (col ⟨9, by norm_num⟩ l) (Nat.zero_add _).symm (by show 256 * 9 + l.val = 2304 + l.val; omega)) x)
    (Of.cons (fun x => put2 ⟨9, by norm_num⟩ inb_S11x1x520x256_S1x1x2x256_9_0_6_0 (kernelRun0_A.sl.v514 (F := Ideal) c arg2 harg2 arg3 harg3 arg4 harg4 arg5 harg5 arg13 arg14 x0 x1 x2 x3) (fun e l => hal9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v524 (r : Fin 512) (l : Fin 256) : kernelRun0_A.sl.v524 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨9, by norm_num⟩ l) :=
  load arg14.view ⟨9, by norm_num⟩ 6 512 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v530 (r : Fin 512) (l : Fin 256) : kernelRun0_A.sl.v530 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨9, by norm_num⟩ l) :=
  load arg14.view ⟨9, by norm_num⟩ 7 512 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v554 (r : Fin 2) (l : Fin 256) : kernelRun0_A.sl.v554 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨9, by norm_num⟩ l) :=
  load arg14.view ⟨9, by norm_num⟩ 518 2 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem st10 : Of (stage (kernelRun0_A.sl.r_1 (F := Ideal) c arg2 harg2 arg4 harg4 x0 x2) x3 x1) (kernelRun0_A.sl.HS1_22 (F := Ideal) c arg2 harg2 arg3 harg3 arg4 harg4 arg5 harg5 arg13 arg14 x0 x1 x2 x3) := by
  unfold kernelRun0_A.sl.HS1_22
  exact Of.cons (fun x => put512 ⟨10, by norm_num⟩ inb_S11x1x520x256_S1x1x512x256_10_0_8_0 _ rfl (View.readAt (Elt Ideal) arg5.view (Rect.unit (s := S1024x2816) ![0, 2560] S1024x256.size inb_S1024x2816_S1024x256_0_2560).toLoadRect (harg5.unread x3)) (fun j l => rd2 harg5 x3 0 2560 _ j l j (col ⟨10, by norm_num⟩ l) (Nat.zero_add _).symm (by show 256 * 10 + l.val = 2560 + l.val; omega)) x)
    (Of.cons (fun x => put2 ⟨10, by norm_num⟩ inb_S11x1x520x256_S1x1x2x256_10_0_6_0 (kernelRun0_A.sl.v568 (F := Ideal) c arg2 harg2 arg3 harg3 arg4 harg4 arg5 harg5 arg13 arg14 x0 x1 x2 x3) (fun e l => hal10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) x) ((st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)))
theorem rd_v578 (r : Fin 512) (l : Fin 256) : kernelRun0_A.sl.v578 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (6 - 6 + r.val) (col ⟨10, by norm_num⟩ l) :=
  load arg14.view ⟨10, by norm_num⟩ 6 512 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v584 (r : Fin 512) (l : Fin 256) : kernelRun0_A.sl.v584 (F := Ideal) c arg2 harg2 arg3 harg3 arg4 harg4 arg5 harg5 arg13 arg14 x0 x1 x2 x3 (ix4 (n0 := 1) (n1 := 1) (n2 := 512) (n3 := 256) 0 0 r l) = tap (kernelRun0_A.sl.r_1 (F := Ideal) c arg2 harg2 arg4 harg4 x0 x2) x3 x1 (7 - 6 + r.val) (col ⟨10, by norm_num⟩ l) :=
  load arg14.view ⟨10, by norm_num⟩ 7 512 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem rd_v608 (r : Fin 2) (l : Fin 256) : kernelRun0_A.sl.v608 (F := Ideal) c arg2 harg2 arg3 harg3 arg4 harg4 arg5 harg5 arg13 arg14 x0 x1 x2 x3 (ix4 (n0 := 1) (n1 := 1) (n2 := 2) (n3 := 256) 0 0 r l) = tap (kernelRun0_A.sl.r_1 (F := Ideal) c arg2 harg2 arg4 harg4 x0 x2) x3 x1 (518 - 6 + r.val) (col ⟨10, by norm_num⟩ l) :=
  load arg14.view ⟨10, by norm_num⟩ 518 2 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8) _ (by norm_num) r l
theorem ac10 (x : S512x256.Idx) : (k0_pay93 (kernelRun0_A.sl.r_38 (F := Ideal) c arg2 harg2 arg4 harg4 arg5 harg5 x0 x2 x3) (kernelRun0_A.sl.r_39 (F := Ideal) c arg2 harg2 arg4 harg4 arg6 harg6 x0 x2 x4) (kernelRun0_A.sl.r_40 (F := Ideal) c arg8 harg8 x6) (kernelRun0_A.sl.r_41 (F := Ideal) c arg2 harg2 arg3 harg3 arg4 harg4 arg5 harg5 arg8 harg8 arg13 arg14 x0 x1 x2 x3 x6) (kernelRun0_A.sl.v584 (F := Ideal) c arg2 harg2 arg3 harg3 arg4 harg4 arg5 harg5 arg13 arg14 x0 x1 x2 x3) (View.readAt (Elt Ideal) arg9.view (Rect.unit (s := S1x2816) ![0, 2560] S1x256.size inb_S1x2816_S1x256_0_2560).toLoadRect (harg9.unread x7))) x = act (kernelRun0_A.sl.r_1 (F := Ideal) c arg2 harg2 arg4 harg4 x0 x2) x3 x4 x6 x7 x1 ((Rect.unit (s := S512x2816) ![0, 2560] S512x256.size inb_S512x2816_S512x256_0_2560).emb x) :=
  putAct ⟨10, by norm_num⟩ 2560 rfl inb_S512x2816_S512x256_0_2560 (kernelRun0_A.sl.r_1 (F := Ideal) c arg2 harg2 arg4 harg4 x0 x2) rfl (View.readAt (Elt Ideal) arg5.view (Rect.unit (s := S1024x2816) ![0, 2560] S1024x256.size inb_S1024x2816_S1024x256_0_2560).toLoadRect (harg5.unread x3)) (View.readAt (Elt Ideal) arg6.view (Rect.unit (s := S1024x2816) ![0, 2560] S1024x256.size inb_S1024x2816_S1024x256_0_2560).toLoadRect (harg6.unread x4)) (fun j l => rd2 harg5 x3 0 2560 _ j l j (col ⟨10, by norm_num⟩ l) (Nat.zero_add _).symm (by show 256 * 10 + l.val = 2560 + l.val; omega)) (fun j l => rd2 harg6 x4 0 2560 _ j l j (col ⟨10, by norm_num⟩ l) (Nat.zero_add _).symm (by show 256 * 10 + l.val = 2560 + l.val; omega)) (View.readAt (Elt Ideal) arg8.view (Rect.unit (s := S8x2816) ![0, 2560] S8x256.size inb_S8x2816_S8x256_0_2560).toLoadRect (harg8.unread x6)) (fun j l => rd2 harg8 x6 0 2560 _ j l j (col ⟨10, by norm_num⟩ l) (Nat.zero_add _).symm (by show 256 * 10 + l.val = 2560 + l.val; omega))
    (kernelRun0_A.sl.v578 (F := Ideal) c arg2 harg2 arg3 harg3 arg4 harg4 arg5 harg5 arg13 arg14 x0 x1 x2 x3) (kernelRun0_A.sl.v584 (F := Ideal) c arg2 harg2 arg3 harg3 arg4 harg4 arg5 harg5 arg13 arg14 x0 x1 x2 x3) (fun r l => rd_v578 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v584 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 2560] S1x256.size inb_S1x2816_S1x256_0_2560).toLoadRect (harg9.unread x7)) (fun j l => rd2 harg9 x7 0 2560 _ j l j (col ⟨10, by norm_num⟩ l) (Nat.zero_add _).symm (by show 256 * 10 + l.val = 2560 + l.val; omega)) x
theorem ac9 (x : S512x256.Idx) : (k0_pay84 (kernelRun0_A.sl.r_35 (F := Ideal) c arg2 harg2 arg4 harg4 arg5 harg5 x0 x2 x3) (kernelRun0_A.sl.r_36 (F := Ideal) c arg2 harg2 arg4 harg4 arg6 harg6 x0 x2 x4) (View.readAt (Elt Ideal) arg8.view (Rect.unit (s := S8x2816) ![0, 2304] S8x256.size inb_S8x2816_S8x256_0_2304).toLoadRect (harg8.unread x6)) (kernelRun0_A.sl.v524 (F := Ideal) c arg2 harg2 arg3 harg3 arg4 harg4 arg5 harg5 arg13 arg14 x0 x1 x2 x3) (kernelRun0_A.sl.v530 (F := Ideal) c arg2 harg2 arg3 harg3 arg4 harg4 arg5 harg5 arg13 arg14 x0 x1 x2 x3) (View.readAt (Elt Ideal) arg9.view (Rect.unit (s := S1x2816) ![0, 2304] S1x256.size inb_S1x2816_S1x256_0_2304).toLoadRect (harg9.unread x7))) x = act (kernelRun0_A.sl.r_1 (F := Ideal) c arg2 harg2 arg4 harg4 x0 x2) x3 x4 x6 x7 x1 ((Rect.unit (s := S512x2816) ![0, 2304] S512x256.size inb_S512x2816_S512x256_0_2304).emb x) :=
  putAct ⟨9, by norm_num⟩ 2304 rfl inb_S512x2816_S512x256_0_2304 (kernelRun0_A.sl.r_1 (F := Ideal) c arg2 harg2 arg4 harg4 x0 x2) rfl (View.readAt (Elt Ideal) arg5.view (Rect.unit (s := S1024x2816) ![0, 2304] S1024x256.size inb_S1024x2816_S1024x256_0_2304).toLoadRect (harg5.unread x3)) (View.readAt (Elt Ideal) arg6.view (Rect.unit (s := S1024x2816) ![0, 2304] S1024x256.size inb_S1024x2816_S1024x256_0_2304).toLoadRect (harg6.unread x4)) (fun j l => rd2 harg5 x3 0 2304 _ j l j (col ⟨9, by norm_num⟩ l) (Nat.zero_add _).symm (by show 256 * 9 + l.val = 2304 + l.val; omega)) (fun j l => rd2 harg6 x4 0 2304 _ j l j (col ⟨9, by norm_num⟩ l) (Nat.zero_add _).symm (by show 256 * 9 + l.val = 2304 + l.val; omega)) (View.readAt (Elt Ideal) arg8.view (Rect.unit (s := S8x2816) ![0, 2304] S8x256.size inb_S8x2816_S8x256_0_2304).toLoadRect (harg8.unread x6)) (fun j l => rd2 harg8 x6 0 2304 _ j l j (col ⟨9, by norm_num⟩ l) (Nat.zero_add _).symm (by show 256 * 9 + l.val = 2304 + l.val; omega))
    (kernelRun0_A.sl.v524 (F := Ideal) c arg2 harg2 arg3 harg3 arg4 harg4 arg5 harg5 arg13 arg14 x0 x1 x2 x3) (kernelRun0_A.sl.v530 (F := Ideal) c arg2 harg2 arg3 harg3 arg4 harg4 arg5 harg5 arg13 arg14 x0 x1 x2 x3) (fun r l => rd_v524 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v530 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 2304] S1x256.size inb_S1x2816_S1x256_0_2304).toLoadRect (harg9.unread x7)) (fun j l => rd2 harg9 x7 0 2304 _ j l j (col ⟨9, by norm_num⟩ l) (Nat.zero_add _).symm (by show 256 * 9 + l.val = 2304 + l.val; omega)) x
theorem ac8 (x : S512x256.Idx) : (k0_pay77 (kernelRun0_A.sl.r_32 (F := Ideal) c arg2 harg2 arg4 harg4 arg6 harg6 x0 x2 x4) (kernelRun0_A.sl.r_33 (F := Ideal) c arg2 harg2 arg3 harg3 arg4 harg4 arg5 harg5 arg8 harg8 arg13 arg14 x0 x1 x2 x3 x6) (kernelRun0_A.sl.r_34 (F := Ideal) c arg9 harg9 x7)) x = act (kernelRun0_A.sl.r_1 (F := Ideal) c arg2 harg2 arg4 harg4 x0 x2) x3 x4 x6 x7 x1 ((Rect.unit (s := S512x2816) ![0, 2048] S512x256.size inb_S512x2816_S512x256_0_2048).emb x) :=
  putAct ⟨8, by norm_num⟩ 2048 rfl inb_S512x2816_S512x256_0_2048 (kernelRun0_A.sl.r_1 (F := Ideal) c arg2 harg2 arg4 harg4 x0 x2) rfl (View.readAt (Elt Ideal) arg5.view (Rect.unit (s := S1024x2816) ![0, 2048] S1024x256.size inb_S1024x2816_S1024x256_0_2048).toLoadRect (harg5.unread x3)) (View.readAt (Elt Ideal) arg6.view (Rect.unit (s := S1024x2816) ![0, 2048] S1024x256.size inb_S1024x2816_S1024x256_0_2048).toLoadRect (harg6.unread x4)) (fun j l => rd2 harg5 x3 0 2048 _ j l j (col ⟨8, by norm_num⟩ l) (Nat.zero_add _).symm (by show 256 * 8 + l.val = 2048 + l.val; omega)) (fun j l => rd2 harg6 x4 0 2048 _ j l j (col ⟨8, by norm_num⟩ l) (Nat.zero_add _).symm (by show 256 * 8 + l.val = 2048 + l.val; omega)) (View.readAt (Elt Ideal) arg8.view (Rect.unit (s := S8x2816) ![0, 2048] S8x256.size inb_S8x2816_S8x256_0_2048).toLoadRect (harg8.unread x6)) (fun j l => rd2 harg8 x6 0 2048 _ j l j (col ⟨8, by norm_num⟩ l) (Nat.zero_add _).symm (by show 256 * 8 + l.val = 2048 + l.val; omega))
    (kernelRun0_A.sl.v470 (F := Ideal) c arg2 harg2 arg3 harg3 arg4 harg4 arg5 harg5 arg13 arg14 x0 x1 x2 x3) (kernelRun0_A.sl.v476 (F := Ideal) c arg2 harg2 arg3 harg3 arg4 harg4 arg5 harg5 arg13 arg14 x0 x1 x2 x3) (fun r l => rd_v470 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v476 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 2048] S1x256.size inb_S1x2816_S1x256_0_2048).toLoadRect (harg9.unread x7)) (fun j l => rd2 harg9 x7 0 2048 _ j l j (col ⟨8, by norm_num⟩ l) (Nat.zero_add _).symm (by show 256 * 8 + l.val = 2048 + l.val; omega)) x
theorem ac7 (x : S512x256.Idx) : (k0_pay68 (kernelRun0_A.sl.r_27 (F := Ideal) c arg2 harg2 arg4 harg4 arg5 harg5 x0 x2 x3) (kernelRun0_A.sl.r_28 (F := Ideal) c arg2 harg2 arg4 harg4 arg6 harg6 x0 x2 x4) (kernelRun0_A.sl.r_29 (F := Ideal) c arg8 harg8 x6) (kernelRun0_A.sl.r_30 (F := Ideal) c arg2 harg2 arg3 harg3 arg4 harg4 arg5 harg5 arg8 harg8 arg13 arg14 x0 x1 x2 x3 x6) (kernelRun0_A.sl.v422 (F := Ideal) c arg2 harg2 arg3 harg3 arg4 harg4 arg5 harg5 arg13 arg14 x0 x1 x2 x3) (View.readAt (Elt Ideal) arg9.view (Rect.unit (s := S1x2816) ![0, 1792] S1x256.size inb_S1x2816_S1x256_0_1792).toLoadRect (harg9.unread x7))) x = act (kernelRun0_A.sl.r_1 (F := Ideal) c arg2 harg2 arg4 harg4 x0 x2) x3 x4 x6 x7 x1 ((Rect.unit (s := S512x2816) ![0, 1792] S512x256.size inb_S512x2816_S512x256_0_1792).emb x) :=
  putAct ⟨7, by norm_num⟩ 1792 rfl inb_S512x2816_S512x256_0_1792 (kernelRun0_A.sl.r_1 (F := Ideal) c arg2 harg2 arg4 harg4 x0 x2) rfl (View.readAt (Elt Ideal) arg5.view (Rect.unit (s := S1024x2816) ![0, 1792] S1024x256.size inb_S1024x2816_S1024x256_0_1792).toLoadRect (harg5.unread x3)) (View.readAt (Elt Ideal) arg6.view (Rect.unit (s := S1024x2816) ![0, 1792] S1024x256.size inb_S1024x2816_S1024x256_0_1792).toLoadRect (harg6.unread x4)) (fun j l => rd2 harg5 x3 0 1792 _ j l j (col ⟨7, by norm_num⟩ l) (Nat.zero_add _).symm (by show 256 * 7 + l.val = 1792 + l.val; omega)) (fun j l => rd2 harg6 x4 0 1792 _ j l j (col ⟨7, by norm_num⟩ l) (Nat.zero_add _).symm (by show 256 * 7 + l.val = 1792 + l.val; omega)) (View.readAt (Elt Ideal) arg8.view (Rect.unit (s := S8x2816) ![0, 1792] S8x256.size inb_S8x2816_S8x256_0_1792).toLoadRect (harg8.unread x6)) (fun j l => rd2 harg8 x6 0 1792 _ j l j (col ⟨7, by norm_num⟩ l) (Nat.zero_add _).symm (by show 256 * 7 + l.val = 1792 + l.val; omega))
    (kernelRun0_A.sl.v416 (F := Ideal) c arg2 harg2 arg3 harg3 arg4 harg4 arg5 harg5 arg13 arg14 x0 x1 x2 x3) (kernelRun0_A.sl.v422 (F := Ideal) c arg2 harg2 arg3 harg3 arg4 harg4 arg5 harg5 arg13 arg14 x0 x1 x2 x3) (fun r l => rd_v416 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v422 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 1792] S1x256.size inb_S1x2816_S1x256_0_1792).toLoadRect (harg9.unread x7)) (fun j l => rd2 harg9 x7 0 1792 _ j l j (col ⟨7, by norm_num⟩ l) (Nat.zero_add _).symm (by show 256 * 7 + l.val = 1792 + l.val; omega)) x
theorem ac6 (x : S512x256.Idx) : (k0_pay59 (kernelRun0_A.sl.r_24 (F := Ideal) c arg2 harg2 arg4 harg4 arg5 harg5 x0 x2 x3) (kernelRun0_A.sl.r_25 (F := Ideal) c arg2 harg2 arg4 harg4 arg6 harg6 x0 x2 x4) (View.readAt (Elt Ideal) arg8.view (Rect.unit (s := S8x2816) ![0, 1536] S8x256.size inb_S8x2816_S8x256_0_1536).toLoadRect (harg8.unread x6)) (kernelRun0_A.sl.v362 (F := Ideal) c arg2 harg2 arg3 harg3 arg4 harg4 arg5 harg5 arg13 arg14 x0 x1 x2 x3) (kernelRun0_A.sl.v368 (F := Ideal) c arg2 harg2 arg3 harg3 arg4 harg4 arg5 harg5 arg13 arg14 x0 x1 x2 x3) (View.readAt (Elt Ideal) arg9.view (Rect.unit (s := S1x2816) ![0, 1536] S1x256.size inb_S1x2816_S1x256_0_1536).toLoadRect (harg9.unread x7))) x = act (kernelRun0_A.sl.r_1 (F := Ideal) c arg2 harg2 arg4 harg4 x0 x2) x3 x4 x6 x7 x1 ((Rect.unit (s := S512x2816) ![0, 1536] S512x256.size inb_S512x2816_S512x256_0_1536).emb x) :=
  putAct ⟨6, by norm_num⟩ 1536 rfl inb_S512x2816_S512x256_0_1536 (kernelRun0_A.sl.r_1 (F := Ideal) c arg2 harg2 arg4 harg4 x0 x2) rfl (View.readAt (Elt Ideal) arg5.view (Rect.unit (s := S1024x2816) ![0, 1536] S1024x256.size inb_S1024x2816_S1024x256_0_1536).toLoadRect (harg5.unread x3)) (View.readAt (Elt Ideal) arg6.view (Rect.unit (s := S1024x2816) ![0, 1536] S1024x256.size inb_S1024x2816_S1024x256_0_1536).toLoadRect (harg6.unread x4)) (fun j l => rd2 harg5 x3 0 1536 _ j l j (col ⟨6, by norm_num⟩ l) (Nat.zero_add _).symm (by show 256 * 6 + l.val = 1536 + l.val; omega)) (fun j l => rd2 harg6 x4 0 1536 _ j l j (col ⟨6, by norm_num⟩ l) (Nat.zero_add _).symm (by show 256 * 6 + l.val = 1536 + l.val; omega)) (View.readAt (Elt Ideal) arg8.view (Rect.unit (s := S8x2816) ![0, 1536] S8x256.size inb_S8x2816_S8x256_0_1536).toLoadRect (harg8.unread x6)) (fun j l => rd2 harg8 x6 0 1536 _ j l j (col ⟨6, by norm_num⟩ l) (Nat.zero_add _).symm (by show 256 * 6 + l.val = 1536 + l.val; omega))
    (kernelRun0_A.sl.v362 (F := Ideal) c arg2 harg2 arg3 harg3 arg4 harg4 arg5 harg5 arg13 arg14 x0 x1 x2 x3) (kernelRun0_A.sl.v368 (F := Ideal) c arg2 harg2 arg3 harg3 arg4 harg4 arg5 harg5 arg13 arg14 x0 x1 x2 x3) (fun r l => rd_v362 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v368 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 1536] S1x256.size inb_S1x2816_S1x256_0_1536).toLoadRect (harg9.unread x7)) (fun j l => rd2 harg9 x7 0 1536 _ j l j (col ⟨6, by norm_num⟩ l) (Nat.zero_add _).symm (by show 256 * 6 + l.val = 1536 + l.val; omega)) x
theorem ac5 (x : S512x256.Idx) : (k0_pay52 (kernelRun0_A.sl.r_21 (F := Ideal) c arg2 harg2 arg4 harg4 arg6 harg6 x0 x2 x4) (kernelRun0_A.sl.r_22 (F := Ideal) c arg2 harg2 arg3 harg3 arg4 harg4 arg5 harg5 arg8 harg8 arg13 arg14 x0 x1 x2 x3 x6) (kernelRun0_A.sl.r_23 (F := Ideal) c arg9 harg9 x7)) x = act (kernelRun0_A.sl.r_1 (F := Ideal) c arg2 harg2 arg4 harg4 x0 x2) x3 x4 x6 x7 x1 ((Rect.unit (s := S512x2816) ![0, 1280] S512x256.size inb_S512x2816_S512x256_0_1280).emb x) :=
  putAct ⟨5, by norm_num⟩ 1280 rfl inb_S512x2816_S512x256_0_1280 (kernelRun0_A.sl.r_1 (F := Ideal) c arg2 harg2 arg4 harg4 x0 x2) rfl (View.readAt (Elt Ideal) arg5.view (Rect.unit (s := S1024x2816) ![0, 1280] S1024x256.size inb_S1024x2816_S1024x256_0_1280).toLoadRect (harg5.unread x3)) (View.readAt (Elt Ideal) arg6.view (Rect.unit (s := S1024x2816) ![0, 1280] S1024x256.size inb_S1024x2816_S1024x256_0_1280).toLoadRect (harg6.unread x4)) (fun j l => rd2 harg5 x3 0 1280 _ j l j (col ⟨5, by norm_num⟩ l) (Nat.zero_add _).symm (by show 256 * 5 + l.val = 1280 + l.val; omega)) (fun j l => rd2 harg6 x4 0 1280 _ j l j (col ⟨5, by norm_num⟩ l) (Nat.zero_add _).symm (by show 256 * 5 + l.val = 1280 + l.val; omega)) (View.readAt (Elt Ideal) arg8.view (Rect.unit (s := S8x2816) ![0, 1280] S8x256.size inb_S8x2816_S8x256_0_1280).toLoadRect (harg8.unread x6)) (fun j l => rd2 harg8 x6 0 1280 _ j l j (col ⟨5, by norm_num⟩ l) (Nat.zero_add _).symm (by show 256 * 5 + l.val = 1280 + l.val; omega))
    (kernelRun0_A.sl.v308 (F := Ideal) c arg2 harg2 arg3 harg3 arg4 harg4 arg5 harg5 arg13 arg14 x0 x1 x2 x3) (kernelRun0_A.sl.v314 (F := Ideal) c arg2 harg2 arg3 harg3 arg4 harg4 arg5 harg5 arg13 arg14 x0 x1 x2 x3) (fun r l => rd_v308 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v314 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 1280] S1x256.size inb_S1x2816_S1x256_0_1280).toLoadRect (harg9.unread x7)) (fun j l => rd2 harg9 x7 0 1280 _ j l j (col ⟨5, by norm_num⟩ l) (Nat.zero_add _).symm (by show 256 * 5 + l.val = 1280 + l.val; omega)) x
theorem ac4 (x : S512x256.Idx) : (k0_pay43 (kernelRun0_A.sl.r_16 (F := Ideal) c arg2 harg2 arg4 harg4 arg5 harg5 x0 x2 x3) (kernelRun0_A.sl.r_17 (F := Ideal) c arg2 harg2 arg4 harg4 arg6 harg6 x0 x2 x4) (kernelRun0_A.sl.r_18 (F := Ideal) c arg8 harg8 x6) (kernelRun0_A.sl.r_19 (F := Ideal) c arg2 harg2 arg3 harg3 arg4 harg4 arg5 harg5 arg8 harg8 arg13 arg14 x0 x1 x2 x3 x6) (kernelRun0_A.sl.v260 (F := Ideal) c arg2 harg2 arg3 harg3 arg4 harg4 arg5 harg5 arg13 arg14 x0 x1 x2 x3) (View.readAt (Elt Ideal) arg9.view (Rect.unit (s := S1x2816) ![0, 1024] S1x256.size inb_S1x2816_S1x256_0_1024).toLoadRect (harg9.unread x7))) x = act (kernelRun0_A.sl.r_1 (F := Ideal) c arg2 harg2 arg4 harg4 x0 x2) x3 x4 x6 x7 x1 ((Rect.unit (s := S512x2816) ![0, 1024] S512x256.size inb_S512x2816_S512x256_0_1024).emb x) :=
  putAct ⟨4, by norm_num⟩ 1024 rfl inb_S512x2816_S512x256_0_1024 (kernelRun0_A.sl.r_1 (F := Ideal) c arg2 harg2 arg4 harg4 x0 x2) rfl (View.readAt (Elt Ideal) arg5.view (Rect.unit (s := S1024x2816) ![0, 1024] S1024x256.size inb_S1024x2816_S1024x256_0_1024).toLoadRect (harg5.unread x3)) (View.readAt (Elt Ideal) arg6.view (Rect.unit (s := S1024x2816) ![0, 1024] S1024x256.size inb_S1024x2816_S1024x256_0_1024).toLoadRect (harg6.unread x4)) (fun j l => rd2 harg5 x3 0 1024 _ j l j (col ⟨4, by norm_num⟩ l) (Nat.zero_add _).symm (by show 256 * 4 + l.val = 1024 + l.val; omega)) (fun j l => rd2 harg6 x4 0 1024 _ j l j (col ⟨4, by norm_num⟩ l) (Nat.zero_add _).symm (by show 256 * 4 + l.val = 1024 + l.val; omega)) (View.readAt (Elt Ideal) arg8.view (Rect.unit (s := S8x2816) ![0, 1024] S8x256.size inb_S8x2816_S8x256_0_1024).toLoadRect (harg8.unread x6)) (fun j l => rd2 harg8 x6 0 1024 _ j l j (col ⟨4, by norm_num⟩ l) (Nat.zero_add _).symm (by show 256 * 4 + l.val = 1024 + l.val; omega))
    (kernelRun0_A.sl.v254 (F := Ideal) c arg2 harg2 arg3 harg3 arg4 harg4 arg5 harg5 arg13 arg14 x0 x1 x2 x3) (kernelRun0_A.sl.v260 (F := Ideal) c arg2 harg2 arg3 harg3 arg4 harg4 arg5 harg5 arg13 arg14 x0 x1 x2 x3) (fun r l => rd_v254 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v260 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 1024] S1x256.size inb_S1x2816_S1x256_0_1024).toLoadRect (harg9.unread x7)) (fun j l => rd2 harg9 x7 0 1024 _ j l j (col ⟨4, by norm_num⟩ l) (Nat.zero_add _).symm (by show 256 * 4 + l.val = 1024 + l.val; omega)) x
theorem ac3 (x : S512x256.Idx) : (k0_pay34 (kernelRun0_A.sl.r_13 (F := Ideal) c arg2 harg2 arg4 harg4 arg5 harg5 x0 x2 x3) (kernelRun0_A.sl.r_14 (F := Ideal) c arg2 harg2 arg4 harg4 arg6 harg6 x0 x2 x4) (View.readAt (Elt Ideal) arg8.view (Rect.unit (s := S8x2816) ![0, 768] S8x256.size inb_S8x2816_S8x256_0_768).toLoadRect (harg8.unread x6)) (kernelRun0_A.sl.v200 (F := Ideal) c arg2 harg2 arg3 harg3 arg4 harg4 arg5 harg5 arg13 arg14 x0 x1 x2 x3) (kernelRun0_A.sl.v206 (F := Ideal) c arg2 harg2 arg3 harg3 arg4 harg4 arg5 harg5 arg13 arg14 x0 x1 x2 x3) (View.readAt (Elt Ideal) arg9.view (Rect.unit (s := S1x2816) ![0, 768] S1x256.size inb_S1x2816_S1x256_0_768).toLoadRect (harg9.unread x7))) x = act (kernelRun0_A.sl.r_1 (F := Ideal) c arg2 harg2 arg4 harg4 x0 x2) x3 x4 x6 x7 x1 ((Rect.unit (s := S512x2816) ![0, 768] S512x256.size inb_S512x2816_S512x256_0_768).emb x) :=
  putAct ⟨3, by norm_num⟩ 768 rfl inb_S512x2816_S512x256_0_768 (kernelRun0_A.sl.r_1 (F := Ideal) c arg2 harg2 arg4 harg4 x0 x2) rfl (View.readAt (Elt Ideal) arg5.view (Rect.unit (s := S1024x2816) ![0, 768] S1024x256.size inb_S1024x2816_S1024x256_0_768).toLoadRect (harg5.unread x3)) (View.readAt (Elt Ideal) arg6.view (Rect.unit (s := S1024x2816) ![0, 768] S1024x256.size inb_S1024x2816_S1024x256_0_768).toLoadRect (harg6.unread x4)) (fun j l => rd2 harg5 x3 0 768 _ j l j (col ⟨3, by norm_num⟩ l) (Nat.zero_add _).symm (by show 256 * 3 + l.val = 768 + l.val; omega)) (fun j l => rd2 harg6 x4 0 768 _ j l j (col ⟨3, by norm_num⟩ l) (Nat.zero_add _).symm (by show 256 * 3 + l.val = 768 + l.val; omega)) (View.readAt (Elt Ideal) arg8.view (Rect.unit (s := S8x2816) ![0, 768] S8x256.size inb_S8x2816_S8x256_0_768).toLoadRect (harg8.unread x6)) (fun j l => rd2 harg8 x6 0 768 _ j l j (col ⟨3, by norm_num⟩ l) (Nat.zero_add _).symm (by show 256 * 3 + l.val = 768 + l.val; omega))
    (kernelRun0_A.sl.v200 (F := Ideal) c arg2 harg2 arg3 harg3 arg4 harg4 arg5 harg5 arg13 arg14 x0 x1 x2 x3) (kernelRun0_A.sl.v206 (F := Ideal) c arg2 harg2 arg3 harg3 arg4 harg4 arg5 harg5 arg13 arg14 x0 x1 x2 x3) (fun r l => rd_v200 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v206 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 768] S1x256.size inb_S1x2816_S1x256_0_768).toLoadRect (harg9.unread x7)) (fun j l => rd2 harg9 x7 0 768 _ j l j (col ⟨3, by norm_num⟩ l) (Nat.zero_add _).symm (by show 256 * 3 + l.val = 768 + l.val; omega)) x
theorem ac2 (x : S512x256.Idx) : (k0_pay27 (kernelRun0_A.sl.r_10 (F := Ideal) c arg2 harg2 arg4 harg4 arg6 harg6 x0 x2 x4) (kernelRun0_A.sl.r_11 (F := Ideal) c arg2 harg2 arg3 harg3 arg4 harg4 arg5 harg5 arg8 harg8 arg13 arg14 x0 x1 x2 x3 x6) (kernelRun0_A.sl.r_12 (F := Ideal) c arg9 harg9 x7)) x = act (kernelRun0_A.sl.r_1 (F := Ideal) c arg2 harg2 arg4 harg4 x0 x2) x3 x4 x6 x7 x1 ((Rect.unit (s := S512x2816) ![0, 512] S512x256.size inb_S512x2816_S512x256_0_512).emb x) :=
  putAct ⟨2, by norm_num⟩ 512 rfl inb_S512x2816_S512x256_0_512 (kernelRun0_A.sl.r_1 (F := Ideal) c arg2 harg2 arg4 harg4 x0 x2) rfl (View.readAt (Elt Ideal) arg5.view (Rect.unit (s := S1024x2816) ![0, 512] S1024x256.size inb_S1024x2816_S1024x256_0_512).toLoadRect (harg5.unread x3)) (View.readAt (Elt Ideal) arg6.view (Rect.unit (s := S1024x2816) ![0, 512] S1024x256.size inb_S1024x2816_S1024x256_0_512).toLoadRect (harg6.unread x4)) (fun j l => rd2 harg5 x3 0 512 _ j l j (col ⟨2, by norm_num⟩ l) (Nat.zero_add _).symm (by show 256 * 2 + l.val = 512 + l.val; omega)) (fun j l => rd2 harg6 x4 0 512 _ j l j (col ⟨2, by norm_num⟩ l) (Nat.zero_add _).symm (by show 256 * 2 + l.val = 512 + l.val; omega)) (View.readAt (Elt Ideal) arg8.view (Rect.unit (s := S8x2816) ![0, 512] S8x256.size inb_S8x2816_S8x256_0_512).toLoadRect (harg8.unread x6)) (fun j l => rd2 harg8 x6 0 512 _ j l j (col ⟨2, by norm_num⟩ l) (Nat.zero_add _).symm (by show 256 * 2 + l.val = 512 + l.val; omega))
    (kernelRun0_A.sl.v146 (F := Ideal) c arg2 harg2 arg3 harg3 arg4 harg4 arg5 harg5 arg13 arg14 x0 x1 x2 x3) (kernelRun0_A.sl.v152 (F := Ideal) c arg2 harg2 arg3 harg3 arg4 harg4 arg5 harg5 arg13 arg14 x0 x1 x2 x3) (fun r l => rd_v146 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v152 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 512] S1x256.size inb_S1x2816_S1x256_0_512).toLoadRect (harg9.unread x7)) (fun j l => rd2 harg9 x7 0 512 _ j l j (col ⟨2, by norm_num⟩ l) (Nat.zero_add _).symm (by show 256 * 2 + l.val = 512 + l.val; omega)) x
theorem ac1 (x : S512x256.Idx) : (k0_pay18 (kernelRun0_A.sl.r_5 (F := Ideal) c arg2 harg2 arg4 harg4 arg5 harg5 x0 x2 x3) (kernelRun0_A.sl.r_6 (F := Ideal) c arg2 harg2 arg4 harg4 arg6 harg6 x0 x2 x4) (kernelRun0_A.sl.r_7 (F := Ideal) c arg8 harg8 x6) (kernelRun0_A.sl.r_8 (F := Ideal) c arg2 harg2 arg3 harg3 arg4 harg4 arg5 harg5 arg8 harg8 arg13 arg14 x0 x1 x2 x3 x6) (kernelRun0_A.sl.v98 (F := Ideal) c arg2 harg2 arg3 harg3 arg4 harg4 arg5 harg5 arg13 arg14 x0 x1 x2 x3) (View.readAt (Elt Ideal) arg9.view (Rect.unit (s := S1x2816) ![0, 256] S1x256.size inb_S1x2816_S1x256_0_256).toLoadRect (harg9.unread x7))) x = act (kernelRun0_A.sl.r_1 (F := Ideal) c arg2 harg2 arg4 harg4 x0 x2) x3 x4 x6 x7 x1 ((Rect.unit (s := S512x2816) ![0, 256] S512x256.size inb_S512x2816_S512x256_0_256).emb x) :=
  putAct ⟨1, by norm_num⟩ 256 rfl inb_S512x2816_S512x256_0_256 (kernelRun0_A.sl.r_1 (F := Ideal) c arg2 harg2 arg4 harg4 x0 x2) rfl (View.readAt (Elt Ideal) arg5.view (Rect.unit (s := S1024x2816) ![0, 256] S1024x256.size inb_S1024x2816_S1024x256_0_256).toLoadRect (harg5.unread x3)) (View.readAt (Elt Ideal) arg6.view (Rect.unit (s := S1024x2816) ![0, 256] S1024x256.size inb_S1024x2816_S1024x256_0_256).toLoadRect (harg6.unread x4)) (fun j l => rd2 harg5 x3 0 256 _ j l j (col ⟨1, by norm_num⟩ l) (Nat.zero_add _).symm (by show 256 * 1 + l.val = 256 + l.val; omega)) (fun j l => rd2 harg6 x4 0 256 _ j l j (col ⟨1, by norm_num⟩ l) (Nat.zero_add _).symm (by show 256 * 1 + l.val = 256 + l.val; omega)) (View.readAt (Elt Ideal) arg8.view (Rect.unit (s := S8x2816) ![0, 256] S8x256.size inb_S8x2816_S8x256_0_256).toLoadRect (harg8.unread x6)) (fun j l => rd2 harg8 x6 0 256 _ j l j (col ⟨1, by norm_num⟩ l) (Nat.zero_add _).symm (by show 256 * 1 + l.val = 256 + l.val; omega))
    (kernelRun0_A.sl.v92 (F := Ideal) c arg2 harg2 arg3 harg3 arg4 harg4 arg5 harg5 arg13 arg14 x0 x1 x2 x3) (kernelRun0_A.sl.v98 (F := Ideal) c arg2 harg2 arg3 harg3 arg4 harg4 arg5 harg5 arg13 arg14 x0 x1 x2 x3) (fun r l => rd_v92 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v98 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 256] S1x256.size inb_S1x2816_S1x256_0_256).toLoadRect (harg9.unread x7)) (fun j l => rd2 harg9 x7 0 256 _ j l j (col ⟨1, by norm_num⟩ l) (Nat.zero_add _).symm (by show 256 * 1 + l.val = 256 + l.val; omega)) x
theorem ac0 (x : S512x256.Idx) : (k0_pay9 (kernelRun0_A.sl.r_2 (F := Ideal) c arg2 harg2 arg4 harg4 arg5 harg5 x0 x2 x3) (kernelRun0_A.sl.r_3 (F := Ideal) c arg2 harg2 arg4 harg4 arg6 harg6 x0 x2 x4) (View.readAt (Elt Ideal) arg8.view (Rect.unit (s := S8x2816) ![0, 0] S8x256.size inb_S8x2816_S8x256_0_0).toLoadRect (harg8.unread x6)) (kernelRun0_A.sl.v38 (F := Ideal) c arg2 harg2 arg3 harg3 arg4 harg4 arg5 harg5 arg13 arg14 x0 x1 x2 x3) (kernelRun0_A.sl.v44 (F := Ideal) c arg2 harg2 arg3 harg3 arg4 harg4 arg5 harg5 arg13 arg14 x0 x1 x2 x3) (View.readAt (Elt Ideal) arg9.view (Rect.unit (s := S1x2816) ![0, 0] S1x256.size inb_S1x2816_S1x256_0_0).toLoadRect (harg9.unread x7))) x = act (kernelRun0_A.sl.r_1 (F := Ideal) c arg2 harg2 arg4 harg4 x0 x2) x3 x4 x6 x7 x1 ((Rect.unit (s := S512x2816) ![0, 0] S512x256.size inb_S512x2816_S512x256_0_0).emb x) :=
  putAct ⟨0, by norm_num⟩ 0 rfl inb_S512x2816_S512x256_0_0 (kernelRun0_A.sl.r_1 (F := Ideal) c arg2 harg2 arg4 harg4 x0 x2) rfl (View.readAt (Elt Ideal) arg5.view (Rect.unit (s := S1024x2816) ![0, 0] S1024x256.size inb_S1024x2816_S1024x256_0_0).toLoadRect (harg5.unread x3)) (View.readAt (Elt Ideal) arg6.view (Rect.unit (s := S1024x2816) ![0, 0] S1024x256.size inb_S1024x2816_S1024x256_0_0).toLoadRect (harg6.unread x4)) (fun j l => rd2 harg5 x3 0 0 _ j l j (col ⟨0, by norm_num⟩ l) (Nat.zero_add _).symm (by show 256 * 0 + l.val = 0 + l.val; omega)) (fun j l => rd2 harg6 x4 0 0 _ j l j (col ⟨0, by norm_num⟩ l) (Nat.zero_add _).symm (by show 256 * 0 + l.val = 0 + l.val; omega)) (View.readAt (Elt Ideal) arg8.view (Rect.unit (s := S8x2816) ![0, 0] S8x256.size inb_S8x2816_S8x256_0_0).toLoadRect (harg8.unread x6)) (fun j l => rd2 harg8 x6 0 0 _ j l j (col ⟨0, by norm_num⟩ l) (Nat.zero_add _).symm (by show 256 * 0 + l.val = 0 + l.val; omega))
    (kernelRun0_A.sl.v38 (F := Ideal) c arg2 harg2 arg3 harg3 arg4 harg4 arg5 harg5 arg13 arg14 x0 x1 x2 x3) (kernelRun0_A.sl.v44 (F := Ideal) c arg2 harg2 arg3 harg3 arg4 harg4 arg5 harg5 arg13 arg14 x0 x1 x2 x3) (fun r l => rd_v38 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (fun r l => rd_v44 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 r l) (View.readAt (Elt Ideal) arg9.view (Rect.unit (s := S1x2816) ![0, 0] S1x256.size inb_S1x2816_S1x256_0_0).toLoadRect (harg9.unread x7)) (fun j l => rd2 harg9 x7 0 0 _ j l j (col ⟨0, by norm_num⟩ l) (Nat.zero_add _).symm (by show 256 * 0 + l.val = 0 + l.val; omega)) x
theorem acts : Of (act (kernelRun0_A.sl.r_1 (F := Ideal) c arg2 harg2 arg4 harg4 x0 x2) x3 x4 x6 x7 x1) (kernelRun0_A.sl.HS2_11 (F := Ideal) c arg2 harg2 arg3 harg3 arg4 harg4 arg5 harg5 arg6 harg6 arg8 harg8 arg9 harg9 arg13 arg14 x0 x1 x2 x3 x4 x6 x7) := by
  unfold kernelRun0_A.sl.HS2_11
  exact Of.cons (fun x => ac10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.cons (fun x => ac0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x) (Of.nil _)))))))))))

theorem acted : (kernelRun0_A.sl.v614 (F := Ideal) c arg2 harg2 arg3 harg3 arg4 harg4 arg5 harg5 arg6 harg6 arg8 harg8 arg9 harg9 arg13 arg14 arg15 x0 x1 x2 x3 x4 x6 x7 : S512x2816.Idx → EReal) = act (kernelRun0_A.sl.r_1 (F := Ideal) c arg2 harg2 arg4 harg4 x0 x2) x3 x4 x6 x7 x1 := by
  unfold kernelRun0_A.sl.v614
  rw [View.readCov_eq_canon']
  funext y
  refine ((acts c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).canon _ (by exact View.cover_of_tiledL (s := S512x2816) _ S512x256.size (by sl_kernel_rfl) _)).trans (congrArg _ (pair_ext ?_ ?_))
  · show 0 + 1 * (y 0).val = (y 0).val; omega
  · show 0 + 1 * (y 1).val = (y 1).val; omega

theorem tails : Of (tail (kernelRun0_A.sl.r_1 (F := Ideal) c arg2 harg2 arg4 harg4 x0 x2) x3 x1) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1 := by
  delta kernelRun0_A
  dsimp only
  exact sent_of (kernelRun0_A.sl.v68 (F := Ideal) c arg2 harg2 arg3 harg3 arg4 harg4 arg5 harg5 arg13 arg14 x0 x1 x2 x3) (kernelRun0_A.sl.v122 (F := Ideal) c arg2 harg2 arg3 harg3 arg4 harg4 arg5 harg5 arg13 arg14 x0 x1 x2 x3) (kernelRun0_A.sl.v176 (F := Ideal) c arg2 harg2 arg3 harg3 arg4 harg4 arg5 harg5 arg13 arg14 x0 x1 x2 x3) (kernelRun0_A.sl.v230 (F := Ideal) c arg2 harg2 arg3 harg3 arg4 harg4 arg5 harg5 arg13 arg14 x0 x1 x2 x3) (kernelRun0_A.sl.v284 (F := Ideal) c arg2 harg2 arg3 harg3 arg4 harg4 arg5 harg5 arg13 arg14 x0 x1 x2 x3) (kernelRun0_A.sl.v338 (F := Ideal) c arg2 harg2 arg3 harg3 arg4 harg4 arg5 harg5 arg13 arg14 x0 x1 x2 x3) (kernelRun0_A.sl.v392 (F := Ideal) c arg2 harg2 arg3 harg3 arg4 harg4 arg5 harg5 arg13 arg14 x0 x1 x2 x3) (kernelRun0_A.sl.v446 (F := Ideal) c arg2 harg2 arg3 harg3 arg4 harg4 arg5 harg5 arg13 arg14 x0 x1 x2 x3) (kernelRun0_A.sl.v500 (F := Ideal) c arg2 harg2 arg3 harg3 arg4 harg4 arg5 harg5 arg13 arg14 x0 x1 x2 x3) (kernelRun0_A.sl.v554 (F := Ideal) c arg2 harg2 arg3 harg3 arg4 harg4 arg5 harg5 arg13 arg14 x0 x1 x2 x3) (kernelRun0_A.sl.v608 (F := Ideal) c arg2 harg2 arg3 harg3 arg4 harg4 arg5 harg5 arg13 arg14 x0 x1 x2 x3) (fun e l => rd_v68 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v122 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v176 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v230 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v284 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v338 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v392 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v446 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v500 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v554 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v608 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l)

theorem rows : (kernelRun0_A.sl.r_1 (F := Ideal) c arg2 harg2 arg4 harg4 x0 x2 : S512x1024.Idx → EReal) = norm x0 x2 := by
  unfold kernelRun0_A.sl.r_1
  rw [norm_eq]
  exact congrArg₂ norm (whole2 harg2 x0 _) (whole2 harg4 x2 _)

theorem last : (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 : S1x2x2816.Idx → EReal) = tail (norm x0 x2) x3 x1 := by
  unfold out0_A_10
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8]
  funext y
  exact (tails c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).canon y (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 y)

theorem carried : (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 : S1x2x2816.Idx → EReal) = tail (norm x0 x2) x3 x1 := by
  unfold sout0_A_0
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8]
  funext y
  rw [show (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1 = kept (kernelRun0_A.sl.v68 (F := Ideal) c arg2 harg2 arg3 harg3 arg4 harg4 arg5 harg5 arg13 arg14 x0 x1 x2 x3) (kernelRun0_A.sl.v122 (F := Ideal) c arg2 harg2 arg3 harg3 arg4 harg4 arg5 harg5 arg13 arg14 x0 x1 x2 x3) (kernelRun0_A.sl.v176 (F := Ideal) c arg2 harg2 arg3 harg3 arg4 harg4 arg5 harg5 arg13 arg14 x0 x1 x2 x3) (kernelRun0_A.sl.v230 (F := Ideal) c arg2 harg2 arg3 harg3 arg4 harg4 arg5 harg5 arg13 arg14 x0 x1 x2 x3) (kernelRun0_A.sl.v284 (F := Ideal) c arg2 harg2 arg3 harg3 arg4 harg4 arg5 harg5 arg13 arg14 x0 x1 x2 x3) (kernelRun0_A.sl.v338 (F := Ideal) c arg2 harg2 arg3 harg3 arg4 harg4 arg5 harg5 arg13 arg14 x0 x1 x2 x3) (kernelRun0_A.sl.v392 (F := Ideal) c arg2 harg2 arg3 harg3 arg4 harg4 arg5 harg5 arg13 arg14 x0 x1 x2 x3) (kernelRun0_A.sl.v446 (F := Ideal) c arg2 harg2 arg3 harg3 arg4 harg4 arg5 harg5 arg13 arg14 x0 x1 x2 x3) (kernelRun0_A.sl.v500 (F := Ideal) c arg2 harg2 arg3 harg3 arg4 harg4 arg5 harg5 arg13 arg14 x0 x1 x2 x3) (kernelRun0_A.sl.v554 (F := Ideal) c arg2 harg2 arg3 harg3 arg4 harg4 arg5 harg5 arg13 arg14 x0 x1 x2 x3) (kernelRun0_A.sl.v608 (F := Ideal) c arg2 harg2 arg3 harg3 arg4 harg4 arg5 harg5 arg13 arg14 x0 x1 x2 x3) ++ kernelRun0_A.sl.HS0_1 (F := Ideal) c arg3 harg3 x1 from rfl]
  exact View.canon_append_of_pieces _ _ _ (kept_of (kernelRun0_A.sl.v68 (F := Ideal) c arg2 harg2 arg3 harg3 arg4 harg4 arg5 harg5 arg13 arg14 x0 x1 x2 x3) (kernelRun0_A.sl.v122 (F := Ideal) c arg2 harg2 arg3 harg3 arg4 harg4 arg5 harg5 arg13 arg14 x0 x1 x2 x3) (kernelRun0_A.sl.v176 (F := Ideal) c arg2 harg2 arg3 harg3 arg4 harg4 arg5 harg5 arg13 arg14 x0 x1 x2 x3) (kernelRun0_A.sl.v230 (F := Ideal) c arg2 harg2 arg3 harg3 arg4 harg4 arg5 harg5 arg13 arg14 x0 x1 x2 x3) (kernelRun0_A.sl.v284 (F := Ideal) c arg2 harg2 arg3 harg3 arg4 harg4 arg5 harg5 arg13 arg14 x0 x1 x2 x3) (kernelRun0_A.sl.v338 (F := Ideal) c arg2 harg2 arg3 harg3 arg4 harg4 arg5 harg5 arg13 arg14 x0 x1 x2 x3) (kernelRun0_A.sl.v392 (F := Ideal) c arg2 harg2 arg3 harg3 arg4 harg4 arg5 harg5 arg13 arg14 x0 x1 x2 x3) (kernelRun0_A.sl.v446 (F := Ideal) c arg2 harg2 arg3 harg3 arg4 harg4 arg5 harg5 arg13 arg14 x0 x1 x2 x3) (kernelRun0_A.sl.v500 (F := Ideal) c arg2 harg2 arg3 harg3 arg4 harg4 arg5 harg5 arg13 arg14 x0 x1 x2 x3) (kernelRun0_A.sl.v554 (F := Ideal) c arg2 harg2 arg3 harg3 arg4 harg4 arg5 harg5 arg13 arg14 x0 x1 x2 x3) (kernelRun0_A.sl.v608 (F := Ideal) c arg2 harg2 arg3 harg3 arg4 harg4 arg5 harg5 arg13 arg14 x0 x1 x2 x3) (fun e l => rd_v68 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v122 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v176 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v230 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v284 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v338 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v392 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v446 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v500 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v554 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l) (fun e l => rd_v608 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 e l)) y (kept_cover (kernelRun0_A.sl.v68 (F := Ideal) c arg2 harg2 arg3 harg3 arg4 harg4 arg5 harg5 arg13 arg14 x0 x1 x2 x3) (kernelRun0_A.sl.v122 (F := Ideal) c arg2 harg2 arg3 harg3 arg4 harg4 arg5 harg5 arg13 arg14 x0 x1 x2 x3) (kernelRun0_A.sl.v176 (F := Ideal) c arg2 harg2 arg3 harg3 arg4 harg4 arg5 harg5 arg13 arg14 x0 x1 x2 x3) (kernelRun0_A.sl.v230 (F := Ideal) c arg2 harg2 arg3 harg3 arg4 harg4 arg5 harg5 arg13 arg14 x0 x1 x2 x3) (kernelRun0_A.sl.v284 (F := Ideal) c arg2 harg2 arg3 harg3 arg4 harg4 arg5 harg5 arg13 arg14 x0 x1 x2 x3) (kernelRun0_A.sl.v338 (F := Ideal) c arg2 harg2 arg3 harg3 arg4 harg4 arg5 harg5 arg13 arg14 x0 x1 x2 x3) (kernelRun0_A.sl.v392 (F := Ideal) c arg2 harg2 arg3 harg3 arg4 harg4 arg5 harg5 arg13 arg14 x0 x1 x2 x3) (kernelRun0_A.sl.v446 (F := Ideal) c arg2 harg2 arg3 harg3 arg4 harg4 arg5 harg5 arg13 arg14 x0 x1 x2 x3) (kernelRun0_A.sl.v500 (F := Ideal) c arg2 harg2 arg3 harg3 arg4 harg4 arg5 harg5 arg13 arg14 x0 x1 x2 x3) (kernelRun0_A.sl.v554 (F := Ideal) c arg2 harg2 arg3 harg3 arg4 harg4 arg5 harg5 arg13 arg14 x0 x1 x2 x3) (kernelRun0_A.sl.v608 (F := Ideal) c arg2 harg2 arg3 harg3 arg4 harg4 arg5 harg5 arg13 arg14 x0 x1 x2 x3) y)

theorem made : (out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 : S512x1024.Idx → EReal) = block x0 x8 (act (norm x0 x2) x3 x4 x6 x7 x1) x5 := by
  unfold out0_A_9
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8, ← acted c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8]
  delta kernelRun0_A
  dsimp only
  rw [View.canon_unit_zero (by decide +kernel)]
  refine (block_eq _ _ _ _).trans ?_
  unfold kernelRun0_A.sl.r kernelRun0_A.sl.r_42
  rw [same_rows, same_down, whole2 harg2 x0, whole2 harg7 x5, whole2 harg10 x8]

end Cert.Kernel3Ideal.Ffn.First

end
-- ==== Proof.Ffn.Next.lean ====
/- The stores of a block that follows another: the carried rows are that block's last. -/
module

public import proofs.«01_k».proof.Proof.Ffn.Pieces
public import proofs.«01_k».proof.Proof.Gen.Kernel3Ideal.Frame

@[expose] public section

set_option maxRecDepth 16384

noncomputable section

namespace Cert.Kernel3Ideal.Ffn.Next

open Cert.Kernel3Ideal Cert.Kernel3Ideal.Gen
open Idealize Idealize.ShloMosaic
open Idealize.ShloMosaic.TcCoe

variable (c : Dev nD) (i : grid0.Coords) (arg2 : Memref sig .tc .vmem S512x1024 .f32) (harg2 : arg2.IsWhole) (arg3 : Memref sig .tc .vmem S1x2x2816 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S8x2816 .f32) (harg8 : arg8.IsWhole) (arg9 : Memref sig .tc .vmem S1x2816 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x2x2816 .f32) (harg12 : arg12.IsWhole) (arg13 : Memref sig .tc .vmem S1x2x2816 .f32) (harg13 : arg13.IsWhole) (arg14 : Memref sig .tc .vmem S11x1x520x256 .f32) (harg14 : arg14.IsWhole) (arg15 : Memref sig .tc .vmem S512x2816 .bf16) (harg15 : arg15.IsWhole) (hc0 : ¬cond0_0 i)     (x0 : Vec Ideal S512x1024 .f32) (x1 : Vec Ideal S1x2x2816 .f32) (x2 : Vec Ideal S1x1024 .f32) (x3 : Vec Ideal S1024x2816 .bf16) (x4 : Vec Ideal S1024x2816 .bf16) (x5 : Vec Ideal S2816x1024 .bf16) (x6 : Vec Ideal S8x2816 .f32) (x7 : Vec Ideal S1x2816 .f32) (x8 : Vec Ideal S1x1024 .f32) (xs0 : Vec Ideal S1x2x2816 .f32)
include c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0

theorem hal0 (e : Fin 2) (l : Fin 256) : (View.readAt (Elt Ideal) arg13.view (Rect.unit (s := S1x2x2816) ![0, 0, 0] S1x2x256.size inb_S1x2x2816_S1x2x256_0_0_0).toLoadRect (harg13.unread xs0)) (ix3 (n0 := 1) (n1 := 2) (n2 := 256) 0 e l) = xs0 (ix3 (n0 := 1) (n1 := 2) (n2 := 2816) 0 e (col ⟨0, by norm_num⟩ l)) :=
  rd3 harg13 xs0 0 _ 0 e l 0 e (col ⟨0, by norm_num⟩ l) rfl rfl (by show 256 * 0 + l.val = 0 + l.val; omega)
theorem hal1 (e : Fin 2) (l : Fin 256) : kernelRun0_B.sl.v82 (F := Ideal) c arg13 harg13 xs0 (ix3 (n0 := 1) (n1 := 2) (n2 := 256) 0 e l) = xs0 (ix3 (n0 := 1) (n1 := 2) (n2 := 2816) 0 e (col ⟨1, by norm_num⟩ l)) :=
  rd3 harg13 xs0 256 _ 0 e l 0 e (col ⟨1, by norm_num⟩ l) rfl rfl (by show 256 * 1 + l.val = 256 + l.val; omega)
theorem hal2 (e : Fin 2) (l : Fin 256) : kernelRun0_B.sl.v136 (F := Ideal) c arg13 harg13 xs0 (ix3 (n0 := 1) (n1 := 2) (n2 := 256) 0 e l) = xs0 (ix3 (n0 := 1) (n1 := 2) (n2 := 2816) 0 e (col ⟨2, by norm_num⟩ l)) :=
  rd3 harg13 xs0 512 _ 0 e l 0 e (col ⟨2, by norm_num⟩ l) rfl rfl (by show 256 * 2 + l.val = 512 + l.val; omega)
theorem hal3 (e : Fin 2) (l : Fin 256) : kernelRun0_B.sl.v190 (F := Ideal) c arg13 harg13 xs0 (ix3 (n0 := 1) (n1 := 2) (n2 := 256) 0 e l) = xs0 (ix3 (n0 := 1) (n1 := 2) (n2 := 2816) 0 e (col ⟨3, by norm_num⟩ l)) :=
  rd3 harg13 xs0 768 _ 0 e l 0 e (col ⟨3, by norm_num⟩ l) rfl rfl (by show 256 * 3 + l.val = 768 + l.val; omega)
theorem hal4 (e : Fin 2) (l : Fin 256) : kernelRun0_B.sl.v244 (F := Ideal) c arg13 harg13 xs0 (ix3 (n0 := 1) (n1 := 2) (n2 := 256) 0 e l) = xs0 (ix3 (n0 := 1) (n1 := 2) (n2 := 2816) 0 e (col ⟨4, by norm_num⟩ l)) :=
  rd3 harg13 xs0 1024 _ 0 e l 0 e (col ⟨4, by norm_num⟩ l) rfl rfl (by show 256 * 4 + l.val = 1024 + l.val; omega)
theorem hal5 (e : Fin 2) (l : Fin 256) : kernelRun0_B.sl.v298 (F := Ideal) c arg13 harg13 xs0 (ix3 (n0 := 1) (n1 := 2) (n2 := 256) 0 e l) = xs0 (ix3 (n0 := 1) (n1 := 2) (n2 := 2816) 0 e (col ⟨5, by norm_num⟩ l)) :=
  rd3 harg13 xs0 1280 _ 0 e l 0 e (col ⟨5, by norm_num⟩ l) rfl rfl (by show 256 * 5 + l.val = 1280 + l.val; omega)
theorem hal6 (e : Fin 2) (l : Fin 256) : kernelRun0_B.sl.v352 (F := Ideal) c arg13 harg13 xs0 (ix3 (n0 := 1) (n1 := 2) (n2 := 256) 0 e l) = xs0 (ix3 (n0 := 1) (n1 := 2) (n2 := 2816) 0 e (col ⟨6, by norm_num⟩ l)) :=
  rd3 harg13 xs0 1536 _ 0 e l 0 e (col ⟨6, by norm_num⟩ l) rfl rfl (by show 256 * 6 + l.val = 1536 + l.val; omega)
theorem hal7 (e : Fin 2) (l : Fin 256) : kernelRun0_B.sl.v406 (F := Ideal) c arg13 harg13 xs0 (ix3 (n0 := 1) (n1 := 2) (n2 := 256) 0 e l) = xs0 (ix3 (n0 := 1) (n1 := 2) (n2 := 2816) 0 e (col ⟨7, by norm_num⟩ l)) :=
  rd3 harg13 xs0 1792 _ 0 e l 0 e (col ⟨7, by norm_num⟩ l) rfl rfl (by show 256 * 7 + l.val = 1792 + l.val; omega)
theorem hal8 (e : Fin 2) (l : Fin 256) : kernelRun0_B.sl.v460 (F := Ideal) c arg13 harg13 xs0 (ix3 (n0 := 1) (n1 := 2) (n2 := 256) 0 e l) = xs0 (ix3 (n0 := 1) (n1 := 2) (n2 := 2816) 0 e (col ⟨8, by norm_num⟩ l)) :=
  rd3 harg13 xs0 2048 _ 0 e l 0 e (col ⟨8, by norm_num⟩ l) rfl rfl (by show 256 * 8 + l.val = 2048 + l.val; omega)
theorem hal9 (e : Fin 2) (l : Fin 256) : kernelRun0_B.sl.v514 (F := Ideal) c arg13 harg13 xs0 (ix3 (n0 := 1) (n1 := 2) (n2 := 256) 0 e l) = xs0 (ix3 (n0 := 1) (n1 := 2) (n2 := 2816) 0 e (col ⟨9, by norm_num⟩ l)) :=
  rd3 harg13 xs0 2304 _ 0 e l 0 e (col ⟨9, by norm_num⟩ l) rfl rfl (by show 256 * 9 + l.val = 2304 + l.val; omega)
theorem hal10 (e : Fin 2) (l : Fin 256) : kernelRun0_B.sl.v568 (F := Ideal) c arg13 harg13 xs0 (ix3 (n0 := 1) (n1 := 2) (n2 := 256) 0 e l) = xs0 (ix3 (n0 := 1) (n1 := 2) (n2 := 2816) 0 e (col ⟨10, by norm_num⟩ l)) :=
  rd3 harg13 xs0 2560 _ 0 e l 0 e (col ⟨10, by norm_num⟩ l) rfl rfl (by show 256 * 10 + l.val = 2560 + l.val; omega)
theorem st0 : Of (stage (kernelRun0_B.sl.r_1 (F := Ideal) c arg2 harg2 arg4 harg4 x0 x2) x3 xs0) (kernelRun0_B.sl.HS1_2 (F := Ideal) c arg2 harg2 arg4 harg4 arg5 harg5 arg13 harg13 x0 x2 x3 xs0) := by
  unfold kernelRun0_B.sl.HS1_2
  exact Of.cons (fun x => put512 ⟨0, by norm_num⟩ inb_S11x1x520x256_S1x1x512x256_0_0_8_0 _ rfl (View.readAt (Elt Ideal) arg5.view (Rect.unit (s := S1024x2816) ![0, 0] S1024x256.size inb_S1024x2816_S1024x256_0_0).toLoadRect (harg5.unread x3)) (fun j l => rd2 harg5 x3 0 0 _ j l j (col ⟨0, by norm_num⟩ l) (Nat.zero_add _).symm (by show 256 * 0 + l.val = 0 + l.val; omega)) x)
    (Of.cons (fun x => put2 ⟨0, by norm_num⟩ inb_S11x1x520x256_S1x1x2x256_0_0_6_0 ((View.readAt (Elt Ideal) arg13.view (Rect.unit (s := S1x2x2816) ![0, 0, 0] S1x2x256.size inb_S1x2x2816_S1x2x256_0_0_0).toLoadRect (harg13.unread xs0))) (fun e l => hal0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) (Of.nil _))
theorem rd_v38 (r : Fin 512) (l : Fin 256) : kernelRun0_B.sl.v38 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨0, by norm_num⟩ l) :=
  load arg14.view ⟨0, by norm_num⟩ 6 512 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v44 (r : Fin 512) (l : Fin 256) : kernelRun0_B.sl.v44 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨0, by norm_num⟩ l) :=
  load arg14.view ⟨0, by norm_num⟩ 7 512 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v68 (r : Fin 2) (l : Fin 256) : kernelRun0_B.sl.v68 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨0, by norm_num⟩ l) :=
  load arg14.view ⟨0, by norm_num⟩ 518 2 _ _ _ _ _ (st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st1 : Of (stage (kernelRun0_B.sl.r_1 (F := Ideal) c arg2 harg2 arg4 harg4 x0 x2) x3 xs0) (kernelRun0_B.sl.HS1_4 (F := Ideal) c arg2 harg2 arg4 harg4 arg5 harg5 arg13 harg13 x0 x2 x3 xs0) := by
  unfold kernelRun0_B.sl.HS1_4
  exact Of.cons (fun x => put512 ⟨1, by norm_num⟩ inb_S11x1x520x256_S1x1x512x256_1_0_8_0 _ rfl (View.readAt (Elt Ideal) arg5.view (Rect.unit (s := S1024x2816) ![0, 256] S1024x256.size inb_S1024x2816_S1024x256_0_256).toLoadRect (harg5.unread x3)) (fun j l => rd2 harg5 x3 0 256 _ j l j (col ⟨1, by norm_num⟩ l) (Nat.zero_add _).symm (by show 256 * 1 + l.val = 256 + l.val; omega)) x)
    (Of.cons (fun x => put2 ⟨1, by norm_num⟩ inb_S11x1x520x256_S1x1x2x256_1_0_6_0 (kernelRun0_B.sl.v82 (F := Ideal) c arg13 harg13 xs0) (fun e l => hal1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v92 (r : Fin 512) (l : Fin 256) : kernelRun0_B.sl.v92 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨1, by norm_num⟩ l) :=
  load arg14.view ⟨1, by norm_num⟩ 6 512 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v98 (r : Fin 512) (l : Fin 256) : kernelRun0_B.sl.v98 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨1, by norm_num⟩ l) :=
  load arg14.view ⟨1, by norm_num⟩ 7 512 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v122 (r : Fin 2) (l : Fin 256) : kernelRun0_B.sl.v122 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨1, by norm_num⟩ l) :=
  load arg14.view ⟨1, by norm_num⟩ 518 2 _ _ _ _ _ (st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st2 : Of (stage (kernelRun0_B.sl.r_1 (F := Ideal) c arg2 harg2 arg4 harg4 x0 x2) x3 xs0) (kernelRun0_B.sl.HS1_6 (F := Ideal) c arg2 harg2 arg4 harg4 arg5 harg5 arg13 harg13 x0 x2 x3 xs0) := by
  unfold kernelRun0_B.sl.HS1_6
  exact Of.cons (fun x => put512 ⟨2, by norm_num⟩ inb_S11x1x520x256_S1x1x512x256_2_0_8_0 _ rfl (View.readAt (Elt Ideal) arg5.view (Rect.unit (s := S1024x2816) ![0, 512] S1024x256.size inb_S1024x2816_S1024x256_0_512).toLoadRect (harg5.unread x3)) (fun j l => rd2 harg5 x3 0 512 _ j l j (col ⟨2, by norm_num⟩ l) (Nat.zero_add _).symm (by show 256 * 2 + l.val = 512 + l.val; omega)) x)
    (Of.cons (fun x => put2 ⟨2, by norm_num⟩ inb_S11x1x520x256_S1x1x2x256_2_0_6_0 (kernelRun0_B.sl.v136 (F := Ideal) c arg13 harg13 xs0) (fun e l => hal2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v146 (r : Fin 512) (l : Fin 256) : kernelRun0_B.sl.v146 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨2, by norm_num⟩ l) :=
  load arg14.view ⟨2, by norm_num⟩ 6 512 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v152 (r : Fin 512) (l : Fin 256) : kernelRun0_B.sl.v152 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨2, by norm_num⟩ l) :=
  load arg14.view ⟨2, by norm_num⟩ 7 512 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v176 (r : Fin 2) (l : Fin 256) : kernelRun0_B.sl.v176 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨2, by norm_num⟩ l) :=
  load arg14.view ⟨2, by norm_num⟩ 518 2 _ _ _ _ _ (st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st3 : Of (stage (kernelRun0_B.sl.r_1 (F := Ideal) c arg2 harg2 arg4 harg4 x0 x2) x3 xs0) (kernelRun0_B.sl.HS1_8 (F := Ideal) c arg2 harg2 arg4 harg4 arg5 harg5 arg13 harg13 x0 x2 x3 xs0) := by
  unfold kernelRun0_B.sl.HS1_8
  exact Of.cons (fun x => put512 ⟨3, by norm_num⟩ inb_S11x1x520x256_S1x1x512x256_3_0_8_0 _ rfl (View.readAt (Elt Ideal) arg5.view (Rect.unit (s := S1024x2816) ![0, 768] S1024x256.size inb_S1024x2816_S1024x256_0_768).toLoadRect (harg5.unread x3)) (fun j l => rd2 harg5 x3 0 768 _ j l j (col ⟨3, by norm_num⟩ l) (Nat.zero_add _).symm (by show 256 * 3 + l.val = 768 + l.val; omega)) x)
    (Of.cons (fun x => put2 ⟨3, by norm_num⟩ inb_S11x1x520x256_S1x1x2x256_3_0_6_0 (kernelRun0_B.sl.v190 (F := Ideal) c arg13 harg13 xs0) (fun e l => hal3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v200 (r : Fin 512) (l : Fin 256) : kernelRun0_B.sl.v200 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨3, by norm_num⟩ l) :=
  load arg14.view ⟨3, by norm_num⟩ 6 512 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v206 (r : Fin 512) (l : Fin 256) : kernelRun0_B.sl.v206 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨3, by norm_num⟩ l) :=
  load arg14.view ⟨3, by norm_num⟩ 7 512 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v230 (r : Fin 2) (l : Fin 256) : kernelRun0_B.sl.v230 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨3, by norm_num⟩ l) :=
  load arg14.view ⟨3, by norm_num⟩ 518 2 _ _ _ _ _ (st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st4 : Of (stage (kernelRun0_B.sl.r_1 (F := Ideal) c arg2 harg2 arg4 harg4 x0 x2) x3 xs0) (kernelRun0_B.sl.HS1_10 (F := Ideal) c arg2 harg2 arg4 harg4 arg5 harg5 arg13 harg13 x0 x2 x3 xs0) := by
  unfold kernelRun0_B.sl.HS1_10
  exact Of.cons (fun x => put512 ⟨4, by norm_num⟩ inb_S11x1x520x256_S1x1x512x256_4_0_8_0 _ rfl (View.readAt (Elt Ideal) arg5.view (Rect.unit (s := S1024x2816) ![0, 1024] S1024x256.size inb_S1024x2816_S1024x256_0_1024).toLoadRect (harg5.unread x3)) (fun j l => rd2 harg5 x3 0 1024 _ j l j (col ⟨4, by norm_num⟩ l) (Nat.zero_add _).symm (by show 256 * 4 + l.val = 1024 + l.val; omega)) x)
    (Of.cons (fun x => put2 ⟨4, by norm_num⟩ inb_S11x1x520x256_S1x1x2x256_4_0_6_0 (kernelRun0_B.sl.v244 (F := Ideal) c arg13 harg13 xs0) (fun e l => hal4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v254 (r : Fin 512) (l : Fin 256) : kernelRun0_B.sl.v254 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨4, by norm_num⟩ l) :=
  load arg14.view ⟨4, by norm_num⟩ 6 512 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v260 (r : Fin 512) (l : Fin 256) : kernelRun0_B.sl.v260 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨4, by norm_num⟩ l) :=
  load arg14.view ⟨4, by norm_num⟩ 7 512 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v284 (r : Fin 2) (l : Fin 256) : kernelRun0_B.sl.v284 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨4, by norm_num⟩ l) :=
  load arg14.view ⟨4, by norm_num⟩ 518 2 _ _ _ _ _ (st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st5 : Of (stage (kernelRun0_B.sl.r_1 (F := Ideal) c arg2 harg2 arg4 harg4 x0 x2) x3 xs0) (kernelRun0_B.sl.HS1_12 (F := Ideal) c arg2 harg2 arg4 harg4 arg5 harg5 arg13 harg13 x0 x2 x3 xs0) := by
  unfold kernelRun0_B.sl.HS1_12
  exact Of.cons (fun x => put512 ⟨5, by norm_num⟩ inb_S11x1x520x256_S1x1x512x256_5_0_8_0 _ rfl (View.readAt (Elt Ideal) arg5.view (Rect.unit (s := S1024x2816) ![0, 1280] S1024x256.size inb_S1024x2816_S1024x256_0_1280).toLoadRect (harg5.unread x3)) (fun j l => rd2 harg5 x3 0 1280 _ j l j (col ⟨5, by norm_num⟩ l) (Nat.zero_add _).symm (by show 256 * 5 + l.val = 1280 + l.val; omega)) x)
    (Of.cons (fun x => put2 ⟨5, by norm_num⟩ inb_S11x1x520x256_S1x1x2x256_5_0_6_0 (kernelRun0_B.sl.v298 (F := Ideal) c arg13 harg13 xs0) (fun e l => hal5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v308 (r : Fin 512) (l : Fin 256) : kernelRun0_B.sl.v308 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨5, by norm_num⟩ l) :=
  load arg14.view ⟨5, by norm_num⟩ 6 512 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v314 (r : Fin 512) (l : Fin 256) : kernelRun0_B.sl.v314 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨5, by norm_num⟩ l) :=
  load arg14.view ⟨5, by norm_num⟩ 7 512 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v338 (r : Fin 2) (l : Fin 256) : kernelRun0_B.sl.v338 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨5, by norm_num⟩ l) :=
  load arg14.view ⟨5, by norm_num⟩ 518 2 _ _ _ _ _ (st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st6 : Of (stage (kernelRun0_B.sl.r_1 (F := Ideal) c arg2 harg2 arg4 harg4 x0 x2) x3 xs0) (kernelRun0_B.sl.HS1_14 (F := Ideal) c arg2 harg2 arg4 harg4 arg5 harg5 arg13 harg13 x0 x2 x3 xs0) := by
  unfold kernelRun0_B.sl.HS1_14
  exact Of.cons (fun x => put512 ⟨6, by norm_num⟩ inb_S11x1x520x256_S1x1x512x256_6_0_8_0 _ rfl (View.readAt (Elt Ideal) arg5.view (Rect.unit (s := S1024x2816) ![0, 1536] S1024x256.size inb_S1024x2816_S1024x256_0_1536).toLoadRect (harg5.unread x3)) (fun j l => rd2 harg5 x3 0 1536 _ j l j (col ⟨6, by norm_num⟩ l) (Nat.zero_add _).symm (by show 256 * 6 + l.val = 1536 + l.val; omega)) x)
    (Of.cons (fun x => put2 ⟨6, by norm_num⟩ inb_S11x1x520x256_S1x1x2x256_6_0_6_0 (kernelRun0_B.sl.v352 (F := Ideal) c arg13 harg13 xs0) (fun e l => hal6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v362 (r : Fin 512) (l : Fin 256) : kernelRun0_B.sl.v362 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨6, by norm_num⟩ l) :=
  load arg14.view ⟨6, by norm_num⟩ 6 512 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v368 (r : Fin 512) (l : Fin 256) : kernelRun0_B.sl.v368 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨6, by norm_num⟩ l) :=
  load arg14.view ⟨6, by norm_num⟩ 7 512 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v392 (r : Fin 2) (l : Fin 256) : kernelRun0_B.sl.v392 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨6, by norm_num⟩ l) :=
  load arg14.view ⟨6, by norm_num⟩ 518 2 _ _ _ _ _ (st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st7 : Of (stage (kernelRun0_B.sl.r_1 (F := Ideal) c arg2 harg2 arg4 harg4 x0 x2) x3 xs0) (kernelRun0_B.sl.HS1_16 (F := Ideal) c arg2 harg2 arg4 harg4 arg5 harg5 arg13 harg13 x0 x2 x3 xs0) := by
  unfold kernelRun0_B.sl.HS1_16
  exact Of.cons (fun x => put512 ⟨7, by norm_num⟩ inb_S11x1x520x256_S1x1x512x256_7_0_8_0 _ rfl (View.readAt (Elt Ideal) arg5.view (Rect.unit (s := S1024x2816) ![0, 1792] S1024x256.size inb_S1024x2816_S1024x256_0_1792).toLoadRect (harg5.unread x3)) (fun j l => rd2 harg5 x3 0 1792 _ j l j (col ⟨7, by norm_num⟩ l) (Nat.zero_add _).symm (by show 256 * 7 + l.val = 1792 + l.val; omega)) x)
    (Of.cons (fun x => put2 ⟨7, by norm_num⟩ inb_S11x1x520x256_S1x1x2x256_7_0_6_0 (kernelRun0_B.sl.v406 (F := Ideal) c arg13 harg13 xs0) (fun e l => hal7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v416 (r : Fin 512) (l : Fin 256) : kernelRun0_B.sl.v416 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨7, by norm_num⟩ l) :=
  load arg14.view ⟨7, by norm_num⟩ 6 512 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v422 (r : Fin 512) (l : Fin 256) : kernelRun0_B.sl.v422 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨7, by norm_num⟩ l) :=
  load arg14.view ⟨7, by norm_num⟩ 7 512 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v446 (r : Fin 2) (l : Fin 256) : kernelRun0_B.sl.v446 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨7, by norm_num⟩ l) :=
  load arg14.view ⟨7, by norm_num⟩ 518 2 _ _ _ _ _ (st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st8 : Of (stage (kernelRun0_B.sl.r_1 (F := Ideal) c arg2 harg2 arg4 harg4 x0 x2) x3 xs0) (kernelRun0_B.sl.HS1_18 (F := Ideal) c arg2 harg2 arg4 harg4 arg5 harg5 arg13 harg13 x0 x2 x3 xs0) := by
  unfold kernelRun0_B.sl.HS1_18
  exact Of.cons (fun x => put512 ⟨8, by norm_num⟩ inb_S11x1x520x256_S1x1x512x256_8_0_8_0 _ rfl (View.readAt (Elt Ideal) arg5.view (Rect.unit (s := S1024x2816) ![0, 2048] S1024x256.size inb_S1024x2816_S1024x256_0_2048).toLoadRect (harg5.unread x3)) (fun j l => rd2 harg5 x3 0 2048 _ j l j (col ⟨8, by norm_num⟩ l) (Nat.zero_add _).symm (by show 256 * 8 + l.val = 2048 + l.val; omega)) x)
    (Of.cons (fun x => put2 ⟨8, by norm_num⟩ inb_S11x1x520x256_S1x1x2x256_8_0_6_0 (kernelRun0_B.sl.v460 (F := Ideal) c arg13 harg13 xs0) (fun e l => hal8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v470 (r : Fin 512) (l : Fin 256) : kernelRun0_B.sl.v470 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨8, by norm_num⟩ l) :=
  load arg14.view ⟨8, by norm_num⟩ 6 512 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v476 (r : Fin 512) (l : Fin 256) : kernelRun0_B.sl.v476 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨8, by norm_num⟩ l) :=
  load arg14.view ⟨8, by norm_num⟩ 7 512 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v500 (r : Fin 2) (l : Fin 256) : kernelRun0_B.sl.v500 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨8, by norm_num⟩ l) :=
  load arg14.view ⟨8, by norm_num⟩ 518 2 _ _ _ _ _ (st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st9 : Of (stage (kernelRun0_B.sl.r_1 (F := Ideal) c arg2 harg2 arg4 harg4 x0 x2) x3 xs0) (kernelRun0_B.sl.HS1_20 (F := Ideal) c arg2 harg2 arg4 harg4 arg5 harg5 arg13 harg13 x0 x2 x3 xs0) := by
  unfold kernelRun0_B.sl.HS1_20
  exact Of.cons (fun x => put512 ⟨9, by norm_num⟩ inb_S11x1x520x256_S1x1x512x256_9_0_8_0 _ rfl (View.readAt (Elt Ideal) arg5.view (Rect.unit (s := S1024x2816) ![0, 2304] S1024x256.size inb_S1024x2816_S1024x256_0_2304).toLoadRect (harg5.unread x3)) (fun j l => rd2 harg5 x3 0 2304 _ j l j (col ⟨9, by norm_num⟩ l) (Nat.zero_add _).symm (by show 256 * 9 + l.val = 2304 + l.val; omega)) x)
    (Of.cons (fun x => put2 ⟨9, by norm_num⟩ inb_S11x1x520x256_S1x1x2x256_9_0_6_0 (kernelRun0_B.sl.v514 (F := Ideal) c arg13 harg13 xs0) (fun e l => hal9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v524 (r : Fin 512) (l : Fin 256) : kernelRun0_B.sl.v524 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨9, by norm_num⟩ l) :=
  load arg14.view ⟨9, by norm_num⟩ 6 512 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v530 (r : Fin 512) (l : Fin 256) : kernelRun0_B.sl.v530 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨9, by norm_num⟩ l) :=
  load arg14.view ⟨9, by norm_num⟩ 7 512 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v554 (r : Fin 2) (l : Fin 256) : kernelRun0_B.sl.v554 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨9, by norm_num⟩ l) :=
  load arg14.view ⟨9, by norm_num⟩ 518 2 _ _ _ _ _ (st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem st10 : Of (stage (kernelRun0_B.sl.r_1 (F := Ideal) c arg2 harg2 arg4 harg4 x0 x2) x3 xs0) (kernelRun0_B.sl.HS1_22 (F := Ideal) c arg2 harg2 arg4 harg4 arg5 harg5 arg13 harg13 x0 x2 x3 xs0) := by
  unfold kernelRun0_B.sl.HS1_22
  exact Of.cons (fun x => put512 ⟨10, by norm_num⟩ inb_S11x1x520x256_S1x1x512x256_10_0_8_0 _ rfl (View.readAt (Elt Ideal) arg5.view (Rect.unit (s := S1024x2816) ![0, 2560] S1024x256.size inb_S1024x2816_S1024x256_0_2560).toLoadRect (harg5.unread x3)) (fun j l => rd2 harg5 x3 0 2560 _ j l j (col ⟨10, by norm_num⟩ l) (Nat.zero_add _).symm (by show 256 * 10 + l.val = 2560 + l.val; omega)) x)
    (Of.cons (fun x => put2 ⟨10, by norm_num⟩ inb_S11x1x520x256_S1x1x2x256_10_0_6_0 (kernelRun0_B.sl.v568 (F := Ideal) c arg13 harg13 xs0) (fun e l => hal10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) x) ((st9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)))
theorem rd_v578 (r : Fin 512) (l : Fin 256) : kernelRun0_B.sl.v578 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (6 - 6 + r.val) (col ⟨10, by norm_num⟩ l) :=
  load arg14.view ⟨10, by norm_num⟩ 6 512 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v584 (r : Fin 512) (l : Fin 256) : kernelRun0_B.sl.v584 (F := Ideal) c arg2 harg2 arg4 harg4 arg5 harg5 arg13 harg13 arg14 x0 x2 x3 xs0 (ix4 (n0 := 1) (n1 := 1) (n2 := 512) (n3 := 256) 0 0 r l) = tap (kernelRun0_B.sl.r_1 (F := Ideal) c arg2 harg2 arg4 harg4 x0 x2) x3 xs0 (7 - 6 + r.val) (col ⟨10, by norm_num⟩ l) :=
  load arg14.view ⟨10, by norm_num⟩ 7 512 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem rd_v608 (r : Fin 2) (l : Fin 256) : kernelRun0_B.sl.v608 (F := Ideal) c arg2 harg2 arg4 harg4 arg5 harg5 arg13 harg13 arg14 x0 x2 x3 xs0 (ix4 (n0 := 1) (n1 := 1) (n2 := 2) (n3 := 256) 0 0 r l) = tap (kernelRun0_B.sl.r_1 (F := Ideal) c arg2 harg2 arg4 harg4 x0 x2) x3 xs0 (518 - 6 + r.val) (col ⟨10, by norm_num⟩ l) :=
  load arg14.view ⟨10, by norm_num⟩ 518 2 _ _ _ _ _ (st10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0) _ (by norm_num) r l
theorem ac10 (x : S512x256.Idx) : (k0_pay93 (kernelRun0_B.sl.r_38 (F := Ideal) c arg2 harg2 arg4 harg4 arg5 harg5 x0 x2 x3) (kernelRun0_B.sl.r_39 (F := Ideal) c arg2 harg2 arg4 harg4 arg6 harg6 x0 x2 x4) (kernelRun0_B.sl.r_40 (F := Ideal) c arg8 harg8 x6) (kernelRun0_B.sl.r_41 (F := Ideal) c arg2 harg2 arg4 harg4 arg5 harg5 arg8 harg8 arg13 harg13 arg14 x0 x2 x3 x6 xs0) (kernelRun0_B.sl.v584 (F := Ideal) c arg2 harg2 arg4 harg4 arg5 harg5 arg13 harg13 arg14 x0 x2 x3 xs0) (View.readAt (Elt Ideal) arg9.view (Rect.unit (s := S1x2816) ![0, 2560] S1x256.size inb_S1x2816_S1x256_0_2560).toLoadRect (harg9.unread x7))) x = act (kernelRun0_B.sl.r_1 (F := Ideal) c arg2 harg2 arg4 harg4 x0 x2) x3 x4 x6 x7 xs0 ((Rect.unit (s := S512x2816) ![0, 2560] S512x256.size inb_S512x2816_S512x256_0_2560).emb x) :=
  putAct ⟨10, by norm_num⟩ 2560 rfl inb_S512x2816_S512x256_0_2560 (kernelRun0_B.sl.r_1 (F := Ideal) c arg2 harg2 arg4 harg4 x0 x2) rfl (View.readAt (Elt Ideal) arg5.view (Rect.unit (s := S1024x2816) ![0, 2560] S1024x256.size inb_S1024x2816_S1024x256_0_2560).toLoadRect (harg5.unread x3)) (View.readAt (Elt Ideal) arg6.view (Rect.unit (s := S1024x2816) ![0, 2560] S1024x256.size inb_S1024x2816_S1024x256_0_2560).toLoadRect (harg6.unread x4)) (fun j l => rd2 harg5 x3 0 2560 _ j l j (col ⟨10, by norm_num⟩ l) (Nat.zero_add _).symm (by show 256 * 10 + l.val = 2560 + l.val; omega)) (fun j l => rd2 harg6 x4 0 2560 _ j l j (col ⟨10, by norm_num⟩ l) (Nat.zero_add _).symm (by show 256 * 10 + l.val = 2560 + l.val; omega)) (View.readAt (Elt Ideal) arg8.view (Rect.unit (s := S8x2816) ![0, 2560] S8x256.size inb_S8x2816_S8x256_0_2560).toLoadRect (harg8.unread x6)) (fun j l => rd2 harg8 x6 0 2560 _ j l j (col ⟨10, by norm_num⟩ l) (Nat.zero_add _).symm (by show 256 * 10 + l.val = 2560 + l.val; omega))
    (kernelRun0_B.sl.v578 (F := Ideal) c arg2 harg2 arg4 harg4 arg5 harg5 arg13 harg13 arg14 x0 x2 x3 xs0) (kernelRun0_B.sl.v584 (F := Ideal) c arg2 harg2 arg4 harg4 arg5 harg5 arg13 harg13 arg14 x0 x2 x3 xs0) (fun r l => rd_v578 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v584 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 2560] S1x256.size inb_S1x2816_S1x256_0_2560).toLoadRect (harg9.unread x7)) (fun j l => rd2 harg9 x7 0 2560 _ j l j (col ⟨10, by norm_num⟩ l) (Nat.zero_add _).symm (by show 256 * 10 + l.val = 2560 + l.val; omega)) x
theorem ac9 (x : S512x256.Idx) : (k0_pay84 (kernelRun0_B.sl.r_35 (F := Ideal) c arg2 harg2 arg4 harg4 arg5 harg5 x0 x2 x3) (kernelRun0_B.sl.r_36 (F := Ideal) c arg2 harg2 arg4 harg4 arg6 harg6 x0 x2 x4) (View.readAt (Elt Ideal) arg8.view (Rect.unit (s := S8x2816) ![0, 2304] S8x256.size inb_S8x2816_S8x256_0_2304).toLoadRect (harg8.unread x6)) (kernelRun0_B.sl.v524 (F := Ideal) c arg2 harg2 arg4 harg4 arg5 harg5 arg13 harg13 arg14 x0 x2 x3 xs0) (kernelRun0_B.sl.v530 (F := Ideal) c arg2 harg2 arg4 harg4 arg5 harg5 arg13 harg13 arg14 x0 x2 x3 xs0) (View.readAt (Elt Ideal) arg9.view (Rect.unit (s := S1x2816) ![0, 2304] S1x256.size inb_S1x2816_S1x256_0_2304).toLoadRect (harg9.unread x7))) x = act (kernelRun0_B.sl.r_1 (F := Ideal) c arg2 harg2 arg4 harg4 x0 x2) x3 x4 x6 x7 xs0 ((Rect.unit (s := S512x2816) ![0, 2304] S512x256.size inb_S512x2816_S512x256_0_2304).emb x) :=
  putAct ⟨9, by norm_num⟩ 2304 rfl inb_S512x2816_S512x256_0_2304 (kernelRun0_B.sl.r_1 (F := Ideal) c arg2 harg2 arg4 harg4 x0 x2) rfl (View.readAt (Elt Ideal) arg5.view (Rect.unit (s := S1024x2816) ![0, 2304] S1024x256.size inb_S1024x2816_S1024x256_0_2304).toLoadRect (harg5.unread x3)) (View.readAt (Elt Ideal) arg6.view (Rect.unit (s := S1024x2816) ![0, 2304] S1024x256.size inb_S1024x2816_S1024x256_0_2304).toLoadRect (harg6.unread x4)) (fun j l => rd2 harg5 x3 0 2304 _ j l j (col ⟨9, by norm_num⟩ l) (Nat.zero_add _).symm (by show 256 * 9 + l.val = 2304 + l.val; omega)) (fun j l => rd2 harg6 x4 0 2304 _ j l j (col ⟨9, by norm_num⟩ l) (Nat.zero_add _).symm (by show 256 * 9 + l.val = 2304 + l.val; omega)) (View.readAt (Elt Ideal) arg8.view (Rect.unit (s := S8x2816) ![0, 2304] S8x256.size inb_S8x2816_S8x256_0_2304).toLoadRect (harg8.unread x6)) (fun j l => rd2 harg8 x6 0 2304 _ j l j (col ⟨9, by norm_num⟩ l) (Nat.zero_add _).symm (by show 256 * 9 + l.val = 2304 + l.val; omega))
    (kernelRun0_B.sl.v524 (F := Ideal) c arg2 harg2 arg4 harg4 arg5 harg5 arg13 harg13 arg14 x0 x2 x3 xs0) (kernelRun0_B.sl.v530 (F := Ideal) c arg2 harg2 arg4 harg4 arg5 harg5 arg13 harg13 arg14 x0 x2 x3 xs0) (fun r l => rd_v524 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v530 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 2304] S1x256.size inb_S1x2816_S1x256_0_2304).toLoadRect (harg9.unread x7)) (fun j l => rd2 harg9 x7 0 2304 _ j l j (col ⟨9, by norm_num⟩ l) (Nat.zero_add _).symm (by show 256 * 9 + l.val = 2304 + l.val; omega)) x
theorem ac8 (x : S512x256.Idx) : (k0_pay77 (kernelRun0_B.sl.r_32 (F := Ideal) c arg2 harg2 arg4 harg4 arg6 harg6 x0 x2 x4) (kernelRun0_B.sl.r_33 (F := Ideal) c arg2 harg2 arg4 harg4 arg5 harg5 arg8 harg8 arg13 harg13 arg14 x0 x2 x3 x6 xs0) (kernelRun0_B.sl.r_34 (F := Ideal) c arg9 harg9 x7)) x = act (kernelRun0_B.sl.r_1 (F := Ideal) c arg2 harg2 arg4 harg4 x0 x2) x3 x4 x6 x7 xs0 ((Rect.unit (s := S512x2816) ![0, 2048] S512x256.size inb_S512x2816_S512x256_0_2048).emb x) :=
  putAct ⟨8, by norm_num⟩ 2048 rfl inb_S512x2816_S512x256_0_2048 (kernelRun0_B.sl.r_1 (F := Ideal) c arg2 harg2 arg4 harg4 x0 x2) rfl (View.readAt (Elt Ideal) arg5.view (Rect.unit (s := S1024x2816) ![0, 2048] S1024x256.size inb_S1024x2816_S1024x256_0_2048).toLoadRect (harg5.unread x3)) (View.readAt (Elt Ideal) arg6.view (Rect.unit (s := S1024x2816) ![0, 2048] S1024x256.size inb_S1024x2816_S1024x256_0_2048).toLoadRect (harg6.unread x4)) (fun j l => rd2 harg5 x3 0 2048 _ j l j (col ⟨8, by norm_num⟩ l) (Nat.zero_add _).symm (by show 256 * 8 + l.val = 2048 + l.val; omega)) (fun j l => rd2 harg6 x4 0 2048 _ j l j (col ⟨8, by norm_num⟩ l) (Nat.zero_add _).symm (by show 256 * 8 + l.val = 2048 + l.val; omega)) (View.readAt (Elt Ideal) arg8.view (Rect.unit (s := S8x2816) ![0, 2048] S8x256.size inb_S8x2816_S8x256_0_2048).toLoadRect (harg8.unread x6)) (fun j l => rd2 harg8 x6 0 2048 _ j l j (col ⟨8, by norm_num⟩ l) (Nat.zero_add _).symm (by show 256 * 8 + l.val = 2048 + l.val; omega))
    (kernelRun0_B.sl.v470 (F := Ideal) c arg2 harg2 arg4 harg4 arg5 harg5 arg13 harg13 arg14 x0 x2 x3 xs0) (kernelRun0_B.sl.v476 (F := Ideal) c arg2 harg2 arg4 harg4 arg5 harg5 arg13 harg13 arg14 x0 x2 x3 xs0) (fun r l => rd_v470 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v476 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 2048] S1x256.size inb_S1x2816_S1x256_0_2048).toLoadRect (harg9.unread x7)) (fun j l => rd2 harg9 x7 0 2048 _ j l j (col ⟨8, by norm_num⟩ l) (Nat.zero_add _).symm (by show 256 * 8 + l.val = 2048 + l.val; omega)) x
theorem ac7 (x : S512x256.Idx) : (k0_pay68 (kernelRun0_B.sl.r_27 (F := Ideal) c arg2 harg2 arg4 harg4 arg5 harg5 x0 x2 x3) (kernelRun0_B.sl.r_28 (F := Ideal) c arg2 harg2 arg4 harg4 arg6 harg6 x0 x2 x4) (kernelRun0_B.sl.r_29 (F := Ideal) c arg8 harg8 x6) (kernelRun0_B.sl.r_30 (F := Ideal) c arg2 harg2 arg4 harg4 arg5 harg5 arg8 harg8 arg13 harg13 arg14 x0 x2 x3 x6 xs0) (kernelRun0_B.sl.v422 (F := Ideal) c arg2 harg2 arg4 harg4 arg5 harg5 arg13 harg13 arg14 x0 x2 x3 xs0) (View.readAt (Elt Ideal) arg9.view (Rect.unit (s := S1x2816) ![0, 1792] S1x256.size inb_S1x2816_S1x256_0_1792).toLoadRect (harg9.unread x7))) x = act (kernelRun0_B.sl.r_1 (F := Ideal) c arg2 harg2 arg4 harg4 x0 x2) x3 x4 x6 x7 xs0 ((Rect.unit (s := S512x2816) ![0, 1792] S512x256.size inb_S512x2816_S512x256_0_1792).emb x) :=
  putAct ⟨7, by norm_num⟩ 1792 rfl inb_S512x2816_S512x256_0_1792 (kernelRun0_B.sl.r_1 (F := Ideal) c arg2 harg2 arg4 harg4 x0 x2) rfl (View.readAt (Elt Ideal) arg5.view (Rect.unit (s := S1024x2816) ![0, 1792] S1024x256.size inb_S1024x2816_S1024x256_0_1792).toLoadRect (harg5.unread x3)) (View.readAt (Elt Ideal) arg6.view (Rect.unit (s := S1024x2816) ![0, 1792] S1024x256.size inb_S1024x2816_S1024x256_0_1792).toLoadRect (harg6.unread x4)) (fun j l => rd2 harg5 x3 0 1792 _ j l j (col ⟨7, by norm_num⟩ l) (Nat.zero_add _).symm (by show 256 * 7 + l.val = 1792 + l.val; omega)) (fun j l => rd2 harg6 x4 0 1792 _ j l j (col ⟨7, by norm_num⟩ l) (Nat.zero_add _).symm (by show 256 * 7 + l.val = 1792 + l.val; omega)) (View.readAt (Elt Ideal) arg8.view (Rect.unit (s := S8x2816) ![0, 1792] S8x256.size inb_S8x2816_S8x256_0_1792).toLoadRect (harg8.unread x6)) (fun j l => rd2 harg8 x6 0 1792 _ j l j (col ⟨7, by norm_num⟩ l) (Nat.zero_add _).symm (by show 256 * 7 + l.val = 1792 + l.val; omega))
    (kernelRun0_B.sl.v416 (F := Ideal) c arg2 harg2 arg4 harg4 arg5 harg5 arg13 harg13 arg14 x0 x2 x3 xs0) (kernelRun0_B.sl.v422 (F := Ideal) c arg2 harg2 arg4 harg4 arg5 harg5 arg13 harg13 arg14 x0 x2 x3 xs0) (fun r l => rd_v416 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v422 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 1792] S1x256.size inb_S1x2816_S1x256_0_1792).toLoadRect (harg9.unread x7)) (fun j l => rd2 harg9 x7 0 1792 _ j l j (col ⟨7, by norm_num⟩ l) (Nat.zero_add _).symm (by show 256 * 7 + l.val = 1792 + l.val; omega)) x
theorem ac6 (x : S512x256.Idx) : (k0_pay59 (kernelRun0_B.sl.r_24 (F := Ideal) c arg2 harg2 arg4 harg4 arg5 harg5 x0 x2 x3) (kernelRun0_B.sl.r_25 (F := Ideal) c arg2 harg2 arg4 harg4 arg6 harg6 x0 x2 x4) (View.readAt (Elt Ideal) arg8.view (Rect.unit (s := S8x2816) ![0, 1536] S8x256.size inb_S8x2816_S8x256_0_1536).toLoadRect (harg8.unread x6)) (kernelRun0_B.sl.v362 (F := Ideal) c arg2 harg2 arg4 harg4 arg5 harg5 arg13 harg13 arg14 x0 x2 x3 xs0) (kernelRun0_B.sl.v368 (F := Ideal) c arg2 harg2 arg4 harg4 arg5 harg5 arg13 harg13 arg14 x0 x2 x3 xs0) (View.readAt (Elt Ideal) arg9.view (Rect.unit (s := S1x2816) ![0, 1536] S1x256.size inb_S1x2816_S1x256_0_1536).toLoadRect (harg9.unread x7))) x = act (kernelRun0_B.sl.r_1 (F := Ideal) c arg2 harg2 arg4 harg4 x0 x2) x3 x4 x6 x7 xs0 ((Rect.unit (s := S512x2816) ![0, 1536] S512x256.size inb_S512x2816_S512x256_0_1536).emb x) :=
  putAct ⟨6, by norm_num⟩ 1536 rfl inb_S512x2816_S512x256_0_1536 (kernelRun0_B.sl.r_1 (F := Ideal) c arg2 harg2 arg4 harg4 x0 x2) rfl (View.readAt (Elt Ideal) arg5.view (Rect.unit (s := S1024x2816) ![0, 1536] S1024x256.size inb_S1024x2816_S1024x256_0_1536).toLoadRect (harg5.unread x3)) (View.readAt (Elt Ideal) arg6.view (Rect.unit (s := S1024x2816) ![0, 1536] S1024x256.size inb_S1024x2816_S1024x256_0_1536).toLoadRect (harg6.unread x4)) (fun j l => rd2 harg5 x3 0 1536 _ j l j (col ⟨6, by norm_num⟩ l) (Nat.zero_add _).symm (by show 256 * 6 + l.val = 1536 + l.val; omega)) (fun j l => rd2 harg6 x4 0 1536 _ j l j (col ⟨6, by norm_num⟩ l) (Nat.zero_add _).symm (by show 256 * 6 + l.val = 1536 + l.val; omega)) (View.readAt (Elt Ideal) arg8.view (Rect.unit (s := S8x2816) ![0, 1536] S8x256.size inb_S8x2816_S8x256_0_1536).toLoadRect (harg8.unread x6)) (fun j l => rd2 harg8 x6 0 1536 _ j l j (col ⟨6, by norm_num⟩ l) (Nat.zero_add _).symm (by show 256 * 6 + l.val = 1536 + l.val; omega))
    (kernelRun0_B.sl.v362 (F := Ideal) c arg2 harg2 arg4 harg4 arg5 harg5 arg13 harg13 arg14 x0 x2 x3 xs0) (kernelRun0_B.sl.v368 (F := Ideal) c arg2 harg2 arg4 harg4 arg5 harg5 arg13 harg13 arg14 x0 x2 x3 xs0) (fun r l => rd_v362 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v368 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 1536] S1x256.size inb_S1x2816_S1x256_0_1536).toLoadRect (harg9.unread x7)) (fun j l => rd2 harg9 x7 0 1536 _ j l j (col ⟨6, by norm_num⟩ l) (Nat.zero_add _).symm (by show 256 * 6 + l.val = 1536 + l.val; omega)) x
theorem ac5 (x : S512x256.Idx) : (k0_pay52 (kernelRun0_B.sl.r_21 (F := Ideal) c arg2 harg2 arg4 harg4 arg6 harg6 x0 x2 x4) (kernelRun0_B.sl.r_22 (F := Ideal) c arg2 harg2 arg4 harg4 arg5 harg5 arg8 harg8 arg13 harg13 arg14 x0 x2 x3 x6 xs0) (kernelRun0_B.sl.r_23 (F := Ideal) c arg9 harg9 x7)) x = act (kernelRun0_B.sl.r_1 (F := Ideal) c arg2 harg2 arg4 harg4 x0 x2) x3 x4 x6 x7 xs0 ((Rect.unit (s := S512x2816) ![0, 1280] S512x256.size inb_S512x2816_S512x256_0_1280).emb x) :=
  putAct ⟨5, by norm_num⟩ 1280 rfl inb_S512x2816_S512x256_0_1280 (kernelRun0_B.sl.r_1 (F := Ideal) c arg2 harg2 arg4 harg4 x0 x2) rfl (View.readAt (Elt Ideal) arg5.view (Rect.unit (s := S1024x2816) ![0, 1280] S1024x256.size inb_S1024x2816_S1024x256_0_1280).toLoadRect (harg5.unread x3)) (View.readAt (Elt Ideal) arg6.view (Rect.unit (s := S1024x2816) ![0, 1280] S1024x256.size inb_S1024x2816_S1024x256_0_1280).toLoadRect (harg6.unread x4)) (fun j l => rd2 harg5 x3 0 1280 _ j l j (col ⟨5, by norm_num⟩ l) (Nat.zero_add _).symm (by show 256 * 5 + l.val = 1280 + l.val; omega)) (fun j l => rd2 harg6 x4 0 1280 _ j l j (col ⟨5, by norm_num⟩ l) (Nat.zero_add _).symm (by show 256 * 5 + l.val = 1280 + l.val; omega)) (View.readAt (Elt Ideal) arg8.view (Rect.unit (s := S8x2816) ![0, 1280] S8x256.size inb_S8x2816_S8x256_0_1280).toLoadRect (harg8.unread x6)) (fun j l => rd2 harg8 x6 0 1280 _ j l j (col ⟨5, by norm_num⟩ l) (Nat.zero_add _).symm (by show 256 * 5 + l.val = 1280 + l.val; omega))
    (kernelRun0_B.sl.v308 (F := Ideal) c arg2 harg2 arg4 harg4 arg5 harg5 arg13 harg13 arg14 x0 x2 x3 xs0) (kernelRun0_B.sl.v314 (F := Ideal) c arg2 harg2 arg4 harg4 arg5 harg5 arg13 harg13 arg14 x0 x2 x3 xs0) (fun r l => rd_v308 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v314 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 1280] S1x256.size inb_S1x2816_S1x256_0_1280).toLoadRect (harg9.unread x7)) (fun j l => rd2 harg9 x7 0 1280 _ j l j (col ⟨5, by norm_num⟩ l) (Nat.zero_add _).symm (by show 256 * 5 + l.val = 1280 + l.val; omega)) x
theorem ac4 (x : S512x256.Idx) : (k0_pay43 (kernelRun0_B.sl.r_16 (F := Ideal) c arg2 harg2 arg4 harg4 arg5 harg5 x0 x2 x3) (kernelRun0_B.sl.r_17 (F := Ideal) c arg2 harg2 arg4 harg4 arg6 harg6 x0 x2 x4) (kernelRun0_B.sl.r_18 (F := Ideal) c arg8 harg8 x6) (kernelRun0_B.sl.r_19 (F := Ideal) c arg2 harg2 arg4 harg4 arg5 harg5 arg8 harg8 arg13 harg13 arg14 x0 x2 x3 x6 xs0) (kernelRun0_B.sl.v260 (F := Ideal) c arg2 harg2 arg4 harg4 arg5 harg5 arg13 harg13 arg14 x0 x2 x3 xs0) (View.readAt (Elt Ideal) arg9.view (Rect.unit (s := S1x2816) ![0, 1024] S1x256.size inb_S1x2816_S1x256_0_1024).toLoadRect (harg9.unread x7))) x = act (kernelRun0_B.sl.r_1 (F := Ideal) c arg2 harg2 arg4 harg4 x0 x2) x3 x4 x6 x7 xs0 ((Rect.unit (s := S512x2816) ![0, 1024] S512x256.size inb_S512x2816_S512x256_0_1024).emb x) :=
  putAct ⟨4, by norm_num⟩ 1024 rfl inb_S512x2816_S512x256_0_1024 (kernelRun0_B.sl.r_1 (F := Ideal) c arg2 harg2 arg4 harg4 x0 x2) rfl (View.readAt (Elt Ideal) arg5.view (Rect.unit (s := S1024x2816) ![0, 1024] S1024x256.size inb_S1024x2816_S1024x256_0_1024).toLoadRect (harg5.unread x3)) (View.readAt (Elt Ideal) arg6.view (Rect.unit (s := S1024x2816) ![0, 1024] S1024x256.size inb_S1024x2816_S1024x256_0_1024).toLoadRect (harg6.unread x4)) (fun j l => rd2 harg5 x3 0 1024 _ j l j (col ⟨4, by norm_num⟩ l) (Nat.zero_add _).symm (by show 256 * 4 + l.val = 1024 + l.val; omega)) (fun j l => rd2 harg6 x4 0 1024 _ j l j (col ⟨4, by norm_num⟩ l) (Nat.zero_add _).symm (by show 256 * 4 + l.val = 1024 + l.val; omega)) (View.readAt (Elt Ideal) arg8.view (Rect.unit (s := S8x2816) ![0, 1024] S8x256.size inb_S8x2816_S8x256_0_1024).toLoadRect (harg8.unread x6)) (fun j l => rd2 harg8 x6 0 1024 _ j l j (col ⟨4, by norm_num⟩ l) (Nat.zero_add _).symm (by show 256 * 4 + l.val = 1024 + l.val; omega))
    (kernelRun0_B.sl.v254 (F := Ideal) c arg2 harg2 arg4 harg4 arg5 harg5 arg13 harg13 arg14 x0 x2 x3 xs0) (kernelRun0_B.sl.v260 (F := Ideal) c arg2 harg2 arg4 harg4 arg5 harg5 arg13 harg13 arg14 x0 x2 x3 xs0) (fun r l => rd_v254 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v260 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 1024] S1x256.size inb_S1x2816_S1x256_0_1024).toLoadRect (harg9.unread x7)) (fun j l => rd2 harg9 x7 0 1024 _ j l j (col ⟨4, by norm_num⟩ l) (Nat.zero_add _).symm (by show 256 * 4 + l.val = 1024 + l.val; omega)) x
theorem ac3 (x : S512x256.Idx) : (k0_pay34 (kernelRun0_B.sl.r_13 (F := Ideal) c arg2 harg2 arg4 harg4 arg5 harg5 x0 x2 x3) (kernelRun0_B.sl.r_14 (F := Ideal) c arg2 harg2 arg4 harg4 arg6 harg6 x0 x2 x4) (View.readAt (Elt Ideal) arg8.view (Rect.unit (s := S8x2816) ![0, 768] S8x256.size inb_S8x2816_S8x256_0_768).toLoadRect (harg8.unread x6)) (kernelRun0_B.sl.v200 (F := Ideal) c arg2 harg2 arg4 harg4 arg5 harg5 arg13 harg13 arg14 x0 x2 x3 xs0) (kernelRun0_B.sl.v206 (F := Ideal) c arg2 harg2 arg4 harg4 arg5 harg5 arg13 harg13 arg14 x0 x2 x3 xs0) (View.readAt (Elt Ideal) arg9.view (Rect.unit (s := S1x2816) ![0, 768] S1x256.size inb_S1x2816_S1x256_0_768).toLoadRect (harg9.unread x7))) x = act (kernelRun0_B.sl.r_1 (F := Ideal) c arg2 harg2 arg4 harg4 x0 x2) x3 x4 x6 x7 xs0 ((Rect.unit (s := S512x2816) ![0, 768] S512x256.size inb_S512x2816_S512x256_0_768).emb x) :=
  putAct ⟨3, by norm_num⟩ 768 rfl inb_S512x2816_S512x256_0_768 (kernelRun0_B.sl.r_1 (F := Ideal) c arg2 harg2 arg4 harg4 x0 x2) rfl (View.readAt (Elt Ideal) arg5.view (Rect.unit (s := S1024x2816) ![0, 768] S1024x256.size inb_S1024x2816_S1024x256_0_768).toLoadRect (harg5.unread x3)) (View.readAt (Elt Ideal) arg6.view (Rect.unit (s := S1024x2816) ![0, 768] S1024x256.size inb_S1024x2816_S1024x256_0_768).toLoadRect (harg6.unread x4)) (fun j l => rd2 harg5 x3 0 768 _ j l j (col ⟨3, by norm_num⟩ l) (Nat.zero_add _).symm (by show 256 * 3 + l.val = 768 + l.val; omega)) (fun j l => rd2 harg6 x4 0 768 _ j l j (col ⟨3, by norm_num⟩ l) (Nat.zero_add _).symm (by show 256 * 3 + l.val = 768 + l.val; omega)) (View.readAt (Elt Ideal) arg8.view (Rect.unit (s := S8x2816) ![0, 768] S8x256.size inb_S8x2816_S8x256_0_768).toLoadRect (harg8.unread x6)) (fun j l => rd2 harg8 x6 0 768 _ j l j (col ⟨3, by norm_num⟩ l) (Nat.zero_add _).symm (by show 256 * 3 + l.val = 768 + l.val; omega))
    (kernelRun0_B.sl.v200 (F := Ideal) c arg2 harg2 arg4 harg4 arg5 harg5 arg13 harg13 arg14 x0 x2 x3 xs0) (kernelRun0_B.sl.v206 (F := Ideal) c arg2 harg2 arg4 harg4 arg5 harg5 arg13 harg13 arg14 x0 x2 x3 xs0) (fun r l => rd_v200 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v206 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 768] S1x256.size inb_S1x2816_S1x256_0_768).toLoadRect (harg9.unread x7)) (fun j l => rd2 harg9 x7 0 768 _ j l j (col ⟨3, by norm_num⟩ l) (Nat.zero_add _).symm (by show 256 * 3 + l.val = 768 + l.val; omega)) x
theorem ac2 (x : S512x256.Idx) : (k0_pay27 (kernelRun0_B.sl.r_10 (F := Ideal) c arg2 harg2 arg4 harg4 arg6 harg6 x0 x2 x4) (kernelRun0_B.sl.r_11 (F := Ideal) c arg2 harg2 arg4 harg4 arg5 harg5 arg8 harg8 arg13 harg13 arg14 x0 x2 x3 x6 xs0) (kernelRun0_B.sl.r_12 (F := Ideal) c arg9 harg9 x7)) x = act (kernelRun0_B.sl.r_1 (F := Ideal) c arg2 harg2 arg4 harg4 x0 x2) x3 x4 x6 x7 xs0 ((Rect.unit (s := S512x2816) ![0, 512] S512x256.size inb_S512x2816_S512x256_0_512).emb x) :=
  putAct ⟨2, by norm_num⟩ 512 rfl inb_S512x2816_S512x256_0_512 (kernelRun0_B.sl.r_1 (F := Ideal) c arg2 harg2 arg4 harg4 x0 x2) rfl (View.readAt (Elt Ideal) arg5.view (Rect.unit (s := S1024x2816) ![0, 512] S1024x256.size inb_S1024x2816_S1024x256_0_512).toLoadRect (harg5.unread x3)) (View.readAt (Elt Ideal) arg6.view (Rect.unit (s := S1024x2816) ![0, 512] S1024x256.size inb_S1024x2816_S1024x256_0_512).toLoadRect (harg6.unread x4)) (fun j l => rd2 harg5 x3 0 512 _ j l j (col ⟨2, by norm_num⟩ l) (Nat.zero_add _).symm (by show 256 * 2 + l.val = 512 + l.val; omega)) (fun j l => rd2 harg6 x4 0 512 _ j l j (col ⟨2, by norm_num⟩ l) (Nat.zero_add _).symm (by show 256 * 2 + l.val = 512 + l.val; omega)) (View.readAt (Elt Ideal) arg8.view (Rect.unit (s := S8x2816) ![0, 512] S8x256.size inb_S8x2816_S8x256_0_512).toLoadRect (harg8.unread x6)) (fun j l => rd2 harg8 x6 0 512 _ j l j (col ⟨2, by norm_num⟩ l) (Nat.zero_add _).symm (by show 256 * 2 + l.val = 512 + l.val; omega))
    (kernelRun0_B.sl.v146 (F := Ideal) c arg2 harg2 arg4 harg4 arg5 harg5 arg13 harg13 arg14 x0 x2 x3 xs0) (kernelRun0_B.sl.v152 (F := Ideal) c arg2 harg2 arg4 harg4 arg5 harg5 arg13 harg13 arg14 x0 x2 x3 xs0) (fun r l => rd_v146 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v152 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 512] S1x256.size inb_S1x2816_S1x256_0_512).toLoadRect (harg9.unread x7)) (fun j l => rd2 harg9 x7 0 512 _ j l j (col ⟨2, by norm_num⟩ l) (Nat.zero_add _).symm (by show 256 * 2 + l.val = 512 + l.val; omega)) x
theorem ac1 (x : S512x256.Idx) : (k0_pay18 (kernelRun0_B.sl.r_5 (F := Ideal) c arg2 harg2 arg4 harg4 arg5 harg5 x0 x2 x3) (kernelRun0_B.sl.r_6 (F := Ideal) c arg2 harg2 arg4 harg4 arg6 harg6 x0 x2 x4) (kernelRun0_B.sl.r_7 (F := Ideal) c arg8 harg8 x6) (kernelRun0_B.sl.r_8 (F := Ideal) c arg2 harg2 arg4 harg4 arg5 harg5 arg8 harg8 arg13 harg13 arg14 x0 x2 x3 x6 xs0) (kernelRun0_B.sl.v98 (F := Ideal) c arg2 harg2 arg4 harg4 arg5 harg5 arg13 harg13 arg14 x0 x2 x3 xs0) (View.readAt (Elt Ideal) arg9.view (Rect.unit (s := S1x2816) ![0, 256] S1x256.size inb_S1x2816_S1x256_0_256).toLoadRect (harg9.unread x7))) x = act (kernelRun0_B.sl.r_1 (F := Ideal) c arg2 harg2 arg4 harg4 x0 x2) x3 x4 x6 x7 xs0 ((Rect.unit (s := S512x2816) ![0, 256] S512x256.size inb_S512x2816_S512x256_0_256).emb x) :=
  putAct ⟨1, by norm_num⟩ 256 rfl inb_S512x2816_S512x256_0_256 (kernelRun0_B.sl.r_1 (F := Ideal) c arg2 harg2 arg4 harg4 x0 x2) rfl (View.readAt (Elt Ideal) arg5.view (Rect.unit (s := S1024x2816) ![0, 256] S1024x256.size inb_S1024x2816_S1024x256_0_256).toLoadRect (harg5.unread x3)) (View.readAt (Elt Ideal) arg6.view (Rect.unit (s := S1024x2816) ![0, 256] S1024x256.size inb_S1024x2816_S1024x256_0_256).toLoadRect (harg6.unread x4)) (fun j l => rd2 harg5 x3 0 256 _ j l j (col ⟨1, by norm_num⟩ l) (Nat.zero_add _).symm (by show 256 * 1 + l.val = 256 + l.val; omega)) (fun j l => rd2 harg6 x4 0 256 _ j l j (col ⟨1, by norm_num⟩ l) (Nat.zero_add _).symm (by show 256 * 1 + l.val = 256 + l.val; omega)) (View.readAt (Elt Ideal) arg8.view (Rect.unit (s := S8x2816) ![0, 256] S8x256.size inb_S8x2816_S8x256_0_256).toLoadRect (harg8.unread x6)) (fun j l => rd2 harg8 x6 0 256 _ j l j (col ⟨1, by norm_num⟩ l) (Nat.zero_add _).symm (by show 256 * 1 + l.val = 256 + l.val; omega))
    (kernelRun0_B.sl.v92 (F := Ideal) c arg2 harg2 arg4 harg4 arg5 harg5 arg13 harg13 arg14 x0 x2 x3 xs0) (kernelRun0_B.sl.v98 (F := Ideal) c arg2 harg2 arg4 harg4 arg5 harg5 arg13 harg13 arg14 x0 x2 x3 xs0) (fun r l => rd_v92 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v98 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 256] S1x256.size inb_S1x2816_S1x256_0_256).toLoadRect (harg9.unread x7)) (fun j l => rd2 harg9 x7 0 256 _ j l j (col ⟨1, by norm_num⟩ l) (Nat.zero_add _).symm (by show 256 * 1 + l.val = 256 + l.val; omega)) x
theorem ac0 (x : S512x256.Idx) : (k0_pay9 (kernelRun0_B.sl.r_2 (F := Ideal) c arg2 harg2 arg4 harg4 arg5 harg5 x0 x2 x3) (kernelRun0_B.sl.r_3 (F := Ideal) c arg2 harg2 arg4 harg4 arg6 harg6 x0 x2 x4) (View.readAt (Elt Ideal) arg8.view (Rect.unit (s := S8x2816) ![0, 0] S8x256.size inb_S8x2816_S8x256_0_0).toLoadRect (harg8.unread x6)) (kernelRun0_B.sl.v38 (F := Ideal) c arg2 harg2 arg4 harg4 arg5 harg5 arg13 harg13 arg14 x0 x2 x3 xs0) (kernelRun0_B.sl.v44 (F := Ideal) c arg2 harg2 arg4 harg4 arg5 harg5 arg13 harg13 arg14 x0 x2 x3 xs0) (View.readAt (Elt Ideal) arg9.view (Rect.unit (s := S1x2816) ![0, 0] S1x256.size inb_S1x2816_S1x256_0_0).toLoadRect (harg9.unread x7))) x = act (kernelRun0_B.sl.r_1 (F := Ideal) c arg2 harg2 arg4 harg4 x0 x2) x3 x4 x6 x7 xs0 ((Rect.unit (s := S512x2816) ![0, 0] S512x256.size inb_S512x2816_S512x256_0_0).emb x) :=
  putAct ⟨0, by norm_num⟩ 0 rfl inb_S512x2816_S512x256_0_0 (kernelRun0_B.sl.r_1 (F := Ideal) c arg2 harg2 arg4 harg4 x0 x2) rfl (View.readAt (Elt Ideal) arg5.view (Rect.unit (s := S1024x2816) ![0, 0] S1024x256.size inb_S1024x2816_S1024x256_0_0).toLoadRect (harg5.unread x3)) (View.readAt (Elt Ideal) arg6.view (Rect.unit (s := S1024x2816) ![0, 0] S1024x256.size inb_S1024x2816_S1024x256_0_0).toLoadRect (harg6.unread x4)) (fun j l => rd2 harg5 x3 0 0 _ j l j (col ⟨0, by norm_num⟩ l) (Nat.zero_add _).symm (by show 256 * 0 + l.val = 0 + l.val; omega)) (fun j l => rd2 harg6 x4 0 0 _ j l j (col ⟨0, by norm_num⟩ l) (Nat.zero_add _).symm (by show 256 * 0 + l.val = 0 + l.val; omega)) (View.readAt (Elt Ideal) arg8.view (Rect.unit (s := S8x2816) ![0, 0] S8x256.size inb_S8x2816_S8x256_0_0).toLoadRect (harg8.unread x6)) (fun j l => rd2 harg8 x6 0 0 _ j l j (col ⟨0, by norm_num⟩ l) (Nat.zero_add _).symm (by show 256 * 0 + l.val = 0 + l.val; omega))
    (kernelRun0_B.sl.v38 (F := Ideal) c arg2 harg2 arg4 harg4 arg5 harg5 arg13 harg13 arg14 x0 x2 x3 xs0) (kernelRun0_B.sl.v44 (F := Ideal) c arg2 harg2 arg4 harg4 arg5 harg5 arg13 harg13 arg14 x0 x2 x3 xs0) (fun r l => rd_v38 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (fun r l => rd_v44 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 r l) (View.readAt (Elt Ideal) arg9.view (Rect.unit (s := S1x2816) ![0, 0] S1x256.size inb_S1x2816_S1x256_0_0).toLoadRect (harg9.unread x7)) (fun j l => rd2 harg9 x7 0 0 _ j l j (col ⟨0, by norm_num⟩ l) (Nat.zero_add _).symm (by show 256 * 0 + l.val = 0 + l.val; omega)) x
theorem acts : Of (act (kernelRun0_B.sl.r_1 (F := Ideal) c arg2 harg2 arg4 harg4 x0 x2) x3 x4 x6 x7 xs0) (kernelRun0_B.sl.HS2_11 (F := Ideal) c arg2 harg2 arg4 harg4 arg5 harg5 arg6 harg6 arg8 harg8 arg9 harg9 arg13 harg13 arg14 x0 x2 x3 x4 x6 x7 xs0) := by
  unfold kernelRun0_B.sl.HS2_11
  exact Of.cons (fun x => ac10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.cons (fun x => ac0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 x) (Of.nil _)))))))))))

theorem acted : (kernelRun0_B.sl.v614 (F := Ideal) c arg2 harg2 arg4 harg4 arg5 harg5 arg6 harg6 arg8 harg8 arg9 harg9 arg13 harg13 arg14 arg15 x0 x2 x3 x4 x6 x7 xs0 : S512x2816.Idx → EReal) = act (kernelRun0_B.sl.r_1 (F := Ideal) c arg2 harg2 arg4 harg4 x0 x2) x3 x4 x6 x7 xs0 := by
  unfold kernelRun0_B.sl.v614
  rw [View.readCov_eq_canon']
  funext y
  refine ((acts c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0).canon _ (by exact View.cover_of_tiledL (s := S512x2816) _ S512x256.size (by sl_kernel_rfl) _)).trans (congrArg _ (pair_ext ?_ ?_))
  · show 0 + 1 * (y 0).val = (y 0).val; omega
  · show 0 + 1 * (y 1).val = (y 1).val; omega

theorem tails : Of (tail (kernelRun0_B.sl.r_1 (F := Ideal) c arg2 harg2 arg4 harg4 x0 x2) x3 xs0) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0).2.1 := by
  delta kernelRun0_B
  dsimp only
  exact sent_of (kernelRun0_B.sl.v68 (F := Ideal) c arg2 harg2 arg4 harg4 arg5 harg5 arg13 harg13 arg14 x0 x2 x3 xs0) (kernelRun0_B.sl.v122 (F := Ideal) c arg2 harg2 arg4 harg4 arg5 harg5 arg13 harg13 arg14 x0 x2 x3 xs0) (kernelRun0_B.sl.v176 (F := Ideal) c arg2 harg2 arg4 harg4 arg5 harg5 arg13 harg13 arg14 x0 x2 x3 xs0) (kernelRun0_B.sl.v230 (F := Ideal) c arg2 harg2 arg4 harg4 arg5 harg5 arg13 harg13 arg14 x0 x2 x3 xs0) (kernelRun0_B.sl.v284 (F := Ideal) c arg2 harg2 arg4 harg4 arg5 harg5 arg13 harg13 arg14 x0 x2 x3 xs0) (kernelRun0_B.sl.v338 (F := Ideal) c arg2 harg2 arg4 harg4 arg5 harg5 arg13 harg13 arg14 x0 x2 x3 xs0) (kernelRun0_B.sl.v392 (F := Ideal) c arg2 harg2 arg4 harg4 arg5 harg5 arg13 harg13 arg14 x0 x2 x3 xs0) (kernelRun0_B.sl.v446 (F := Ideal) c arg2 harg2 arg4 harg4 arg5 harg5 arg13 harg13 arg14 x0 x2 x3 xs0) (kernelRun0_B.sl.v500 (F := Ideal) c arg2 harg2 arg4 harg4 arg5 harg5 arg13 harg13 arg14 x0 x2 x3 xs0) (kernelRun0_B.sl.v554 (F := Ideal) c arg2 harg2 arg4 harg4 arg5 harg5 arg13 harg13 arg14 x0 x2 x3 xs0) (kernelRun0_B.sl.v608 (F := Ideal) c arg2 harg2 arg4 harg4 arg5 harg5 arg13 harg13 arg14 x0 x2 x3 xs0) (fun e l => rd_v68 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v122 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v176 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v230 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v284 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v338 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v392 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v446 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v500 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v554 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v608 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l)

theorem rows : (kernelRun0_B.sl.r_1 (F := Ideal) c arg2 harg2 arg4 harg4 x0 x2 : S512x1024.Idx → EReal) = norm x0 x2 := by
  unfold kernelRun0_B.sl.r_1
  rw [norm_eq]
  exact congrArg₂ norm (whole2 harg2 x0 _) (whole2 harg4 x2 _)

theorem last : (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 : S1x2x2816.Idx → EReal) = tail (norm x0 x2) x3 xs0 := by
  unfold out0_B_10
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0]
  funext y
  exact (tails c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0).canon y (cover0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 y)

theorem carried : (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 : S1x2x2816.Idx → EReal) = tail (norm x0 x2) x3 xs0 := by
  unfold sout0_B_0
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0]
  funext y
  rw [show (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0).2.2.1 = kept (kernelRun0_B.sl.v68 (F := Ideal) c arg2 harg2 arg4 harg4 arg5 harg5 arg13 harg13 arg14 x0 x2 x3 xs0) (kernelRun0_B.sl.v122 (F := Ideal) c arg2 harg2 arg4 harg4 arg5 harg5 arg13 harg13 arg14 x0 x2 x3 xs0) (kernelRun0_B.sl.v176 (F := Ideal) c arg2 harg2 arg4 harg4 arg5 harg5 arg13 harg13 arg14 x0 x2 x3 xs0) (kernelRun0_B.sl.v230 (F := Ideal) c arg2 harg2 arg4 harg4 arg5 harg5 arg13 harg13 arg14 x0 x2 x3 xs0) (kernelRun0_B.sl.v284 (F := Ideal) c arg2 harg2 arg4 harg4 arg5 harg5 arg13 harg13 arg14 x0 x2 x3 xs0) (kernelRun0_B.sl.v338 (F := Ideal) c arg2 harg2 arg4 harg4 arg5 harg5 arg13 harg13 arg14 x0 x2 x3 xs0) (kernelRun0_B.sl.v392 (F := Ideal) c arg2 harg2 arg4 harg4 arg5 harg5 arg13 harg13 arg14 x0 x2 x3 xs0) (kernelRun0_B.sl.v446 (F := Ideal) c arg2 harg2 arg4 harg4 arg5 harg5 arg13 harg13 arg14 x0 x2 x3 xs0) (kernelRun0_B.sl.v500 (F := Ideal) c arg2 harg2 arg4 harg4 arg5 harg5 arg13 harg13 arg14 x0 x2 x3 xs0) (kernelRun0_B.sl.v554 (F := Ideal) c arg2 harg2 arg4 harg4 arg5 harg5 arg13 harg13 arg14 x0 x2 x3 xs0) (kernelRun0_B.sl.v608 (F := Ideal) c arg2 harg2 arg4 harg4 arg5 harg5 arg13 harg13 arg14 x0 x2 x3 xs0) from rfl]
  exact (kept_of (kernelRun0_B.sl.v68 (F := Ideal) c arg2 harg2 arg4 harg4 arg5 harg5 arg13 harg13 arg14 x0 x2 x3 xs0) (kernelRun0_B.sl.v122 (F := Ideal) c arg2 harg2 arg4 harg4 arg5 harg5 arg13 harg13 arg14 x0 x2 x3 xs0) (kernelRun0_B.sl.v176 (F := Ideal) c arg2 harg2 arg4 harg4 arg5 harg5 arg13 harg13 arg14 x0 x2 x3 xs0) (kernelRun0_B.sl.v230 (F := Ideal) c arg2 harg2 arg4 harg4 arg5 harg5 arg13 harg13 arg14 x0 x2 x3 xs0) (kernelRun0_B.sl.v284 (F := Ideal) c arg2 harg2 arg4 harg4 arg5 harg5 arg13 harg13 arg14 x0 x2 x3 xs0) (kernelRun0_B.sl.v338 (F := Ideal) c arg2 harg2 arg4 harg4 arg5 harg5 arg13 harg13 arg14 x0 x2 x3 xs0) (kernelRun0_B.sl.v392 (F := Ideal) c arg2 harg2 arg4 harg4 arg5 harg5 arg13 harg13 arg14 x0 x2 x3 xs0) (kernelRun0_B.sl.v446 (F := Ideal) c arg2 harg2 arg4 harg4 arg5 harg5 arg13 harg13 arg14 x0 x2 x3 xs0) (kernelRun0_B.sl.v500 (F := Ideal) c arg2 harg2 arg4 harg4 arg5 harg5 arg13 harg13 arg14 x0 x2 x3 xs0) (kernelRun0_B.sl.v554 (F := Ideal) c arg2 harg2 arg4 harg4 arg5 harg5 arg13 harg13 arg14 x0 x2 x3 xs0) (kernelRun0_B.sl.v608 (F := Ideal) c arg2 harg2 arg4 harg4 arg5 harg5 arg13 harg13 arg14 x0 x2 x3 xs0) (fun e l => rd_v68 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v122 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v176 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v230 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v284 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v338 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v392 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v446 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v500 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v554 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l) (fun e l => rd_v608 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 e l)).canon y (kept_cover (kernelRun0_B.sl.v68 (F := Ideal) c arg2 harg2 arg4 harg4 arg5 harg5 arg13 harg13 arg14 x0 x2 x3 xs0) (kernelRun0_B.sl.v122 (F := Ideal) c arg2 harg2 arg4 harg4 arg5 harg5 arg13 harg13 arg14 x0 x2 x3 xs0) (kernelRun0_B.sl.v176 (F := Ideal) c arg2 harg2 arg4 harg4 arg5 harg5 arg13 harg13 arg14 x0 x2 x3 xs0) (kernelRun0_B.sl.v230 (F := Ideal) c arg2 harg2 arg4 harg4 arg5 harg5 arg13 harg13 arg14 x0 x2 x3 xs0) (kernelRun0_B.sl.v284 (F := Ideal) c arg2 harg2 arg4 harg4 arg5 harg5 arg13 harg13 arg14 x0 x2 x3 xs0) (kernelRun0_B.sl.v338 (F := Ideal) c arg2 harg2 arg4 harg4 arg5 harg5 arg13 harg13 arg14 x0 x2 x3 xs0) (kernelRun0_B.sl.v392 (F := Ideal) c arg2 harg2 arg4 harg4 arg5 harg5 arg13 harg13 arg14 x0 x2 x3 xs0) (kernelRun0_B.sl.v446 (F := Ideal) c arg2 harg2 arg4 harg4 arg5 harg5 arg13 harg13 arg14 x0 x2 x3 xs0) (kernelRun0_B.sl.v500 (F := Ideal) c arg2 harg2 arg4 harg4 arg5 harg5 arg13 harg13 arg14 x0 x2 x3 xs0) (kernelRun0_B.sl.v554 (F := Ideal) c arg2 harg2 arg4 harg4 arg5 harg5 arg13 harg13 arg14 x0 x2 x3 xs0) (kernelRun0_B.sl.v608 (F := Ideal) c arg2 harg2 arg4 harg4 arg5 harg5 arg13 harg13 arg14 x0 x2 x3 xs0) y)

theorem made : (out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 : S512x1024.Idx → EReal) = block x0 x8 (act (norm x0 x2) x3 x4 x6 x7 xs0) x5 := by
  unfold out0_B_9
  rw [View.read_writes_junk_eq_canon, ← rows c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0, ← acted c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0]
  delta kernelRun0_B
  dsimp only
  rw [View.canon_unit_zero (by decide +kernel)]
  refine (block_eq _ _ _ _).trans ?_
  unfold kernelRun0_B.sl.r kernelRun0_B.sl.r_42
  rw [same_rows, same_down, whole2 harg2 x0, whole2 harg7 x5, whole2 harg10 x8]

end Cert.Kernel3Ideal.Ffn.Next

end
-- ==== Proof.Ffn.Result.lean ====
/- What the call leaves: block after block, the carried rows being the gate's last two of the block before. -/
module

public import proofs.«01_k».proof.Proof.Ffn.Windows
public import proofs.«01_k».proof.Proof.Ffn.First
public import proofs.«01_k».proof.Proof.Ffn.Next

@[expose] public section

set_option maxRecDepth 16384

noncomputable section

namespace Cert.Kernel3Ideal.Ffn

open Cert.Kernel3Ideal Cert.Kernel3Ideal.Gen
open Idealize Idealize.ShloMosaic
open Idealize.ShloMosaic.TcCoe

variable (m : (ℓ : Loc nD τ sig) → Buf (Elt Ideal) ℓ) (c : Dev nD)

/-- The layer's row, off the arguments, -/
def layerOf (b : Fin 8) (p : Fin 2048) (d : Fin 1024) : EReal :=
  layer (m ((c : Thread nD τ).loc main_arg0) : S8x2048x1024.Idx → EReal) (m ((c : Thread nD τ).loc main_arg1) : S1024.Idx → EReal)
      (m ((c : Thread nD τ).loc main_arg2) : S1024x2816.Idx → EReal) (m ((c : Thread nD τ).loc main_arg3) : S1024x2816.Idx → EReal) (m ((c : Thread nD τ).loc main_arg4) : S3x2816.Idx → EReal)
      (m ((c : Thread nD τ).loc main_arg5) : S2816.Idx → EReal) (m ((c : Thread nD τ).loc main_arg6) : S2816x1024.Idx → EReal) (m ((c : Thread nD τ).loc main_arg7) : S1024.Idx → EReal) b p d
/-- and the gate's. -/
def gateOf (b : Fin 8) (n : ℕ) (q : Fin 2816) : EReal :=
  gate (m ((c : Thread nD τ).loc main_arg0) : S8x2048x1024.Idx → EReal) (m ((c : Thread nD τ).loc main_arg1) : S1024.Idx → EReal)
      (m ((c : Thread nD τ).loc main_arg2) : S1024x2816.Idx → EReal) b n q

/-- What a point leaves in its three buffers. -/
def Left (t : ℕ) (ht : t < cfg0.N) : Prop :=
  ∀ b : Fin 8, b.val = t / 4 →
    (∀ (y : S512x1024.Idx) (p : Fin 2048), p.val = 512 * (t % 4) + (y 0).val → ((outsAt0 m c t ht).1 : S512x1024.Idx → EReal) y = layerOf m c b p (y 1))
    ∧ (∀ y : S1x2x2816.Idx, ((outsAt0 m c t ht).2.1 : S1x2x2816.Idx → EReal) y = gateOf m c b (512 * (t % 4) + 512 + (y 1).val) (y 2))
    ∧ ∀ y : S1x2x2816.Idx, ((outsAt0 m c t ht).2.2 : S1x2x2816.Idx → EReal) y = gateOf m c b (512 * (t % 4) + 512 + (y 1).val) (y 2)

theorem left_first (t : Fin cfg0.N) (h0 : t.val % 4 = 0) : Left m c t.val t.isLt := by
  intro b hb
  have e := outsAt0_A m c t h0
  have e1 := congrArg Prod.fst e
  have e2 := congrArg (fun z => z.2.1) e
  have e3 := congrArg (fun z => z.2.2) e
  clear e
  dsimp only at e1 e2 e3
  have hh : ∀ (e : Fin 2) (q : Fin 2816), (iblk m c (1 : Fin 11) t : S1x2x2816.Idx → EReal) (ix3 (n0 := 1) (n1 := 2) (n2 := 2816) 0 e q)
      = gate (m ((c : Thread nD τ).loc main_arg0) : S8x2048x1024.Idx → EReal) (m ((c : Thread nD τ).loc main_arg1) : S1024.Idx → EReal)
      (m ((c : Thread nD τ).loc main_arg2) : S1024x2816.Idx → EReal) b (512 * (t.val % 4) + e.val) q := fun e q =>
    (blk1 m c t _).trans (gate_lt _ _ _ b _ q (by have := e.isLt; omega)).symm
  refine ⟨fun y p hp => ?_, fun y => ?_, fun y => ?_⟩
  · refine (congrFun (e1.trans (First.made ..)) y).trans ?_
    rw [blk3, blk4, blk5]
    exact block_row (Nat.mod_lt _ (by norm_num)) (fun r p j hp => blk0 m c t b hb r p j hp) (blk2 m c t) hh (fun k k' q hk => blk6 m c t k k' q hk) (blk7 m c t) (blk8 m c t) y p hp
  · refine (congrFun (e2.trans (First.last ..)) y).trans ?_
    rw [blk3]
    exact tail_row (Nat.mod_lt _ (by norm_num)) (fun r p j hp => blk0 m c t b hb r p j hp) (blk2 m c t) hh y
  · refine (congrFun (e3.trans (First.carried ..)) y).trans ?_
    rw [blk3]
    exact tail_row (Nat.mod_lt _ (by norm_num)) (fun r p j hp => blk0 m c t b hb r p j hp) (blk2 m c t) hh y

theorem left_next (t : Fin cfg0.N) (h0 : ¬t.val % 4 = 0) (ih : Left m c (t.val - 1) (lt_of_le_of_lt (Nat.sub_le _ _) t.isLt)) : Left m c t.val t.isLt := by
  intro b hb
  have e := outsAt0_B m c t h0
  have e1 := congrArg Prod.fst e
  have e2 := congrArg (fun z => z.2.1) e
  have e3 := congrArg (fun z => z.2.2) e
  clear e
  dsimp only at e1 e2 e3
  have hh : ∀ (e : Fin 2) (q : Fin 2816), ((outsAt0 m c (t.val - 1) (lt_of_le_of_lt (Nat.sub_le _ _) t.isLt)).2.2 : S1x2x2816.Idx → EReal) (ix3 (n0 := 1) (n1 := 2) (n2 := 2816) 0 e q)
      = gate (m ((c : Thread nD τ).loc main_arg0) : S8x2048x1024.Idx → EReal) (m ((c : Thread nD τ).loc main_arg1) : S1024.Idx → EReal)
      (m ((c : Thread nD τ).loc main_arg2) : S1024x2816.Idx → EReal) b (512 * (t.val % 4) + e.val) q := fun e q => by
    refine ((ih b (by omega)).2.2 _).trans ?_
    show gateOf m c b (512 * ((t.val - 1) % 4) + 512 + e.val) q = gateOf m c b (512 * (t.val % 4) + e.val) q
    congr 1
    omega
  refine ⟨fun y p hp => ?_, fun y => ?_, fun y => ?_⟩
  · refine (congrFun (e1.trans (Next.made ..)) y).trans ?_
    rw [blk3, blk4, blk5]
    exact block_row (Nat.mod_lt _ (by norm_num)) (fun r p j hp => blk0 m c t b hb r p j hp) (blk2 m c t) hh (fun k k' q hk => blk6 m c t k k' q hk) (blk7 m c t) (blk8 m c t) y p hp
  · refine (congrFun (e2.trans (Next.last ..)) y).trans ?_
    rw [blk3]
    exact tail_row (Nat.mod_lt _ (by norm_num)) (fun r p j hp => blk0 m c t b hb r p j hp) (blk2 m c t) hh y
  · refine (congrFun (e3.trans (Next.carried ..)) y).trans ?_
    rw [blk3]
    exact tail_row (Nat.mod_lt _ (by norm_num)) (fun r p j hp => blk0 m c t b hb r p j hp) (blk2 m c t) hh y

theorem left (t : ℕ) (ht : t < cfg0.N) : Left m c t ht := by
  induction t using Nat.strong_induction_on with
  | _ t ih =>
    by_cases h0 : t % 4 = 0
    · exact left_first m c ⟨t, ht⟩ h0
    · exact left_next m c ⟨t, ht⟩ h0 (ih (t - 1) (by omega) _)

theorem array9 : (dats m 0 c).arrAt 9 cfg0.N = result (m ((c : Thread nD τ).loc main_arg0) : S8x2048x1024.Idx → EReal) (m ((c : Thread nD τ).loc main_arg1) : S1024.Idx → EReal)
    (m ((c : Thread nD τ).loc main_arg2) : S1024x2816.Idx → EReal) (m ((c : Thread nD τ).loc main_arg3) : S1024x2816.Idx → EReal) (m ((c : Thread nD τ).loc main_arg4) : S3x2816.Idx → EReal)
    (m ((c : Thread nD τ).loc main_arg5) : S2816.Idx → EReal) (m ((c : Thread nD τ).loc main_arg6) : S2816x1024.Idx → EReal) (m ((c : Thread nD τ).loc main_arg7) : S1024.Idx → EReal) := by
  refine (dats m 0 c).arrAt_eq_of_covers (9 : Fin 11) _ (by decide +kernel) fun t hf y => ?_
  have ht := lt32 t
  have hy0 : (y 0).val < 512 := (y 0).isLt
  rw [show ((cfg0.win (9 : Fin 11)).blk t).view.emb y = ix2 (n0 := 16384) (n1 := 1024) ⟨512 * t.val + (y 0).val, by omega⟩ (y 1) from emb9 t y _ rfl]
  refine (congrFun (after0_9 m c t) y).trans ?_
  refine ((left m c t.val t.isLt ⟨t.val / 4, by omega⟩ rfl).1 y ⟨512 * (t.val % 4) + (y 0).val, by omega⟩ rfl).trans ?_
  unfold result layerOf
  congr 1
  · exact Fin.ext (by show t.val / 4 = (512 * t.val + (y 0).val) / 2048; omega)
  · exact Fin.ext (by show 512 * (t.val % 4) + (y 0).val = (512 * t.val + (y 0).val) % 2048; omega)

theorem array10 : (dats m 0 c).arrAt 10 cfg0.N = ends (m ((c : Thread nD τ).loc main_arg0) : S8x2048x1024.Idx → EReal) (m ((c : Thread nD τ).loc main_arg1) : S1024.Idx → EReal)
    (m ((c : Thread nD τ).loc main_arg2) : S1024x2816.Idx → EReal) := by
  refine (dats m 0 c).arrAt_eq_of_covers (10 : Fin 11) _ (by decide +kernel) fun t hf y => ?_
  have ht := lt32 t
  have h3 : t.val % 4 = 3 := (by decide +kernel : ∀ t : Fin grid0.N, win0_10.flush t = true → t.val % 4 = 3) t hf
  rw [show ((cfg0.win (10 : Fin 11)).blk t).view.emb y = ix3 (n0 := 8) (n1 := 2) (n2 := 2816) ⟨t.val / 4, by omega⟩ (y 1) (y 2) from emb10 t y _ rfl]
  refine (congrFun (after0_10 m c t) y).trans ?_
  refine ((left m c t.val t.isLt ⟨t.val / 4, by omega⟩ rfl).2.1 y).trans ?_
  rw [h3]
  rfl

end Cert.Kernel3Ideal.Ffn

end
-- ==== Proof.Ffn.Plain.lean ====
/- The plain feed-forward part, operation by operation, is the closed form. -/
module

public import proofs.«01_k».proof.Proof.Ffn.Layer
public import proofs.«01_k».proof.Proof.Gen.Reference3Ideal.Run

@[expose] public section

set_option maxRecDepth 16384

noncomputable section

namespace Cert.Reference3Ideal.Ffn

open Cert.Reference3Ideal Cert.Reference3Ideal.Gen
open Idealize Idealize.ShloMosaic Idealize.SL.Sem
open Idealize.ShloMosaic.TcCoe
open Cert.Kernel3Ideal.Ffn (pair_ext trip_ext scale row gate mixed active lower layer result ends gate_lt gate_add)

def normP (X : S8x2048x1024.Idx → EReal) (g : S1024.Idx → EReal) : S8x2048x1024.Idx → EReal :=
  (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 g)))
def gateP (X : S8x2048x1024.Idx → EReal) (g : S1024.Idx → EReal) (wg : S1024x2816.Idx → EReal) : S8x2048x2816.Idx → EReal :=
  (Host.dotGeneral (F := Ideal) (φ₁ := .f32) (φ₂ := .f32) dot_S8x2048x1024_S1024x2816_S8x2048x2816_2_0_01_1_n_n none (normP X g) wg)
def padP (X : S8x2048x1024.Idx → EReal) (g : S1024.Idx → EReal) (wg : S1024x2816.Idx → EReal) : S8x2050x2816.Idx → EReal :=
  (concatenate S8x2050x2816 1 [⟨S8x2x2816, (broadcastInDim S8x2x2816 ![] bcast_S_S8x2x2816 (constant (F := Ideal) S_ .f32 0x00000000#32))⟩, ⟨S8x2048x2816, (gateP X g wg)⟩] concatenates_S8x2x2816_S8x2048x2816_S8x2050x2816_d1)
def convP (X : S8x2048x1024.Idx → EReal) (g : S1024.Idx → EReal) (wg : S1024x2816.Idx → EReal) (cw : S3x2816.Idx → EReal) (cb : S2816.Idx → EReal) : S8x2048x2816.Idx → EReal :=
  (addf (broadcastInDim S8x2048x2816 ![0, 1, 2] bcast_S1x1x2816_S8x2048x2816_0_1_2 (broadcastInDim S1x1x2816 ![2] bcast_S2816_S1x1x2816_2 cb)) (addf (addf (addf (broadcastInDim S8x2048x2816 ![] bcast_S_S8x2048x2816 (constant (F := Ideal) S_ .f32 0x00000000#32)) (mulf (broadcastInDim S8x2048x2816 ![0, 1, 2] bcast_S1x1x2816_S8x2048x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S8x2048x2816 ![0, 0, 0] (padP X g wg) slices_S8x2050x2816_S8x2048x2816_0_0_0))) (mulf (broadcastInDim S8x2048x2816 ![0, 1, 2] bcast_S1x1x2816_S8x2048x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S8x2048x2816 ![0, 1, 0] (padP X g wg) slices_S8x2050x2816_S8x2048x2816_0_1_0))) (mulf (broadcastInDim S8x2048x2816 ![0, 1, 2] bcast_S1x1x2816_S8x2048x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S8x2048x2816 ![0, 2, 0] (padP X g wg) slices_S8x2050x2816_S8x2048x2816_0_2_0))))
def actP (X : S8x2048x1024.Idx → EReal) (g : S1024.Idx → EReal) (wg : S1024x2816.Idx → EReal) (wu : S1024x2816.Idx → EReal) (cw : S3x2816.Idx → EReal) (cb : S2816.Idx → EReal) : S8x2048x2816.Idx → EReal :=
  (mulf (mulf (convP X g wg cw cb) (Host.divf (broadcastInDim S8x2048x2816 ![] bcast_S_S8x2048x2816 (constant (F := Ideal) S_ .f32 0x3F800000#32)) (addf (broadcastInDim S8x2048x2816 ![] bcast_S_S8x2048x2816 (constant (F := Ideal) S_ .f32 0x3F800000#32)) (Host.exp (Host.negf (convP X g wg cw cb)))))) (Host.dotGeneral (F := Ideal) (φ₁ := .f32) (φ₂ := .f32) dot_S8x2048x1024_S1024x2816_S8x2048x2816_2_0_01_1_n_n none (normP X g) wu))
def downP (X : S8x2048x1024.Idx → EReal) (g : S1024.Idx → EReal) (wg : S1024x2816.Idx → EReal) (wu : S1024x2816.Idx → EReal) (cw : S3x2816.Idx → EReal) (cb : S2816.Idx → EReal) (wd : S2816x1024.Idx → EReal) : S8x2048x1024.Idx → EReal :=
  (Host.dotGeneral (F := Ideal) (φ₁ := .f32) (φ₂ := .f32) dot_S8x2048x2816_S2816x1024_S8x2048x1024_2_0_01_1_n_n none (actP X g wg wu cw cb) wd)
def wholeP (X : S8x2048x1024.Idx → EReal) (g : S1024.Idx → EReal) (wg : S1024x2816.Idx → EReal) (wu : S1024x2816.Idx → EReal) (cw : S3x2816.Idx → EReal) (cb : S2816.Idx → EReal) (wd : S2816x1024.Idx → EReal) (g2 : S1024.Idx → EReal) : S16384x1024.Idx → EReal :=
  shapeCast S16384x1024 (addf X (mulf (mulf (downP X g wg wu cw cb wd) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (downP X g wg wu cw cb wd) (downP X g wg wu cw cb wd)) (constant (F := Ideal) S_ .f32 0x00000000#32) reducesTo_S8x2048x1024_S8x2048_d2 h_S_)) (broadcastInDim S8x2048x1 ![] bcast_S_S8x2048x1 (constant (F := Ideal) S_ .f32 0x44800000#32))) (broadcastInDim S8x2048x1 ![] bcast_S_S8x2048x1 (constant (F := Ideal) S_ .f32 0x358637BD#32)))))) (broadcastInDim S8x2048x1024 ![0, 1, 2] bcast_S1x1x1024_S8x2048x1024_0_1_2 (broadcastInDim S1x1x1024 ![2] bcast_S1024_S1x1x1024_2 g2)))) shapeCasts_S8x2048x1024_S16384x1024
def endsP (X : S8x2048x1024.Idx → EReal) (g : S1024.Idx → EReal) (wg : S1024x2816.Idx → EReal) : S8x2x2816.Idx → EReal :=
  extractStridedSlice S8x2x2816 ![0, 2048, 0] (padP X g wg) slices_S8x2050x2816_S8x2x2816_0_2048_0

variable (X : S8x2048x1024.Idx → EReal) (g : S1024.Idx → EReal) (wg : S1024x2816.Idx → EReal) (wu : S1024x2816.Idx → EReal) (cw : S3x2816.Idx → EReal) (cb : S2816.Idx → EReal) (wd : S2816x1024.Idx → EReal) (g2 : S1024.Idx → EReal)

theorem normP_at (b : Fin 8) (p : Fin 2048) (j : Fin 1024) : normP X g (ix3 (n0 := 8) (n1 := 2048) (n2 := 1024) b p j) = row X g b p j := by
  pointwise [normP]
  unfold row scale
  rfl
theorem gateP_at (b : Fin 8) (p : Fin 2048) (q : Fin 2816) : gateP X g wg (ix3 (n0 := 8) (n1 := 2048) (n2 := 2816) b p q) = ∑ j : Fin 1024, row X g b p j * wg (ix2 (n0 := 1024) (n1 := 2816) j q) := by
  pointwise [gateP]
  exact Finset.sum_congr rfl fun j _ => congrArg (· * _) (normP_at X g b p j)
theorem padP_at (b : Fin 8) (n : Fin 2050) (q : Fin 2816) : padP X g wg (ix3 (n0 := 8) (n1 := 2050) (n2 := 2816) b n q) = gate X g wg b n.val q := by
  pointwise [padP]
  by_cases h : n.val < 2
  · rw [dif_pos h, gate_lt X g wg b _ q h]
  · rw [dif_neg h, gateP_at]
    exact (gate_add X g wg b _ _ (by show n.val = n.val - 2 + 2; omega) q).symm
theorem endsP_eq : endsP X g wg = ends X g wg := by
  funext y
  obtain ⟨b, e, q, rfl⟩ : ∃ (b : Fin 8) (e : Fin 2) (q : Fin 2816), y = ix3 (n0 := 8) (n1 := 2) (n2 := 2816) b e q := ⟨y 0, y 1, y 2, trip_ext rfl rfl rfl⟩
  pointwise [endsP]
  exact (padP_at X g wg b _ q)
theorem convP_at (b : Fin 8) (p : Fin 2048) (q : Fin 2816) : convP X g wg cw cb (ix3 (n0 := 8) (n1 := 2048) (n2 := 2816) b p q) = mixed X g wg cw cb b p q := by
  pointwise [convP]
  simp only [padP_at]
  unfold mixed
  rw [Nat.add_comm 1 p.val, Nat.add_comm 2 p.val]
theorem actP_at (b : Fin 8) (p : Fin 2048) (q : Fin 2816) : actP X g wg wu cw cb (ix3 (n0 := 8) (n1 := 2048) (n2 := 2816) b p q) = active X g wg wu cw cb b p q := by
  pointwise [actP]
  simp only [convP_at, normP_at]
  unfold active Ideal.logistic
  rfl
theorem downP_at (b : Fin 8) (p : Fin 2048) (d : Fin 1024) : downP X g wg wu cw cb wd (ix3 (n0 := 8) (n1 := 2048) (n2 := 1024) b p d) = lower X g wg wu cw cb wd b p d := by
  pointwise [downP]
  exact Finset.sum_congr rfl fun q _ => congrArg (· * _) (actP_at X g wg wu cw cb b p q)
theorem wholeP_eq : wholeP X g wg wu cw cb wd g2 = result X g wg wu cw cb wd g2 := by
  funext y
  obtain ⟨r, d, rfl⟩ : ∃ (r : Fin 16384) (d : Fin 1024), y = ix2 (n0 := 16384) (n1 := 1024) r d := ⟨y 0, y 1, pair_ext rfl rfl⟩
  pointwise [wholeP]
  simp only [downP_at]
  unfold result layer scale
  rfl

end Cert.Reference3Ideal.Ffn

end
-- ==== Proof.Ffn.Same.lean ====
/- The plain feed-forward part is the call's two arrays. -/
module

public import proofs.«01_k».proof.Defs
public import proofs.«01_k».proof.Proof.Ffn.Result
public import proofs.«01_k».proof.Proof.Ffn.Plain
public import proofs.«01_k».proof.Proof.Gen.Kernel3Ideal.Value

@[expose] public section

set_option maxRecDepth 16384

noncomputable section

namespace Cert.Reference3Ideal.Ffn

open Cert.Reference3Ideal Cert.Reference3Ideal.Gen
open Idealize Idealize.ShloMosaic Idealize.SL.Sem
open Idealize.ShloMosaic.TcCoe
open Cert.Kernel3Ideal.Ffn (array9 array10)

/-- Both end with the same two arrays. -/
theorem same : Cert.algebraic_Kernel3Ideal_Reference3Ideal := by
  intro m g m' g' hpre hag
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N,
    Cert.Kernel3Ideal.Value.run_blocks m g, ?_⟩
  refine (θ_run (Cert.Reference3Ideal.defs (F := Ideal)) _ _).mono (fun r h => ?_) (Cert.Reference3Ideal.Value.run (F := Ideal) m' g')
  intro c
  obtain ⟨a0, a1, a2, a3, a4, a5, a6, a7⟩ := hag c
  refine ⟨?_, ?_, (h c).2.2⟩
  · refine (h c).1.trans ((wholeP_eq _ _ _ _ _ _ _ _).trans ?_)
    rw [a0, a1, a2, a3, a4, a5, a6, a7]
    exact (array9 m c).symm
  · refine (h c).2.1.trans ((endsP_eq _ _ _).trans ?_)
    rw [a0, a1, a2]
    exact (array10 m c).symm

end Cert.Reference3Ideal.Ffn

end
-- ==== Proof.lean ====
/- Three calls, each with its plain counterpart: the attention, the memory's keys and values, and the feed-forward part. All run and
   leave their arguments, the two named constants of the attention are the words they replace, and each call ends with the arrays of
   its counterpart, the attention over finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.AttnBits.Launch
public import proofs.«01_k».proof.Proof.AttnIdeal.Launch
public import proofs.«01_k».proof.Proof.Plain.Value
public import proofs.«01_k».proof.Proof.Plain.Finite
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Mem.Value
public import proofs.«01_k».proof.Proof.Ffn.Same
public import Idealize.ShloMosaic.Adequacy
public import Idealize.ShloMosaic.Init

@[expose] public section

noncomputable section

namespace Cert.Proof

open Idealize.ShloMosaic Idealize.SL.Sem

/-- The reference declares no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2, sem_eq_zero_of_no_sems (by decide) r.2⟩)
    (Cert.ReferenceIdeal.Value.run (F := Ideal) m g)

theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run (Cert.Reference2Ideal.defs (F := Ideal)) _ _).mono (fun r h => ⟨fun c => (h c).2.2, sem_eq_zero_of_no_sems (by decide) r.2⟩)
    (Cert.Reference2Ideal.Value.run (F := Ideal) m g)

theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run (Cert.Reference3Ideal.defs (F := Ideal)) _ _).mono (fun r h => ⟨fun c => (h c).2.2, sem_eq_zero_of_no_sems (by decide) r.2⟩)
    (Cert.Reference3Ideal.Value.run (F := Ideal) m g)

open Cert.KernelIdeal.Attn (rq rv result) in
/-- Over finite arguments the kernel and the plain attention end with the same array. -/
theorem same : Cert.algebraic_KernelIdeal_ReferenceIdeal_pre_finite (hPre_finite := Cert.Pre_finite.Attn.facts) := by
  intro m g m' g' hpre hag
  have hr := fun c => Cert.Pre_finite.Attn.reals (hpre c)
  refine ⟨fun c => result (rq (m ((c.tc : Thread Cert.KernelIdeal.nD Cert.KernelIdeal.τ).loc Cert.KernelIdeal.main_arg0)))
    (rq (m ((c.tc : Thread Cert.KernelIdeal.nD Cert.KernelIdeal.τ).loc Cert.KernelIdeal.main_arg1)))
    (rv (m ((c.tc : Thread Cert.KernelIdeal.nD Cert.KernelIdeal.τ).loc Cert.KernelIdeal.main_arg2))), ?_, ?_⟩
  · refine (θ_run (Cert.KernelIdeal.defs (F := Ideal)) _ _).mono (fun r h => ?_) (Cert.KernelIdeal.Attn.run m g)
    intro c
    refine ⟨?_, (h.1 c).2⟩
    exact ((h.1 c).1 (3 : Fin 4)).trans
      (Cert.KernelIdeal.Attn.result_array (m := Cert.KernelIdeal.Attn.mid m) g (Cert.KernelIdeal.Attn.slots_mid m c (hr c).1 (hr c).2.1 (hr c).2.2))
  · refine (θ_run (Cert.ReferenceIdeal.defs (F := Ideal)) _ _).mono (fun r h => ?_) (Cert.ReferenceIdeal.Value.run (F := Ideal) m' g')
    intro c
    refine ⟨?_, (h c).2⟩
    refine (h c).1.trans ((Cert.ReferenceIdeal.Attn.res_eq m' c).trans ?_)
    rw [(hag c).1, (hag c).2.1, (hag c).2.2]
    exact Cert.ReferenceIdeal.Attn.out_eq _ _ _ (hr c).1 (hr c).2.1 (hr c).2.2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Attn.facts,
  fun m g _ => Cert.Kernel.Attn.frame m g,
  fun m g _ => Cert.KernelIdeal.Attn.frame m g,
  fun m g _ => Cert.KernelIdeal.Attn.frame m g,
  fun m g _ => reference_frame m g,
  fun m g _ => reference_frame m g,
  fun m g _ => Cert.Kernel2.Gen.frame m g,
  fun m g _ => Cert.Kernel2Ideal.Gen.frame m g,
  fun m g _ => reference2_frame m g,
  fun m g _ => Cert.Kernel3.Gen.frame m g,
  fun m g _ => Cert.Kernel3Ideal.Gen.frame m g,
  fun m g _ => reference3_frame m g,
  ⟨IdealRules.named_const.statement Cert.KernelIdeal.κ "mask" .f32 0xF149F2CA#32 ⊥ rfl,
  IdealRules.named_const.statement Cert.KernelIdeal.κ "q_scale" .f32 0x3E16C740#32 (((3424635 / 33554432) * (Real.log 2)⁻¹ : ℝ) : EReal) rfl⟩,
  same,
  trivial,
  Cert.Reference2Ideal.Mem.same,
  trivial,
  Cert.Reference3Ideal.Ffn.same⟩

end Cert.Proof

end
